-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvReferenceIdeal (m : (ℓ : Loc Cert.MemkvReferenceIdeal.nD Cert.MemkvReferenceIdeal.τ Cert.MemkvReferenceIdeal.sig) → Buf (Elt Ideal) ℓ) : Prop :=
  True

def Pre_Gmm [hPre_tables_in_range : Cert.Pre_tables_in_range.Facts] (m : (ℓ : Loc Cert.Gmm.nD Cert.Gmm.τ Cert.Gmm.sig) → Buf (Elt Bits) ℓ) : Prop :=
  ∀ c : Dev Cert.Gmm.nD,
    (Cert.Pre_tables_in_range.fn (F := Bits) (m ((c.tc : Thread Cert.Gmm.nD Cert.Gmm.τ).loc Cert.Gmm.main_arg0)) (m ((c.tc : Thread Cert.Gmm.nD Cert.Gmm.τ).loc Cert.Gmm.main_arg1)) (m ((c.tc : Thread Cert.Gmm.nD Cert.Gmm.τ).loc Cert.Gmm.main_arg2)) (m ((c.tc : Thread Cert.Gmm.nD Cert.Gmm.τ).loc Cert.Gmm.main_arg3)) (m ((c.tc : Thread Cert.Gmm.nD Cert.Gmm.τ).loc Cert.Gmm.main_arg4)) (m ((c.tc : Thread Cert.Gmm.nD Cert.Gmm.τ).loc Cert.Gmm.main_arg5)) (m ((c.tc : Thread Cert.Gmm.nD Cert.Gmm.τ).loc Cert.Gmm.main_arg6)) (m ((c.tc : Thread Cert.Gmm.nD Cert.Gmm.τ).loc Cert.Gmm.main_arg7)) (m ((c.tc : Thread Cert.Gmm.nD Cert.Gmm.τ).loc Cert.Gmm.main_arg8))).1 = (fun _ => 1#1)
    ∧ (Cert.Pre_tables_in_range.fn (F := Bits) (m ((c.tc : Thread Cert.Gmm.nD Cert.Gmm.τ).loc Cert.Gmm.main_arg0)) (m ((c.tc : Thread Cert.Gmm.nD Cert.Gmm.τ).loc Cert.Gmm.main_arg1)) (m ((c.tc : Thread Cert.Gmm.nD Cert.Gmm.τ).loc Cert.Gmm.main_arg2)) (m ((c.tc : Thread Cert.Gmm.nD Cert.Gmm.τ).loc Cert.Gmm.main_arg3)) (m ((c.tc : Thread Cert.Gmm.nD Cert.Gmm.τ).loc Cert.Gmm.main_arg4)) (m ((c.tc : Thread Cert.Gmm.nD Cert.Gmm.τ).loc Cert.Gmm.main_arg5)) (m ((c.tc : Thread Cert.Gmm.nD Cert.Gmm.τ).loc Cert.Gmm.main_arg6)) (m ((c.tc : Thread Cert.Gmm.nD Cert.Gmm.τ).loc Cert.Gmm.main_arg7)) (m ((c.tc : Thread Cert.Gmm.nD Cert.Gmm.τ).loc Cert.Gmm.main_arg8))).2.1 = (fun _ => 1#1)
    ∧ (Cert.Pre_tables_in_range.fn (F := Bits) (m ((c.tc : Thread Cert.Gmm.nD Cert.Gmm.τ).loc Cert.Gmm.main_arg0)) (m ((c.tc : Thread Cert.Gmm.nD Cert.Gmm.τ).loc Cert.Gmm.main_arg1)) (m ((c.tc : Thread Cert.Gmm.nD Cert.Gmm.τ).loc Cert.Gmm.main_arg2)) (m ((c.tc : Thread Cert.Gmm.nD Cert.Gmm.τ).loc Cert.Gmm.main_arg3)) (m ((c.tc : Thread Cert.Gmm.nD Cert.Gmm.τ).loc Cert.Gmm.main_arg4)) (m ((c.tc : Thread Cert.Gmm.nD Cert.Gmm.τ).loc Cert.Gmm.main_arg5)) (m ((c.tc : Thread Cert.Gmm.nD Cert.Gmm.τ).loc Cert.Gmm.main_arg6)) (m ((c.tc : Thread Cert.Gmm.nD Cert.Gmm.τ).loc Cert.Gmm.main_arg7)) (m ((c.tc : Thread Cert.Gmm.nD Cert.Gmm.τ).loc Cert.Gmm.main_arg8))).2.2.1 = (fun _ => 1#1)
    ∧ (Cert.Pre_tables_in_range.fn (F := Bits) (m ((c.tc : Thread Cert.Gmm.nD Cert.Gmm.τ).loc Cert.Gmm.main_arg0)) (m ((c.tc : Thread Cert.Gmm.nD Cert.Gmm.τ).loc Cert.Gmm.main_arg1)) (m ((c.tc : Thread Cert.Gmm.nD Cert.Gmm.τ).loc Cert.Gmm.main_arg2)) (m ((c.tc : Thread Cert.Gmm.nD Cert.Gmm.τ).loc Cert.Gmm.main_arg3)) (m ((c.tc : Thread Cert.Gmm.nD Cert.Gmm.τ).loc Cert.Gmm.main_arg4)) (m ((c.tc : Thread Cert.Gmm.nD Cert.Gmm.τ).loc Cert.Gmm.main_arg5)) (m ((c.tc : Thread Cert.Gmm.nD Cert.Gmm.τ).loc Cert.Gmm.main_arg6)) (m ((c.tc : Thread Cert.Gmm.nD Cert.Gmm.τ).loc Cert.Gmm.main_arg7)) (m ((c.tc : Thread Cert.Gmm.nD Cert.Gmm.τ).loc Cert.Gmm.main_arg8))).2.2.2.1 = (fun _ => 1#1)
    ∧ (Cert.Pre_tables_in_range.fn (F := Bits) (m ((c.tc : Thread Cert.Gmm.nD Cert.Gmm.τ).loc Cert.Gmm.main_arg0)) (m ((c.tc : Thread Cert.Gmm.nD Cert.Gmm.τ).loc Cert.Gmm.main_arg1)) (m ((c.tc : Thread Cert.Gmm.nD Cert.Gmm.τ).loc Cert.Gmm.main_arg2)) (m ((c.tc : Thread Cert.Gmm.nD Cert.Gmm.τ).loc Cert.Gmm.main_arg3)) (m ((c.tc : Thread Cert.Gmm.nD Cert.Gmm.τ).loc Cert.Gmm.main_arg4)) (m ((c.tc : Thread Cert.Gmm.nD Cert.Gmm.τ).loc Cert.Gmm.main_arg5)) (m ((c.tc : Thread Cert.Gmm.nD Cert.Gmm.τ).loc Cert.Gmm.main_arg6)) (m ((c.tc : Thread Cert.Gmm.nD Cert.Gmm.τ).loc Cert.Gmm.main_arg7)) (m ((c.tc : Thread Cert.Gmm.nD Cert.Gmm.τ).loc Cert.Gmm.main_arg8))).2.2.2.2.1 = (fun _ => 1#1)
    ∧ (Cert.Pre_tables_in_range.fn (F := Bits) (m ((c.tc : Thread Cert.Gmm.nD Cert.Gmm.τ).loc Cert.Gmm.main_arg0)) (m ((c.tc : Thread Cert.Gmm.nD Cert.Gmm.τ).loc Cert.Gmm.main_arg1)) (m ((c.tc : Thread Cert.Gmm.nD Cert.Gmm.τ).loc Cert.Gmm.main_arg2)) (m ((c.tc : Thread Cert.Gmm.nD Cert.Gmm.τ).loc Cert.Gmm.main_arg3)) (m ((c.tc : Thread Cert.Gmm.nD Cert.Gmm.τ).loc Cert.Gmm.main_arg4)) (m ((c.tc : Thread Cert.Gmm.nD Cert.Gmm.τ).loc Cert.Gmm.main_arg5)) (m ((c.tc : Thread Cert.Gmm.nD Cert.Gmm.τ).loc Cert.Gmm.main_arg6)) (m ((c.tc : Thread Cert.Gmm.nD Cert.Gmm.τ).loc Cert.Gmm.main_arg7)) (m ((c.tc : Thread Cert.Gmm.nD Cert.Gmm.τ).loc Cert.Gmm.main_arg8))).2.2.2.2.2 = (fun _ => 1#1)

def Pre_GmmIdeal [hPre_tables_in_range : Cert.Pre_tables_in_range.Facts] (m : (ℓ : Loc Cert.GmmIdeal.nD Cert.GmmIdeal.τ Cert.GmmIdeal.sig) → Buf (Elt Ideal) ℓ) : Prop :=
  ∀ c : Dev Cert.GmmIdeal.nD,
    (Cert.Pre_tables_in_range.fn (F := Ideal) (m ((c.tc : Thread Cert.GmmIdeal.nD Cert.GmmIdeal.τ).loc Cert.GmmIdeal.main_arg0)) (m ((c.tc : Thread Cert.GmmIdeal.nD Cert.GmmIdeal.τ).loc Cert.GmmIdeal.main_arg1)) (m ((c.tc : Thread Cert.GmmIdeal.nD Cert.GmmIdeal.τ).loc Cert.GmmIdeal.main_arg2)) (m ((c.tc : Thread Cert.GmmIdeal.nD Cert.GmmIdeal.τ).loc Cert.GmmIdeal.main_arg3)) (m ((c.tc : Thread Cert.GmmIdeal.nD Cert.GmmIdeal.τ).loc Cert.GmmIdeal.main_arg4)) (m ((c.tc : Thread Cert.GmmIdeal.nD Cert.GmmIdeal.τ).loc Cert.GmmIdeal.main_arg5)) (m ((c.tc : Thread Cert.GmmIdeal.nD Cert.GmmIdeal.τ).loc Cert.GmmIdeal.main_arg6)) (m ((c.tc : Thread Cert.GmmIdeal.nD Cert.GmmIdeal.τ).loc Cert.GmmIdeal.main_arg7)) (m ((c.tc : Thread Cert.GmmIdeal.nD Cert.GmmIdeal.τ).loc Cert.GmmIdeal.main_arg8))).1 = (fun _ => 1#1)
    ∧ (Cert.Pre_tables_in_range.fn (F := Ideal) (m ((c.tc : Thread Cert.GmmIdeal.nD Cert.GmmIdeal.τ).loc Cert.GmmIdeal.main_arg0)) (m ((c.tc : Thread Cert.GmmIdeal.nD Cert.GmmIdeal.τ).loc Cert.GmmIdeal.main_arg1)) (m ((c.tc : Thread Cert.GmmIdeal.nD Cert.GmmIdeal.τ).loc Cert.GmmIdeal.main_arg2)) (m ((c.tc : Thread Cert.GmmIdeal.nD Cert.GmmIdeal.τ).loc Cert.GmmIdeal.main_arg3)) (m ((c.tc : Thread Cert.GmmIdeal.nD Cert.GmmIdeal.τ).loc Cert.GmmIdeal.main_arg4)) (m ((c.tc : Thread Cert.GmmIdeal.nD Cert.GmmIdeal.τ).loc Cert.GmmIdeal.main_arg5)) (m ((c.tc : Thread Cert.GmmIdeal.nD Cert.GmmIdeal.τ).loc Cert.GmmIdeal.main_arg6)) (m ((c.tc : Thread Cert.GmmIdeal.nD Cert.GmmIdeal.τ).loc Cert.GmmIdeal.main_arg7)) (m ((c.tc : Thread Cert.GmmIdeal.nD Cert.GmmIdeal.τ).loc Cert.GmmIdeal.main_arg8))).2.1 = (fun _ => 1#1)
    ∧ (Cert.Pre_tables_in_range.fn (F := Ideal) (m ((c.tc : Thread Cert.GmmIdeal.nD Cert.GmmIdeal.τ).loc Cert.GmmIdeal.main_arg0)) (m ((c.tc : Thread Cert.GmmIdeal.nD Cert.GmmIdeal.τ).loc Cert.GmmIdeal.main_arg1)) (m ((c.tc : Thread Cert.GmmIdeal.nD Cert.GmmIdeal.τ).loc Cert.GmmIdeal.main_arg2)) (m ((c.tc : Thread Cert.GmmIdeal.nD Cert.GmmIdeal.τ).loc Cert.GmmIdeal.main_arg3)) (m ((c.tc : Thread Cert.GmmIdeal.nD Cert.GmmIdeal.τ).loc Cert.GmmIdeal.main_arg4)) (m ((c.tc : Thread Cert.GmmIdeal.nD Cert.GmmIdeal.τ).loc Cert.GmmIdeal.main_arg5)) (m ((c.tc : Thread Cert.GmmIdeal.nD Cert.GmmIdeal.τ).loc Cert.GmmIdeal.main_arg6)) (m ((c.tc : Thread Cert.GmmIdeal.nD Cert.GmmIdeal.τ).loc Cert.GmmIdeal.main_arg7)) (m ((c.tc : Thread Cert.GmmIdeal.nD Cert.GmmIdeal.τ).loc Cert.GmmIdeal.main_arg8))).2.2.1 = (fun _ => 1#1)
    ∧ (Cert.Pre_tables_in_range.fn (F := Ideal) (m ((c.tc : Thread Cert.GmmIdeal.nD Cert.GmmIdeal.τ).loc Cert.GmmIdeal.main_arg0)) (m ((c.tc : Thread Cert.GmmIdeal.nD Cert.GmmIdeal.τ).loc Cert.GmmIdeal.main_arg1)) (m ((c.tc : Thread Cert.GmmIdeal.nD Cert.GmmIdeal.τ).loc Cert.GmmIdeal.main_arg2)) (m ((c.tc : Thread Cert.GmmIdeal.nD Cert.GmmIdeal.τ).loc Cert.GmmIdeal.main_arg3)) (m ((c.tc : Thread Cert.GmmIdeal.nD Cert.GmmIdeal.τ).loc Cert.GmmIdeal.main_arg4)) (m ((c.tc : Thread Cert.GmmIdeal.nD Cert.GmmIdeal.τ).loc Cert.GmmIdeal.main_arg5)) (m ((c.tc : Thread Cert.GmmIdeal.nD Cert.GmmIdeal.τ).loc Cert.GmmIdeal.main_arg6)) (m ((c.tc : Thread Cert.GmmIdeal.nD Cert.GmmIdeal.τ).loc Cert.GmmIdeal.main_arg7)) (m ((c.tc : Thread Cert.GmmIdeal.nD Cert.GmmIdeal.τ).loc Cert.GmmIdeal.main_arg8))).2.2.2.1 = (fun _ => 1#1)
    ∧ (Cert.Pre_tables_in_range.fn (F := Ideal) (m ((c.tc : Thread Cert.GmmIdeal.nD Cert.GmmIdeal.τ).loc Cert.GmmIdeal.main_arg0)) (m ((c.tc : Thread Cert.GmmIdeal.nD Cert.GmmIdeal.τ).loc Cert.GmmIdeal.main_arg1)) (m ((c.tc : Thread Cert.GmmIdeal.nD Cert.GmmIdeal.τ).loc Cert.GmmIdeal.main_arg2)) (m ((c.tc : Thread Cert.GmmIdeal.nD Cert.GmmIdeal.τ).loc Cert.GmmIdeal.main_arg3)) (m ((c.tc : Thread Cert.GmmIdeal.nD Cert.GmmIdeal.τ).loc Cert.GmmIdeal.main_arg4)) (m ((c.tc : Thread Cert.GmmIdeal.nD Cert.GmmIdeal.τ).loc Cert.GmmIdeal.main_arg5)) (m ((c.tc : Thread Cert.GmmIdeal.nD Cert.GmmIdeal.τ).loc Cert.GmmIdeal.main_arg6)) (m ((c.tc : Thread Cert.GmmIdeal.nD Cert.GmmIdeal.τ).loc Cert.GmmIdeal.main_arg7)) (m ((c.tc : Thread Cert.GmmIdeal.nD Cert.GmmIdeal.τ).loc Cert.GmmIdeal.main_arg8))).2.2.2.2.1 = (fun _ => 1#1)
    ∧ (Cert.Pre_tables_in_range.fn (F := Ideal) (m ((c.tc : Thread Cert.GmmIdeal.nD Cert.GmmIdeal.τ).loc Cert.GmmIdeal.main_arg0)) (m ((c.tc : Thread Cert.GmmIdeal.nD Cert.GmmIdeal.τ).loc Cert.GmmIdeal.main_arg1)) (m ((c.tc : Thread Cert.GmmIdeal.nD Cert.GmmIdeal.τ).loc Cert.GmmIdeal.main_arg2)) (m ((c.tc : Thread Cert.GmmIdeal.nD Cert.GmmIdeal.τ).loc Cert.GmmIdeal.main_arg3)) (m ((c.tc : Thread Cert.GmmIdeal.nD Cert.GmmIdeal.τ).loc Cert.GmmIdeal.main_arg4)) (m ((c.tc : Thread Cert.GmmIdeal.nD Cert.GmmIdeal.τ).loc Cert.GmmIdeal.main_arg5)) (m ((c.tc : Thread Cert.GmmIdeal.nD Cert.GmmIdeal.τ).loc Cert.GmmIdeal.main_arg6)) (m ((c.tc : Thread Cert.GmmIdeal.nD Cert.GmmIdeal.τ).loc Cert.GmmIdeal.main_arg7)) (m ((c.tc : Thread Cert.GmmIdeal.nD Cert.GmmIdeal.τ).loc Cert.GmmIdeal.main_arg8))).2.2.2.2.2 = (fun _ => 1#1)

def Pre_GmmReferenceIdeal (m : (ℓ : Loc Cert.GmmReferenceIdeal.nD Cert.GmmReferenceIdeal.τ Cert.GmmReferenceIdeal.sig) → Buf (Elt Ideal) ℓ) : Prop :=
  True

def Pre_GmmReferenceIdeal_tables_in_range [hPre_tables_in_range : Cert.Pre_tables_in_range.Facts] (m : (ℓ : Loc Cert.GmmReferenceIdeal.nD Cert.GmmReferenceIdeal.τ Cert.GmmReferenceIdeal.sig) → Buf (Elt Ideal) ℓ) : Prop :=
  ∀ c : Dev Cert.GmmReferenceIdeal.nD,
    (Cert.Pre_tables_in_range.fn (F := Ideal) (m ((c.tc : Thread Cert.GmmReferenceIdeal.nD Cert.GmmReferenceIdeal.τ).loc Cert.GmmReferenceIdeal.main_arg0)) (m ((c.tc : Thread Cert.GmmReferenceIdeal.nD Cert.GmmReferenceIdeal.τ).loc Cert.GmmReferenceIdeal.main_arg1)) (m ((c.tc : Thread Cert.GmmReferenceIdeal.nD Cert.GmmReferenceIdeal.τ).loc Cert.GmmReferenceIdeal.main_arg2)) (m ((c.tc : Thread Cert.GmmReferenceIdeal.nD Cert.GmmReferenceIdeal.τ).loc Cert.GmmReferenceIdeal.main_arg3)) (m ((c.tc : Thread Cert.GmmReferenceIdeal.nD Cert.GmmReferenceIdeal.τ).loc Cert.GmmReferenceIdeal.main_arg4)) (m ((c.tc : Thread Cert.GmmReferenceIdeal.nD Cert.GmmReferenceIdeal.τ).loc Cert.GmmReferenceIdeal.main_arg5)) (m ((c.tc : Thread Cert.GmmReferenceIdeal.nD Cert.GmmReferenceIdeal.τ).loc Cert.GmmReferenceIdeal.main_arg6)) (m ((c.tc : Thread Cert.GmmReferenceIdeal.nD Cert.GmmReferenceIdeal.τ).loc Cert.GmmReferenceIdeal.main_arg7)) (m ((c.tc : Thread Cert.GmmReferenceIdeal.nD Cert.GmmReferenceIdeal.τ).loc Cert.GmmReferenceIdeal.main_arg8))).1 = (fun _ => 1#1)
    ∧ (Cert.Pre_tables_in_range.fn (F := Ideal) (m ((c.tc : Thread Cert.GmmReferenceIdeal.nD Cert.GmmReferenceIdeal.τ).loc Cert.GmmReferenceIdeal.main_arg0)) (m ((c.tc : Thread Cert.GmmReferenceIdeal.nD Cert.GmmReferenceIdeal.τ).loc Cert.GmmReferenceIdeal.main_arg1)) (m ((c.tc : Thread Cert.GmmReferenceIdeal.nD Cert.GmmReferenceIdeal.τ).loc Cert.GmmReferenceIdeal.main_arg2)) (m ((c.tc : Thread Cert.GmmReferenceIdeal.nD Cert.GmmReferenceIdeal.τ).loc Cert.GmmReferenceIdeal.main_arg3)) (m ((c.tc : Thread Cert.GmmReferenceIdeal.nD Cert.GmmReferenceIdeal.τ).loc Cert.GmmReferenceIdeal.main_arg4)) (m ((c.tc : Thread Cert.GmmReferenceIdeal.nD Cert.GmmReferenceIdeal.τ).loc Cert.GmmReferenceIdeal.main_arg5)) (m ((c.tc : Thread Cert.GmmReferenceIdeal.nD Cert.GmmReferenceIdeal.τ).loc Cert.GmmReferenceIdeal.main_arg6)) (m ((c.tc : Thread Cert.GmmReferenceIdeal.nD Cert.GmmReferenceIdeal.τ).loc Cert.GmmReferenceIdeal.main_arg7)) (m ((c.tc : Thread Cert.GmmReferenceIdeal.nD Cert.GmmReferenceIdeal.τ).loc Cert.GmmReferenceIdeal.main_arg8))).2.1 = (fun _ => 1#1)
    ∧ (Cert.Pre_tables_in_range.fn (F := Ideal) (m ((c.tc : Thread Cert.GmmReferenceIdeal.nD Cert.GmmReferenceIdeal.τ).loc Cert.GmmReferenceIdeal.main_arg0)) (m ((c.tc : Thread Cert.GmmReferenceIdeal.nD Cert.GmmReferenceIdeal.τ).loc Cert.GmmReferenceIdeal.main_arg1)) (m ((c.tc : Thread Cert.GmmReferenceIdeal.nD Cert.GmmReferenceIdeal.τ).loc Cert.GmmReferenceIdeal.main_arg2)) (m ((c.tc : Thread Cert.GmmReferenceIdeal.nD Cert.GmmReferenceIdeal.τ).loc Cert.GmmReferenceIdeal.main_arg3)) (m ((c.tc : Thread Cert.GmmReferenceIdeal.nD Cert.GmmReferenceIdeal.τ).loc Cert.GmmReferenceIdeal.main_arg4)) (m ((c.tc : Thread Cert.GmmReferenceIdeal.nD Cert.GmmReferenceIdeal.τ).loc Cert.GmmReferenceIdeal.main_arg5)) (m ((c.tc : Thread Cert.GmmReferenceIdeal.nD Cert.GmmReferenceIdeal.τ).loc Cert.GmmReferenceIdeal.main_arg6)) (m ((c.tc : Thread Cert.GmmReferenceIdeal.nD Cert.GmmReferenceIdeal.τ).loc Cert.GmmReferenceIdeal.main_arg7)) (m ((c.tc : Thread Cert.GmmReferenceIdeal.nD Cert.GmmReferenceIdeal.τ).loc Cert.GmmReferenceIdeal.main_arg8))).2.2.1 = (fun _ => 1#1)
    ∧ (Cert.Pre_tables_in_range.fn (F := Ideal) (m ((c.tc : Thread Cert.GmmReferenceIdeal.nD Cert.GmmReferenceIdeal.τ).loc Cert.GmmReferenceIdeal.main_arg0)) (m ((c.tc : Thread Cert.GmmReferenceIdeal.nD Cert.GmmReferenceIdeal.τ).loc Cert.GmmReferenceIdeal.main_arg1)) (m ((c.tc : Thread Cert.GmmReferenceIdeal.nD Cert.GmmReferenceIdeal.τ).loc Cert.GmmReferenceIdeal.main_arg2)) (m ((c.tc : Thread Cert.GmmReferenceIdeal.nD Cert.GmmReferenceIdeal.τ).loc Cert.GmmReferenceIdeal.main_arg3)) (m ((c.tc : Thread Cert.GmmReferenceIdeal.nD Cert.GmmReferenceIdeal.τ).loc Cert.GmmReferenceIdeal.main_arg4)) (m ((c.tc : Thread Cert.GmmReferenceIdeal.nD Cert.GmmReferenceIdeal.τ).loc Cert.GmmReferenceIdeal.main_arg5)) (m ((c.tc : Thread Cert.GmmReferenceIdeal.nD Cert.GmmReferenceIdeal.τ).loc Cert.GmmReferenceIdeal.main_arg6)) (m ((c.tc : Thread Cert.GmmReferenceIdeal.nD Cert.GmmReferenceIdeal.τ).loc Cert.GmmReferenceIdeal.main_arg7)) (m ((c.tc : Thread Cert.GmmReferenceIdeal.nD Cert.GmmReferenceIdeal.τ).loc Cert.GmmReferenceIdeal.main_arg8))).2.2.2.1 = (fun _ => 1#1)
    ∧ (Cert.Pre_tables_in_range.fn (F := Ideal) (m ((c.tc : Thread Cert.GmmReferenceIdeal.nD Cert.GmmReferenceIdeal.τ).loc Cert.GmmReferenceIdeal.main_arg0)) (m ((c.tc : Thread Cert.GmmReferenceIdeal.nD Cert.GmmReferenceIdeal.τ).loc Cert.GmmReferenceIdeal.main_arg1)) (m ((c.tc : Thread Cert.GmmReferenceIdeal.nD Cert.GmmReferenceIdeal.τ).loc Cert.GmmReferenceIdeal.main_arg2)) (m ((c.tc : Thread Cert.GmmReferenceIdeal.nD Cert.GmmReferenceIdeal.τ).loc Cert.GmmReferenceIdeal.main_arg3)) (m ((c.tc : Thread Cert.GmmReferenceIdeal.nD Cert.GmmReferenceIdeal.τ).loc Cert.GmmReferenceIdeal.main_arg4)) (m ((c.tc : Thread Cert.GmmReferenceIdeal.nD Cert.GmmReferenceIdeal.τ).loc Cert.GmmReferenceIdeal.main_arg5)) (m ((c.tc : Thread Cert.GmmReferenceIdeal.nD Cert.GmmReferenceIdeal.τ).loc Cert.GmmReferenceIdeal.main_arg6)) (m ((c.tc : Thread Cert.GmmReferenceIdeal.nD Cert.GmmReferenceIdeal.τ).loc Cert.GmmReferenceIdeal.main_arg7)) (m ((c.tc : Thread Cert.GmmReferenceIdeal.nD Cert.GmmReferenceIdeal.τ).loc Cert.GmmReferenceIdeal.main_arg8))).2.2.2.2.1 = (fun _ => 1#1)
    ∧ (Cert.Pre_tables_in_range.fn (F := Ideal) (m ((c.tc : Thread Cert.GmmReferenceIdeal.nD Cert.GmmReferenceIdeal.τ).loc Cert.GmmReferenceIdeal.main_arg0)) (m ((c.tc : Thread Cert.GmmReferenceIdeal.nD Cert.GmmReferenceIdeal.τ).loc Cert.GmmReferenceIdeal.main_arg1)) (m ((c.tc : Thread Cert.GmmReferenceIdeal.nD Cert.GmmReferenceIdeal.τ).loc Cert.GmmReferenceIdeal.main_arg2)) (m ((c.tc : Thread Cert.GmmReferenceIdeal.nD Cert.GmmReferenceIdeal.τ).loc Cert.GmmReferenceIdeal.main_arg3)) (m ((c.tc : Thread Cert.GmmReferenceIdeal.nD Cert.GmmReferenceIdeal.τ).loc Cert.GmmReferenceIdeal.main_arg4)) (m ((c.tc : Thread Cert.GmmReferenceIdeal.nD Cert.GmmReferenceIdeal.τ).loc Cert.GmmReferenceIdeal.main_arg5)) (m ((c.tc : Thread Cert.GmmReferenceIdeal.nD Cert.GmmReferenceIdeal.τ).loc Cert.GmmReferenceIdeal.main_arg6)) (m ((c.tc : Thread Cert.GmmReferenceIdeal.nD Cert.GmmReferenceIdeal.τ).loc Cert.GmmReferenceIdeal.main_arg7)) (m ((c.tc : Thread Cert.GmmReferenceIdeal.nD Cert.GmmReferenceIdeal.τ).loc Cert.GmmReferenceIdeal.main_arg8))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2)
      ∧ r.2.mem ((c.tc : Thread Cert.Memkv.nD Cert.Memkv.τ).loc Cert.Memkv.main_arg3) = m ((c.tc : Thread Cert.Memkv.nD Cert.Memkv.τ).loc Cert.Memkv.main_arg3))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
      ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ r.2.sem = fun _ => 0)

def quiescent_MemkvReferenceIdeal [hMemkvReferenceIdeal : Cert.MemkvReferenceIdeal.Facts] : Prop :=
  ∀ (m : (ℓ : Loc Cert.MemkvReferenceIdeal.nD Cert.MemkvReferenceIdeal.τ Cert.MemkvReferenceIdeal.sig) → Buf (Elt Ideal) ℓ) (g : Dev Cert.MemkvReferenceIdeal.nD → PrngReg), Pre_MemkvReferenceIdeal m →
    θ_run (Cert.MemkvReferenceIdeal.defs (F := Ideal)) (onTc (τ := Cert.MemkvReferenceIdeal.τ) (Cert.MemkvReferenceIdeal.main (F := Ideal))) ⟨m, fun _ => 0, g⟩ (fun r => (∀ c : Dev Cert.MemkvReferenceIdeal.nD,
      r.2.mem ((c.tc : Thread Cert.MemkvReferenceIdeal.nD Cert.MemkvReferenceIdeal.τ).loc Cert.MemkvReferenceIdeal.main_arg0) = m ((c.tc : Thread Cert.MemkvReferenceIdeal.nD Cert.MemkvReferenceIdeal.τ).loc Cert.MemkvReferenceIdeal.main_arg0)
      ∧ r.2.mem ((c.tc : Thread Cert.MemkvReferenceIdeal.nD Cert.MemkvReferenceIdeal.τ).loc Cert.MemkvReferenceIdeal.main_arg1) = m ((c.tc : Thread Cert.MemkvReferenceIdeal.nD Cert.MemkvReferenceIdeal.τ).loc Cert.MemkvReferenceIdeal.main_arg1)
      ∧ r.2.mem ((c.tc : Thread Cert.MemkvReferenceIdeal.nD Cert.MemkvReferenceIdeal.τ).loc Cert.MemkvReferenceIdeal.main_arg2) = m ((c.tc : Thread Cert.MemkvReferenceIdeal.nD Cert.MemkvReferenceIdeal.τ).loc Cert.MemkvReferenceIdeal.main_arg2)
      ∧ r.2.mem ((c.tc : Thread Cert.MemkvReferenceIdeal.nD Cert.MemkvReferenceIdeal.τ).loc Cert.MemkvReferenceIdeal.main_arg3) = m ((c.tc : Thread Cert.MemkvReferenceIdeal.nD Cert.MemkvReferenceIdeal.τ).loc Cert.MemkvReferenceIdeal.main_arg3))
      ∧ r.2.sem = fun _ => 0)

def quiescent_Gmm [hGmm : Cert.Gmm.Facts] [hPre_tables_in_range : Cert.Pre_tables_in_range.Facts] : Prop :=
  ∀ (m : (ℓ : Loc Cert.Gmm.nD Cert.Gmm.τ Cert.Gmm.sig) → Buf (Elt Bits) ℓ) (g : Dev Cert.Gmm.nD → PrngReg), Pre_Gmm m →
    θ_run (Cert.Gmm.defs (F := Bits)) (onTc (τ := Cert.Gmm.τ) (Cert.Gmm.main (F := Bits))) ⟨m, fun _ => 0, g⟩ (fun r => (∀ c : Dev Cert.Gmm.nD,
      r.2.mem ((c.tc : Thread Cert.Gmm.nD Cert.Gmm.τ).loc Cert.Gmm.main_arg0) = m ((c.tc : Thread Cert.Gmm.nD Cert.Gmm.τ).loc Cert.Gmm.main_arg0)
      ∧ r.2.mem ((c.tc : Thread Cert.Gmm.nD Cert.Gmm.τ).loc Cert.Gmm.main_arg1) = m ((c.tc : Thread Cert.Gmm.nD Cert.Gmm.τ).loc Cert.Gmm.main_arg1)
      ∧ r.2.mem ((c.tc : Thread Cert.Gmm.nD Cert.Gmm.τ).loc Cert.Gmm.main_arg2) = m ((c.tc : Thread Cert.Gmm.nD Cert.Gmm.τ).loc Cert.Gmm.main_arg2)
      ∧ r.2.mem ((c.tc : Thread Cert.Gmm.nD Cert.Gmm.τ).loc Cert.Gmm.main_arg3) = m ((c.tc : Thread Cert.Gmm.nD Cert.Gmm.τ).loc Cert.Gmm.main_arg3)
      ∧ r.2.mem ((c.tc : Thread Cert.Gmm.nD Cert.Gmm.τ).loc Cert.Gmm.main_arg4) = m ((c.tc : Thread Cert.Gmm.nD Cert.Gmm.τ).loc Cert.Gmm.main_arg4)
      ∧ r.2.mem ((c.tc : Thread Cert.Gmm.nD Cert.Gmm.τ).loc Cert.Gmm.main_arg5) = m ((c.tc : Thread Cert.Gmm.nD Cert.Gmm.τ).loc Cert.Gmm.main_arg5)
      ∧ r.2.mem ((c.tc : Thread Cert.Gmm.nD Cert.Gmm.τ).loc Cert.Gmm.main_arg6) = m ((c.tc : Thread Cert.Gmm.nD Cert.Gmm.τ).loc Cert.Gmm.main_arg6)
      ∧ r.2.mem ((c.tc : Thread Cert.Gmm.nD Cert.Gmm.τ).loc Cert.Gmm.main_arg7) = m ((c.tc : Thread Cert.Gmm.nD Cert.Gmm.τ).loc Cert.Gmm.main_arg7)
      ∧ r.2.mem ((c.tc : Thread Cert.Gmm.nD Cert.Gmm.τ).loc Cert.Gmm.main_arg8) = m ((c.tc : Thread Cert.Gmm.nD Cert.Gmm.τ).loc Cert.Gmm.main_arg8))
      ∧ r.2.sem = fun _ => 0)

def quiescent_GmmIdeal [hGmmIdeal : Cert.GmmIdeal.Facts] [hPre_tables_in_range : Cert.Pre_tables_in_range.Facts] : Prop :=
  ∀ (m : (ℓ : Loc Cert.GmmIdeal.nD Cert.GmmIdeal.τ Cert.GmmIdeal.sig) → Buf (Elt Ideal) ℓ) (g : Dev Cert.GmmIdeal.nD → PrngReg), Pre_GmmIdeal m →
    θ_run (Cert.GmmIdeal.defs (F := Ideal)) (onTc (τ := Cert.GmmIdeal.τ) (Cert.GmmIdeal.main (F := Ideal))) ⟨m, fun _ => 0, g⟩ (fun r => (∀ c : Dev Cert.GmmIdeal.nD,
      r.2.mem ((c.tc : Thread Cert.GmmIdeal.nD Cert.GmmIdeal.τ).loc Cert.GmmIdeal.main_arg0) = m ((c.tc : Thread Cert.GmmIdeal.nD Cert.GmmIdeal.τ).loc Cert.GmmIdeal.main_arg0)
      ∧ r.2.mem ((c.tc : Thread Cert.GmmIdeal.nD Cert.GmmIdeal.τ).loc Cert.GmmIdeal.main_arg1) = m ((c.tc : Thread Cert.GmmIdeal.nD Cert.GmmIdeal.τ).loc Cert.GmmIdeal.main_arg1)
      ∧ r.2.mem ((c.tc : Thread Cert.GmmIdeal.nD Cert.GmmIdeal.τ).loc Cert.GmmIdeal.main_arg2) = m ((c.tc : Thread Cert.GmmIdeal.nD Cert.GmmIdeal.τ).loc Cert.GmmIdeal.main_arg2)
      ∧ r.2.mem ((c.tc : Thread Cert.GmmIdeal.nD Cert.GmmIdeal.τ).loc Cert.GmmIdeal.main_arg3) = m ((c.tc : Thread Cert.GmmIdeal.nD Cert.GmmIdeal.τ).loc Cert.GmmIdeal.main_arg3)
      ∧ r.2.mem ((c.tc : Thread Cert.GmmIdeal.nD Cert.GmmIdeal.τ).loc Cert.GmmIdeal.main_arg4) = m ((c.tc : Thread Cert.GmmIdeal.nD Cert.GmmIdeal.τ).loc Cert.GmmIdeal.main_arg4)
      ∧ r.2.mem ((c.tc : Thread Cert.GmmIdeal.nD Cert.GmmIdeal.τ).loc Cert.GmmIdeal.main_arg5) = m ((c.tc : Thread Cert.GmmIdeal.nD Cert.GmmIdeal.τ).loc Cert.GmmIdeal.main_arg5)
      ∧ r.2.mem ((c.tc : Thread Cert.GmmIdeal.nD Cert.GmmIdeal.τ).loc Cert.GmmIdeal.main_arg6) = m ((c.tc : Thread Cert.GmmIdeal.nD Cert.GmmIdeal.τ).loc Cert.GmmIdeal.main_arg6)
      ∧ r.2.mem ((c.tc : Thread Cert.GmmIdeal.nD Cert.GmmIdeal.τ).loc Cert.GmmIdeal.main_arg7) = m ((c.tc : Thread Cert.GmmIdeal.nD Cert.GmmIdeal.τ).loc Cert.GmmIdeal.main_arg7)
      ∧ r.2.mem ((c.tc : Thread Cert.GmmIdeal.nD Cert.GmmIdeal.τ).loc Cert.GmmIdeal.main_arg8) = m ((c.tc : Thread Cert.GmmIdeal.nD Cert.GmmIdeal.τ).loc Cert.GmmIdeal.main_arg8))
      ∧ r.2.sem = fun _ => 0)

def quiescent_GmmReferenceIdeal [hGmmReferenceIdeal : Cert.GmmReferenceIdeal.Facts] : Prop :=
  ∀ (m : (ℓ : Loc Cert.GmmReferenceIdeal.nD Cert.GmmReferenceIdeal.τ Cert.GmmReferenceIdeal.sig) → Buf (Elt Ideal) ℓ) (g : Dev Cert.GmmReferenceIdeal.nD → PrngReg), Pre_GmmReferenceIdeal m →
    θ_run (Cert.GmmReferenceIdeal.defs (F := Ideal)) (onTc (τ := Cert.GmmReferenceIdeal.τ) (Cert.GmmReferenceIdeal.main (F := Ideal))) ⟨m, fun _ => 0, g⟩ (fun r => (∀ c : Dev Cert.GmmReferenceIdeal.nD,
      r.2.mem ((c.tc : Thread Cert.GmmReferenceIdeal.nD Cert.GmmReferenceIdeal.τ).loc Cert.GmmReferenceIdeal.main_arg0) = m ((c.tc : Thread Cert.GmmReferenceIdeal.nD Cert.GmmReferenceIdeal.τ).loc Cert.GmmReferenceIdeal.main_arg0)
      ∧ r.2.mem ((c.tc : Thread Cert.GmmReferenceIdeal.nD Cert.GmmReferenceIdeal.τ).loc Cert.GmmReferenceIdeal.main_arg1) = m ((c.tc : Thread Cert.GmmReferenceIdeal.nD Cert.GmmReferenceIdeal.τ).loc Cert.GmmReferenceIdeal.main_arg1)
      ∧ r.2.mem ((c.tc : Thread Cert.GmmReferenceIdeal.nD Cert.GmmReferenceIdeal.τ).loc Cert.GmmReferenceIdeal.main_arg2) = m ((c.tc : Thread Cert.GmmReferenceIdeal.nD Cert.GmmReferenceIdeal.τ).loc Cert.GmmReferenceIdeal.main_arg2)
      ∧ r.2.mem ((c.tc : Thread Cert.GmmReferenceIdeal.nD Cert.GmmReferenceIdeal.τ).loc Cert.GmmReferenceIdeal.main_arg3) = m ((c.tc : Thread Cert.GmmReferenceIdeal.nD Cert.GmmReferenceIdeal.τ).loc Cert.GmmReferenceIdeal.main_arg3)
      ∧ r.2.mem ((c.tc : Thread Cert.GmmReferenceIdeal.nD Cert.GmmReferenceIdeal.τ).loc Cert.GmmReferenceIdeal.main_arg4) = m ((c.tc : Thread Cert.GmmReferenceIdeal.nD Cert.GmmReferenceIdeal.τ).loc Cert.GmmReferenceIdeal.main_arg4)
      ∧ r.2.mem ((c.tc : Thread Cert.GmmReferenceIdeal.nD Cert.GmmReferenceIdeal.τ).loc Cert.GmmReferenceIdeal.main_arg5) = m ((c.tc : Thread Cert.GmmReferenceIdeal.nD Cert.GmmReferenceIdeal.τ).loc Cert.GmmReferenceIdeal.main_arg5)
      ∧ r.2.mem ((c.tc : Thread Cert.GmmReferenceIdeal.nD Cert.GmmReferenceIdeal.τ).loc Cert.GmmReferenceIdeal.main_arg6) = m ((c.tc : Thread Cert.GmmReferenceIdeal.nD Cert.GmmReferenceIdeal.τ).loc Cert.GmmReferenceIdeal.main_arg6)
      ∧ r.2.mem ((c.tc : Thread Cert.GmmReferenceIdeal.nD Cert.GmmReferenceIdeal.τ).loc Cert.GmmReferenceIdeal.main_arg7) = m ((c.tc : Thread Cert.GmmReferenceIdeal.nD Cert.GmmReferenceIdeal.τ).loc Cert.GmmReferenceIdeal.main_arg7)
      ∧ r.2.mem ((c.tc : Thread Cert.GmmReferenceIdeal.nD Cert.GmmReferenceIdeal.τ).loc Cert.GmmReferenceIdeal.main_arg8) = m ((c.tc : Thread Cert.GmmReferenceIdeal.nD Cert.GmmReferenceIdeal.τ).loc Cert.GmmReferenceIdeal.main_arg8))
      ∧ r.2.sem = fun _ => 0)

def quiescent_GmmReferenceIdeal_pre_tables_in_range [hGmmReferenceIdeal : Cert.GmmReferenceIdeal.Facts] [hPre_tables_in_range : Cert.Pre_tables_in_range.Facts] : Prop :=
  ∀ (m : (ℓ : Loc Cert.GmmReferenceIdeal.nD Cert.GmmReferenceIdeal.τ Cert.GmmReferenceIdeal.sig) → Buf (Elt Ideal) ℓ) (g : Dev Cert.GmmReferenceIdeal.nD → PrngReg), Pre_GmmReferenceIdeal_tables_in_range m →
    θ_run (Cert.GmmReferenceIdeal.defs (F := Ideal)) (onTc (τ := Cert.GmmReferenceIdeal.τ) (Cert.GmmReferenceIdeal.main (F := Ideal))) ⟨m, fun _ => 0, g⟩ (fun r => (∀ c : Dev Cert.GmmReferenceIdeal.nD,
      r.2.mem ((c.tc : Thread Cert.GmmReferenceIdeal.nD Cert.GmmReferenceIdeal.τ).loc Cert.GmmReferenceIdeal.main_arg0) = m ((c.tc : Thread Cert.GmmReferenceIdeal.nD Cert.GmmReferenceIdeal.τ).loc Cert.GmmReferenceIdeal.main_arg0)
      ∧ r.2.mem ((c.tc : Thread Cert.GmmReferenceIdeal.nD Cert.GmmReferenceIdeal.τ).loc Cert.GmmReferenceIdeal.main_arg1) = m ((c.tc : Thread Cert.GmmReferenceIdeal.nD Cert.GmmReferenceIdeal.τ).loc Cert.GmmReferenceIdeal.main_arg1)
      ∧ r.2.mem ((c.tc : Thread Cert.GmmReferenceIdeal.nD Cert.GmmReferenceIdeal.τ).loc Cert.GmmReferenceIdeal.main_arg2) = m ((c.tc : Thread Cert.GmmReferenceIdeal.nD Cert.GmmReferenceIdeal.τ).loc Cert.GmmReferenceIdeal.main_arg2)
      ∧ r.2.mem ((c.tc : Thread Cert.GmmReferenceIdeal.nD Cert.GmmReferenceIdeal.τ).loc Cert.GmmReferenceIdeal.main_arg3) = m ((c.tc : Thread Cert.GmmReferenceIdeal.nD Cert.GmmReferenceIdeal.τ).loc Cert.GmmReferenceIdeal.main_arg3)
      ∧ r.2.mem ((c.tc : Thread Cert.GmmReferenceIdeal.nD Cert.GmmReferenceIdeal.τ).loc Cert.GmmReferenceIdeal.main_arg4) = m ((c.tc : Thread Cert.GmmReferenceIdeal.nD Cert.GmmReferenceIdeal.τ).loc Cert.GmmReferenceIdeal.main_arg4)
      ∧ r.2.mem ((c.tc : Thread Cert.GmmReferenceIdeal.nD Cert.GmmReferenceIdeal.τ).loc Cert.GmmReferenceIdeal.main_arg5) = m ((c.tc : Thread Cert.GmmReferenceIdeal.nD Cert.GmmReferenceIdeal.τ).loc Cert.GmmReferenceIdeal.main_arg5)
      ∧ r.2.mem ((c.tc : Thread Cert.GmmReferenceIdeal.nD Cert.GmmReferenceIdeal.τ).loc Cert.GmmReferenceIdeal.main_arg6) = m ((c.tc : Thread Cert.GmmReferenceIdeal.nD Cert.GmmReferenceIdeal.τ).loc Cert.GmmReferenceIdeal.main_arg6)
      ∧ r.2.mem ((c.tc : Thread Cert.GmmReferenceIdeal.nD Cert.GmmReferenceIdeal.τ).loc Cert.GmmReferenceIdeal.main_arg7) = m ((c.tc : Thread Cert.GmmReferenceIdeal.nD Cert.GmmReferenceIdeal.τ).loc Cert.GmmReferenceIdeal.main_arg7)
      ∧ r.2.mem ((c.tc : Thread Cert.GmmReferenceIdeal.nD Cert.GmmReferenceIdeal.τ).loc Cert.GmmReferenceIdeal.main_arg8) = m ((c.tc : Thread Cert.GmmReferenceIdeal.nD Cert.GmmReferenceIdeal.τ).loc Cert.GmmReferenceIdeal.main_arg8))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "taken" .f32 0xFF61B1E6#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v4_0)) (v1 : (c : Dev Cert.InprojIdeal.nD) → Buf (Elt Ideal) ((c.tc : Thread Cert.InprojIdeal.nD Cert.InprojIdeal.τ).loc Cert.InprojIdeal.main_v4_1)) (v2 : (c : Dev Cert.InprojIdeal.nD) → Buf (Elt Ideal) ((c.tc : Thread Cert.InprojIdeal.nD Cert.InprojIdeal.τ).loc Cert.InprojIdeal.main_v4_2)) (v3 : (c : Dev Cert.InprojIdeal.nD) → Buf (Elt Ideal) ((c.tc : Thread Cert.InprojIdeal.nD Cert.InprojIdeal.τ).loc Cert.InprojIdeal.main_v4_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v4_0) = v0 c
          ∧ r.2.mem ((c.tc : Thread Cert.InprojIdeal.nD Cert.InprojIdeal.τ).loc Cert.InprojIdeal.main_v4_1) = v1 c
          ∧ r.2.mem ((c.tc : Thread Cert.InprojIdeal.nD Cert.InprojIdeal.τ).loc Cert.InprojIdeal.main_v4_2) = v2 c
          ∧ r.2.mem ((c.tc : Thread Cert.InprojIdeal.nD Cert.InprojIdeal.τ).loc Cert.InprojIdeal.main_v4_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v15) = v0 c
          ∧ r.2.mem ((c.tc : Thread Cert.InprojReferenceIdeal.nD Cert.InprojReferenceIdeal.τ).loc Cert.InprojReferenceIdeal.main_v21) = v1 c
          ∧ r.2.mem ((c.tc : Thread Cert.InprojReferenceIdeal.nD Cert.InprojReferenceIdeal.τ).loc Cert.InprojReferenceIdeal.main_v22) = v2 c
          ∧ r.2.mem ((c.tc : Thread Cert.InprojReferenceIdeal.nD Cert.InprojReferenceIdeal.τ).loc Cert.InprojReferenceIdeal.main_v23) = v3 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2))

def preserves_Memkv_MemkvIdeal : Prop :=
  True

def algebraic_MemkvIdeal_MemkvReferenceIdeal [hMemkvIdeal : Cert.MemkvIdeal.Facts] [hMemkvReferenceIdeal : Cert.MemkvReferenceIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvReferenceIdeal.nD Cert.MemkvReferenceIdeal.τ Cert.MemkvReferenceIdeal.sig) → Buf (Elt Ideal) ℓ) (g' : Dev Cert.MemkvReferenceIdeal.nD → PrngReg), Pre_MemkvIdeal m →
    (∀ c : Dev Cert.MemkvIdeal.nD,
      m' ((c.tc : Thread Cert.MemkvReferenceIdeal.nD Cert.MemkvReferenceIdeal.τ).loc Cert.MemkvReferenceIdeal.main_arg0) = m ((c.tc : Thread Cert.MemkvIdeal.nD Cert.MemkvIdeal.τ).loc Cert.MemkvIdeal.main_arg0)
      ∧ m' ((c.tc : Thread Cert.MemkvReferenceIdeal.nD Cert.MemkvReferenceIdeal.τ).loc Cert.MemkvReferenceIdeal.main_arg1) = m ((c.tc : Thread Cert.MemkvIdeal.nD Cert.MemkvIdeal.τ).loc Cert.MemkvIdeal.main_arg1)
      ∧ m' ((c.tc : Thread Cert.MemkvReferenceIdeal.nD Cert.MemkvReferenceIdeal.τ).loc Cert.MemkvReferenceIdeal.main_arg2) = m ((c.tc : Thread Cert.MemkvIdeal.nD Cert.MemkvIdeal.τ).loc Cert.MemkvIdeal.main_arg2)
      ∧ m' ((c.tc : Thread Cert.MemkvReferenceIdeal.nD Cert.MemkvReferenceIdeal.τ).loc Cert.MemkvReferenceIdeal.main_arg3) = m ((c.tc : Thread Cert.MemkvIdeal.nD Cert.MemkvIdeal.τ).loc Cert.MemkvIdeal.main_arg3)) →
    ∃ (v0 : (c : Dev Cert.MemkvIdeal.nD) → Buf (Elt Ideal) ((c.tc : Thread Cert.MemkvIdeal.nD Cert.MemkvIdeal.τ).loc Cert.MemkvIdeal.main_v4_0)) (v1 : (c : Dev Cert.MemkvIdeal.nD) → Buf (Elt Ideal) ((c.tc : Thread Cert.MemkvIdeal.nD Cert.MemkvIdeal.τ).loc Cert.MemkvIdeal.main_v4_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v4_0) = v0 c
          ∧ r.2.mem ((c.tc : Thread Cert.MemkvIdeal.nD Cert.MemkvIdeal.τ).loc Cert.MemkvIdeal.main_v4_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
          ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ θ_run (Cert.MemkvReferenceIdeal.defs (F := Ideal)) (onTc (τ := Cert.MemkvReferenceIdeal.τ) (Cert.MemkvReferenceIdeal.main (F := Ideal))) ⟨m', fun _ => 0, g'⟩ (fun r => ∀ c : Dev Cert.MemkvReferenceIdeal.nD,
          r.2.mem ((c.tc : Thread Cert.MemkvReferenceIdeal.nD Cert.MemkvReferenceIdeal.τ).loc Cert.MemkvReferenceIdeal.main_v15) = v0 c
          ∧ r.2.mem ((c.tc : Thread Cert.MemkvReferenceIdeal.nD Cert.MemkvReferenceIdeal.τ).loc Cert.MemkvReferenceIdeal.main_v17) = v1 c
          ∧ r.2.mem ((c.tc : Thread Cert.MemkvReferenceIdeal.nD Cert.MemkvReferenceIdeal.τ).loc Cert.MemkvReferenceIdeal.main_arg0) = m' ((c.tc : Thread Cert.MemkvReferenceIdeal.nD Cert.MemkvReferenceIdeal.τ).loc Cert.MemkvReferenceIdeal.main_arg0)
          ∧ r.2.mem ((c.tc : Thread Cert.MemkvReferenceIdeal.nD Cert.MemkvReferenceIdeal.τ).loc Cert.MemkvReferenceIdeal.main_arg1) = m' ((c.tc : Thread Cert.MemkvReferenceIdeal.nD Cert.MemkvReferenceIdeal.τ).loc Cert.MemkvReferenceIdeal.main_arg1)
          ∧ r.2.mem ((c.tc : Thread Cert.MemkvReferenceIdeal.nD Cert.MemkvReferenceIdeal.τ).loc Cert.MemkvReferenceIdeal.main_arg2) = m' ((c.tc : Thread Cert.MemkvReferenceIdeal.nD Cert.MemkvReferenceIdeal.τ).loc Cert.MemkvReferenceIdeal.main_arg2)
          ∧ r.2.mem ((c.tc : Thread Cert.MemkvReferenceIdeal.nD Cert.MemkvReferenceIdeal.τ).loc Cert.MemkvReferenceIdeal.main_arg3) = m' ((c.tc : Thread Cert.MemkvReferenceIdeal.nD Cert.MemkvReferenceIdeal.τ).loc Cert.MemkvReferenceIdeal.main_arg3))

def preserves_Gmm_GmmIdeal : Prop :=
  True

def algebraic_GmmIdeal_GmmReferenceIdeal [hGmmIdeal : Cert.GmmIdeal.Facts] [hGmmReferenceIdeal : Cert.GmmReferenceIdeal.Facts] [hPre_tables_in_range : Cert.Pre_tables_in_range.Facts] : Prop :=
  ∀ (m : (ℓ : Loc Cert.GmmIdeal.nD Cert.GmmIdeal.τ Cert.GmmIdeal.sig) → Buf (Elt Ideal) ℓ) (g : Dev Cert.GmmIdeal.nD → PrngReg)
    (m' : (ℓ : Loc Cert.GmmReferenceIdeal.nD Cert.GmmReferenceIdeal.τ Cert.GmmReferenceIdeal.sig) → Buf (Elt Ideal) ℓ) (g' : Dev Cert.GmmReferenceIdeal.nD → PrngReg), Pre_GmmIdeal m →
    (∀ c : Dev Cert.GmmIdeal.nD,
      m' ((c.tc : Thread Cert.GmmReferenceIdeal.nD Cert.GmmReferenceIdeal.τ).loc Cert.GmmReferenceIdeal.main_arg0) = m ((c.tc : Thread Cert.GmmIdeal.nD Cert.GmmIdeal.τ).loc Cert.GmmIdeal.main_arg0)
      ∧ m' ((c.tc : Thread Cert.GmmReferenceIdeal.nD Cert.GmmReferenceIdeal.τ).loc Cert.GmmReferenceIdeal.main_arg1) = m ((c.tc : Thread Cert.GmmIdeal.nD Cert.GmmIdeal.τ).loc Cert.GmmIdeal.main_arg1)
      ∧ m' ((c.tc : Thread Cert.GmmReferenceIdeal.nD Cert.GmmReferenceIdeal.τ).loc Cert.GmmReferenceIdeal.main_arg2) = m ((c.tc : Thread Cert.GmmIdeal.nD Cert.GmmIdeal.τ).loc Cert.GmmIdeal.main_arg2)
      ∧ m' ((c.tc : Thread Cert.GmmReferenceIdeal.nD Cert.GmmReferenceIdeal.τ).loc Cert.GmmReferenceIdeal.main_arg3) = m ((c.tc : Thread Cert.GmmIdeal.nD Cert.GmmIdeal.τ).loc Cert.GmmIdeal.main_arg3)
      ∧ m' ((c.tc : Thread Cert.GmmReferenceIdeal.nD Cert.GmmReferenceIdeal.τ).loc Cert.GmmReferenceIdeal.main_arg4) = m ((c.tc : Thread Cert.GmmIdeal.nD Cert.GmmIdeal.τ).loc Cert.GmmIdeal.main_arg4)
      ∧ m' ((c.tc : Thread Cert.GmmReferenceIdeal.nD Cert.GmmReferenceIdeal.τ).loc Cert.GmmReferenceIdeal.main_arg5) = m ((c.tc : Thread Cert.GmmIdeal.nD Cert.GmmIdeal.τ).loc Cert.GmmIdeal.main_arg5)
      ∧ m' ((c.tc : Thread Cert.GmmReferenceIdeal.nD Cert.GmmReferenceIdeal.τ).loc Cert.GmmReferenceIdeal.main_arg6) = m ((c.tc : Thread Cert.GmmIdeal.nD Cert.GmmIdeal.τ).loc Cert.GmmIdeal.main_arg6)
      ∧ m' ((c.tc : Thread Cert.GmmReferenceIdeal.nD Cert.GmmReferenceIdeal.τ).loc Cert.GmmReferenceIdeal.main_arg7) = m ((c.tc : Thread Cert.GmmIdeal.nD Cert.GmmIdeal.τ).loc Cert.GmmIdeal.main_arg7)
      ∧ m' ((c.tc : Thread Cert.GmmReferenceIdeal.nD Cert.GmmReferenceIdeal.τ).loc Cert.GmmReferenceIdeal.main_arg8) = m ((c.tc : Thread Cert.GmmIdeal.nD Cert.GmmIdeal.τ).loc Cert.GmmIdeal.main_arg8)) →
    ∃ (v0 : (c : Dev Cert.GmmIdeal.nD) → Buf (Elt Ideal) ((c.tc : Thread Cert.GmmIdeal.nD Cert.GmmIdeal.τ).loc Cert.GmmIdeal.main_v15)),
      θ_run (Cert.GmmIdeal.defs (F := Ideal)) (onTc (τ := Cert.GmmIdeal.τ) (Cert.GmmIdeal.main (F := Ideal))) ⟨m, fun _ => 0, g⟩ (fun r => ∀ c : Dev Cert.GmmIdeal.nD,
          r.2.mem ((c.tc : Thread Cert.GmmIdeal.nD Cert.GmmIdeal.τ).loc Cert.GmmIdeal.main_v15) = v0 c
          ∧ r.2.mem ((c.tc : Thread Cert.GmmIdeal.nD Cert.GmmIdeal.τ).loc Cert.GmmIdeal.main_arg0) = m ((c.tc : Thread Cert.GmmIdeal.nD Cert.GmmIdeal.τ).loc Cert.GmmIdeal.main_arg0)
          ∧ r.2.mem ((c.tc : Thread Cert.GmmIdeal.nD Cert.GmmIdeal.τ).loc Cert.GmmIdeal.main_arg1) = m ((c.tc : Thread Cert.GmmIdeal.nD Cert.GmmIdeal.τ).loc Cert.GmmIdeal.main_arg1)
          ∧ r.2.mem ((c.tc : Thread Cert.GmmIdeal.nD Cert.GmmIdeal.τ).loc Cert.GmmIdeal.main_arg2) = m ((c.tc : Thread Cert.GmmIdeal.nD Cert.GmmIdeal.τ).loc Cert.GmmIdeal.main_arg2)
          ∧ r.2.mem ((c.tc : Thread Cert.GmmIdeal.nD Cert.GmmIdeal.τ).loc Cert.GmmIdeal.main_arg3) = m ((c.tc : Thread Cert.GmmIdeal.nD Cert.GmmIdeal.τ).loc Cert.GmmIdeal.main_arg3)
          ∧ r.2.mem ((c.tc : Thread Cert.GmmIdeal.nD Cert.GmmIdeal.τ).loc Cert.GmmIdeal.main_arg4) = m ((c.tc : Thread Cert.GmmIdeal.nD Cert.GmmIdeal.τ).loc Cert.GmmIdeal.main_arg4)
          ∧ r.2.mem ((c.tc : Thread Cert.GmmIdeal.nD Cert.GmmIdeal.τ).loc Cert.GmmIdeal.main_arg5) = m ((c.tc : Thread Cert.GmmIdeal.nD Cert.GmmIdeal.τ).loc Cert.GmmIdeal.main_arg5)
          ∧ r.2.mem ((c.tc : Thread Cert.GmmIdeal.nD Cert.GmmIdeal.τ).loc Cert.GmmIdeal.main_arg6) = m ((c.tc : Thread Cert.GmmIdeal.nD Cert.GmmIdeal.τ).loc Cert.GmmIdeal.main_arg6)
          ∧ r.2.mem ((c.tc : Thread Cert.GmmIdeal.nD Cert.GmmIdeal.τ).loc Cert.GmmIdeal.main_arg7) = m ((c.tc : Thread Cert.GmmIdeal.nD Cert.GmmIdeal.τ).loc Cert.GmmIdeal.main_arg7)
          ∧ r.2.mem ((c.tc : Thread Cert.GmmIdeal.nD Cert.GmmIdeal.τ).loc Cert.GmmIdeal.main_arg8) = m ((c.tc : Thread Cert.GmmIdeal.nD Cert.GmmIdeal.τ).loc Cert.GmmIdeal.main_arg8))
      ∧ θ_run (Cert.GmmReferenceIdeal.defs (F := Ideal)) (onTc (τ := Cert.GmmReferenceIdeal.τ) (Cert.GmmReferenceIdeal.main (F := Ideal))) ⟨m', fun _ => 0, g'⟩ (fun r => ∀ c : Dev Cert.GmmReferenceIdeal.nD,
          r.2.mem ((c.tc : Thread Cert.GmmReferenceIdeal.nD Cert.GmmReferenceIdeal.τ).loc Cert.GmmReferenceIdeal.main_v81) = v0 c
          ∧ r.2.mem ((c.tc : Thread Cert.GmmReferenceIdeal.nD Cert.GmmReferenceIdeal.τ).loc Cert.GmmReferenceIdeal.main_arg0) = m' ((c.tc : Thread Cert.GmmReferenceIdeal.nD Cert.GmmReferenceIdeal.τ).loc Cert.GmmReferenceIdeal.main_arg0)
          ∧ r.2.mem ((c.tc : Thread Cert.GmmReferenceIdeal.nD Cert.GmmReferenceIdeal.τ).loc Cert.GmmReferenceIdeal.main_arg1) = m' ((c.tc : Thread Cert.GmmReferenceIdeal.nD Cert.GmmReferenceIdeal.τ).loc Cert.GmmReferenceIdeal.main_arg1)
          ∧ r.2.mem ((c.tc : Thread Cert.GmmReferenceIdeal.nD Cert.GmmReferenceIdeal.τ).loc Cert.GmmReferenceIdeal.main_arg2) = m' ((c.tc : Thread Cert.GmmReferenceIdeal.nD Cert.GmmReferenceIdeal.τ).loc Cert.GmmReferenceIdeal.main_arg2)
          ∧ r.2.mem ((c.tc : Thread Cert.GmmReferenceIdeal.nD Cert.GmmReferenceIdeal.τ).loc Cert.GmmReferenceIdeal.main_arg3) = m' ((c.tc : Thread Cert.GmmReferenceIdeal.nD Cert.GmmReferenceIdeal.τ).loc Cert.GmmReferenceIdeal.main_arg3)
          ∧ r.2.mem ((c.tc : Thread Cert.GmmReferenceIdeal.nD Cert.GmmReferenceIdeal.τ).loc Cert.GmmReferenceIdeal.main_arg4) = m' ((c.tc : Thread Cert.GmmReferenceIdeal.nD Cert.GmmReferenceIdeal.τ).loc Cert.GmmReferenceIdeal.main_arg4)
          ∧ r.2.mem ((c.tc : Thread Cert.GmmReferenceIdeal.nD Cert.GmmReferenceIdeal.τ).loc Cert.GmmReferenceIdeal.main_arg5) = m' ((c.tc : Thread Cert.GmmReferenceIdeal.nD Cert.GmmReferenceIdeal.τ).loc Cert.GmmReferenceIdeal.main_arg5)
          ∧ r.2.mem ((c.tc : Thread Cert.GmmReferenceIdeal.nD Cert.GmmReferenceIdeal.τ).loc Cert.GmmReferenceIdeal.main_arg6) = m' ((c.tc : Thread Cert.GmmReferenceIdeal.nD Cert.GmmReferenceIdeal.τ).loc Cert.GmmReferenceIdeal.main_arg6)
          ∧ r.2.mem ((c.tc : Thread Cert.GmmReferenceIdeal.nD Cert.GmmReferenceIdeal.τ).loc Cert.GmmReferenceIdeal.main_arg7) = m' ((c.tc : Thread Cert.GmmReferenceIdeal.nD Cert.GmmReferenceIdeal.τ).loc Cert.GmmReferenceIdeal.main_arg7)
          ∧ r.2.mem ((c.tc : Thread Cert.GmmReferenceIdeal.nD Cert.GmmReferenceIdeal.τ).loc Cert.GmmReferenceIdeal.main_arg8) = m' ((c.tc : Thread Cert.GmmReferenceIdeal.nD Cert.GmmReferenceIdeal.τ).loc Cert.GmmReferenceIdeal.main_arg8))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojReferenceIdeal : Cert.InprojReferenceIdeal.Facts) (hMemkv : Cert.Memkv.Facts) (hMemkvIdeal : Cert.MemkvIdeal.Facts) (hMemkvReferenceIdeal : Cert.MemkvReferenceIdeal.Facts) (hGmm : Cert.Gmm.Facts) (hGmmIdeal : Cert.GmmIdeal.Facts) (hGmmReferenceIdeal : Cert.GmmReferenceIdeal.Facts) (hPre_finite_scores : Cert.Pre_finite_scores.Facts) (hPre_tables_in_range : Cert.Pre_tables_in_range.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Memkv (hMemkv := hMemkv)
    ∧ quiescent_MemkvIdeal (hMemkvIdeal := hMemkvIdeal)
    ∧ quiescent_MemkvReferenceIdeal (hMemkvReferenceIdeal := hMemkvReferenceIdeal)
    ∧ quiescent_Gmm (hGmm := hGmm) (hPre_tables_in_range := hPre_tables_in_range)
    ∧ quiescent_GmmIdeal (hGmmIdeal := hGmmIdeal) (hPre_tables_in_range := hPre_tables_in_range)
    ∧ quiescent_GmmReferenceIdeal (hGmmReferenceIdeal := hGmmReferenceIdeal)
    ∧ quiescent_GmmReferenceIdeal_pre_tables_in_range (hGmmReferenceIdeal := hGmmReferenceIdeal) (hPre_tables_in_range := hPre_tables_in_range)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Inproj_InprojIdeal
    ∧ algebraic_InprojIdeal_InprojReferenceIdeal (hInprojIdeal := hInprojIdeal) (hInprojReferenceIdeal := hInprojReferenceIdeal)
    ∧ preserves_Memkv_MemkvIdeal
    ∧ algebraic_MemkvIdeal_MemkvReferenceIdeal (hMemkvIdeal := hMemkvIdeal) (hMemkvReferenceIdeal := hMemkvReferenceIdeal)
    ∧ preserves_Gmm_GmmIdeal
    ∧ algebraic_GmmIdeal_GmmReferenceIdeal (hGmmIdeal := hGmmIdeal) (hGmmReferenceIdeal := hGmmReferenceIdeal) (hPre_tables_in_range := hPre_tables_in_range)
-- ==== Pre_finite_scores.lean ====
abbrev S2x8192x2048 : Shape := ⟨3, ![2, 8192, 2048]⟩
abbrev S16384x1024 : Shape := ⟨2, ![16384, 1024]⟩
abbrev S512x512 : Shape := ⟨2, ![512, 512]⟩
abbrev S2048x2048 : Shape := ⟨2, ![2048, 2048]⟩
abbrev S2048 : Shape := ⟨1, ![2048]⟩
abbrev S2048x512 : Shape := ⟨2, ![2048, 512]⟩
abbrev S512x2048 : Shape := ⟨2, ![512, 2048]⟩
abbrev S2048x32 : Shape := ⟨2, ![2048, 32]⟩
abbrev S32 : Shape := ⟨1, ![32]⟩
abbrev S_ : Shape := ⟨0, ![]⟩

class Facts : Prop where
  bcast_S_S512x512 : S_.BroadcastsInDim S512x512 (![] : Fin 0 → Fin S512x512.rank)
  bcast_S_S2048 : S_.BroadcastsInDim S2048 (![] : Fin 0 → Fin S2048.rank)
  bcast_S_S2048x512 : S_.BroadcastsInDim S2048x512 (![] : Fin 0 → Fin S2048x512.rank)
  bcast_S_S2048x32 : S_.BroadcastsInDim S2048x32 (![] : Fin 0 → Fin S2048x32.rank)
  bcast_S_S32 : S_.BroadcastsInDim S32 (![] : Fin 0 → Fin S32.rank)

variable [Facts]

def fn {F : FTy → Type} [FloatOps F] (main_arg0 : FVec F S2x8192x2048 .f32) (main_arg1 : FVec F S16384x1024 .bf16) (main_arg2 : FVec F S16384x1024 .bf16) (main_arg3 : FVec F S512x512 .bf16) (main_arg4 : FVec F S512x512 .bf16) (main_arg5 : FVec F S2048x2048 .f32) (main_arg6 : FVec F S2048 .f32) (main_arg7 : FVec F S2048x512 .f32) (main_arg8 : FVec F S512x2048 .f32) (main_arg9 : FVec F S2048 .f32) (main_arg10 : FVec F S2048x32 .f32) (main_arg11 : FVec F S32 .f32) : IVec S512x512 1 × IVec S2048 1 × IVec S2048x512 1 × IVec S2048 1 × IVec S2048x32 1 × IVec S32 1 :=
  let main_v0 : FVec F S512x512 .bf16 := Host.absf main_arg3
  let main_cst : FVec F S_ .bf16 := constant S_ .bf16 0x7F80#16
  let main_v1 : FVec F S512x512 .bf16 := broadcastInDim S512x512 ![] bcast_S_S512x512 main_cst
  let main_v2 : IVec S512x512 1 := cmpf .olt main_v0 main_v1
  let main_v3 : FVec F S2048 .f32 := Host.absf main_arg6
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x512 .f32 := Host.absf main_arg7
  let main_cst_1 : FVec F S_ .f32 := constant S_ .f32 0x7F800000#32
  let main_v7 : FVec F S2048x512 .f32 := broadcastInDim S2048x512 ![] bcast_S_S2048x512 main_cst_1
  let main_v8 : IVec S2048x512 1 := cmpf .olt main_v6 main_v7
  let main_v9 : FVec F S2048 .f32 := Host.absf main_arg9
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_v12 : FVec F S2048x32 .f32 := Host.absf main_arg10
  let main_cst_3 : FVec F S_ .f32 := constant S_ .f32 0x7F800000#32
  let main_v13 : FVec F S2048x32 .f32 := broadcastInDim S2048x32 ![] bcast_S_S2048x32 main_cst_3
  let main_v14 : IVec S2048x32 1 := cmpf .olt main_v12 main_v13
  let main_v15 : FVec F S32 .f32 := Host.absf main_arg11
  let main_cst_4 : FVec F S_ .f32 := constant S_ .f32 0x7F800000#32
  let main_v16 : FVec F S32 .f32 := broadcastInDim S32 ![] bcast_S_S32 main_cst_4
  let main_v17 : IVec S32 1 := cmpf .olt main_v15 main_v16
  (main_v2, main_v5, main_v8, main_v11, main_v14, main_v17)
-- ==== Pre_tables_in_range.lean ====
abbrev S160 : Shape := ⟨1, ![160]⟩
abbrev S1 : Shape := ⟨1, ![1]⟩
abbrev S65536 : Shape := ⟨1, ![65536]⟩
abbrev S16384x2048 : Shape := ⟨2, ![16384, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S_ : Shape := ⟨0, ![]⟩

class Facts : Prop where
  bcast_S_S160 : S_.BroadcastsInDim S160 (![] : Fin 0 → Fin S160.rank)
  bcast_S_S65536 : S_.BroadcastsInDim S65536 (![] : Fin 0 → Fin S65536.rank)

variable [Facts]

def fn {F : FTy → Type} [FloatOps F] (main_arg0 : IVec S160 32) (main_arg1 : IVec S160 32) (main_arg2 : IVec S1 32) (main_arg3 : IVec S65536 32) (main_arg4 : FVec F S16384x2048 .f32) (main_arg5 : FVec F S32x2048x4096 .f32) (main_arg6 : FVec F S32x4096 .f32) (main_arg7 : FVec F S32x2048x2048 .f32) (main_arg8 : FVec F S32x2048 .f32) : IVec S160 1 × IVec S160 1 × IVec S160 1 × IVec S160 1 × IVec S65536 1 × IVec S65536 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_c_1 : IVec S_ 32 := constantI S_ 32 0#32
  let main_v4 : IVec S160 32 := broadcastInDim S160 ![] bcast_S_S160 main_c_1
  let main_v5 : IVec S160 1 := cmpi .sge main_arg1 main_v4
  let main_c_2 : IVec S_ 32 := constantI S_ 32 81920#32
  let main_v6 : IVec S160 32 := broadcastInDim S160 ![] bcast_S_S160 main_c_2
  let main_v7 : IVec S160 1 := cmpi .sle main_arg1 main_v6
  let main_c_3 : IVec S_ 32 := constantI S_ 32 0#32
  let main_v8 : IVec S65536 32 := broadcastInDim S65536 ![] bcast_S_S65536 main_c_3
  let main_v9 : IVec S65536 1 := cmpi .sge main_arg3 main_v8
  let main_c_4 : IVec S_ 32 := constantI S_ 32 16384#32
  let main_v10 : IVec S65536 32 := broadcastInDim S65536 ![] bcast_S_S65536 main_c_4
  let main_v11 : IVec S65536 1 := cmpi .slt main_arg3 main_v10
  (main_v1, main_v3, main_v5, main_v7, main_v9, main_v11)
-- ==== Kernel.lean ====
abbrev S2x8192x2048 : Shape := ⟨3, ![2, 8192, 2048]⟩
abbrev S16384x1024 : Shape := ⟨2, ![16384, 1024]⟩
abbrev S512x512 : Shape := ⟨2, ![512, 512]⟩
abbrev S2048x2048 : Shape := ⟨2, ![2048, 2048]⟩
abbrev S2048 : Shape := ⟨1, ![2048]⟩
abbrev S2048x512 : Shape := ⟨2, ![2048, 512]⟩
abbrev S512x2048 : Shape := ⟨2, ![512, 2048]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S16384x2048 : Shape := ⟨2, ![16384, 2048]⟩
abbrev S1x2048 : Shape := ⟨2, ![1, 2048]⟩
abbrev S16384x128 : Shape := ⟨2, ![16384, 128]⟩
abbrev S256x2048 : Shape := ⟨2, ![256, 2048]⟩
abbrev S256x1024 : Shape := ⟨2, ![256, 1024]⟩
abbrev S256x512 : Shape := ⟨2, ![256, 512]⟩
abbrev S256x128 : Shape := ⟨2, ![256, 128]⟩
abbrev S1024x2048 : Shape := ⟨2, ![1024, 2048]⟩
abbrev S256 : Shape := ⟨1, ![256]⟩
abbrev S256x1 : Shape := ⟨2, ![256, 1]⟩
abbrev S256x256 : Shape := ⟨2, ![256, 256]⟩

abbrev nBuf : Space → Nat
  | .hbm => 29
  | .vmem => 25
  | .smem => 0
  | _ => 0

abbrev bufTy : (tb : Table) → Fin (tcTables nBuf tb) → BufTy
  | .hbm, ⟨0, _⟩ => ⟨S2x8192x2048, .f32⟩
  | .hbm, ⟨1, _⟩ => ⟨S16384x1024, .bf16⟩
  | .hbm, ⟨2, _⟩ => ⟨S16384x1024, .bf16⟩
  | .hbm, ⟨3, _⟩ => ⟨S512x512, .bf16⟩
  | .hbm, ⟨4, _⟩ => ⟨S512x512, .bf16⟩
  | .hbm, ⟨5, _⟩ => ⟨S2048x2048, .f32⟩
  | .hbm, ⟨6, _⟩ => ⟨S2048, .f32⟩
  | .hbm, ⟨7, _⟩ => ⟨S2048x512, .f32⟩
  | .hbm, ⟨8, _⟩ => ⟨S512x2048, .f32⟩
  | .hbm, ⟨9, _⟩ => ⟨S2048, .f32⟩
  | .hbm, ⟨10, _⟩ => ⟨S2048x32, .f32⟩
  | .hbm, ⟨11, _⟩ => ⟨S32, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S16384x2048, .f32⟩
  | .hbm, ⟨20, _⟩ => ⟨S2048x2048, .bf16⟩
  | .hbm, ⟨21, _⟩ => ⟨S1x2048, .f32⟩
  | .hbm, ⟨22, _⟩ => ⟨S2048x512, .bf16⟩
  | .hbm, ⟨23, _⟩ => ⟨S512x2048, .bf16⟩
  | .hbm, ⟨24, _⟩ => ⟨S1x2048, .f32⟩
  | .hbm, ⟨25, _⟩ => ⟨S16384x2048, .f32⟩
  | .hbm, ⟨26, _⟩ => ⟨S16384x2048, .f32⟩
  | .hbm, ⟨27, _⟩ => ⟨S16384x128, .i32⟩
  | .hbm, ⟨28, _⟩ => ⟨S16384x128, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S2048x2048, .bf16⟩
  | .local _ .vmem, ⟨7, _⟩ => ⟨S1x2048, .f32⟩
  | .local _ .vmem, ⟨8, _⟩ => ⟨S2048x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S512x2048, .bf16⟩
  | .local _ .vmem, ⟨14, _⟩ => ⟨S1x2048, .f32⟩
  | .local _ .vmem, ⟨15, _⟩ => ⟨S2048x128, .f32⟩
  | .local _ .vmem, ⟨16, _⟩ => ⟨S1x128, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x128, .i32⟩
  | .local _ .vmem, ⟨22, _⟩ => ⟨S256x128, .i32⟩
  | .local _ .vmem, ⟨23, _⟩ => ⟨S256x128, .f32⟩
  | .local _ .vmem, ⟨24, _⟩ => ⟨S256x128, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_c_0 : Ref sig .tc := ⟨.hbm, 15, rfl⟩
abbrev main_call1_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9_0 : Ref sig .tc := ⟨.hbm, 25, rfl⟩
abbrev main_v9_1 : Ref sig .tc := ⟨.hbm, 26, rfl⟩
abbrev main_v9_2 : Ref sig .tc := ⟨.hbm, 27, rfl⟩
abbrev main_v9_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_7 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "mask" => some ⊥
  | "taken" => some ⊥
  | _ => none
-- ==== ReferenceIdeal.lean ====
abbrev S2x8192x2048 : Shape := ⟨3, ![2, 8192, 2048]⟩
abbrev S16384x1024 : Shape := ⟨2, ![16384, 1024]⟩
abbrev S512x512 : Shape := ⟨2, ![512, 512]⟩
abbrev S2048x2048 : Shape := ⟨2, ![2048, 2048]⟩
abbrev S2048 : Shape := ⟨1, ![2048]⟩
abbrev S2048x512 : Shape := ⟨2, ![2048, 512]⟩
abbrev S512x2048 : Shape := ⟨2, ![512, 2048]⟩
abbrev S2048x32 : Shape := ⟨2, ![2048, 32]⟩
abbrev S32 : Shape := ⟨1, ![32]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x512 : Shape := ⟨2, ![16384, 512]⟩
abbrev S2x8192x4x128 : Shape := ⟨4, ![2, 8192, 4, 128]⟩
abbrev S2x256x4x128 : Shape := ⟨4, ![2, 256, 4, 128]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S16384x32 : Shape := ⟨2, ![16384, 32]⟩
abbrev S1x32 : Shape := ⟨2, ![1, 32]⟩
abbrev S16384x4 : Shape := ⟨2, ![16384, 4]⟩
abbrev S16384x124 : Shape := ⟨2, ![16384, 124]⟩
abbrev S16384x128 : Shape := ⟨2, ![16384, 128]⟩

abbrev nBuf : Space → Nat
  | .hbm => 104
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S16384x1024, .bf16⟩
  | .hbm, ⟨2, _⟩ => ⟨S16384x1024, .bf16⟩
  | .hbm, ⟨3, _⟩ => ⟨S512x512, .bf16⟩
  | .hbm, ⟨4, _⟩ => ⟨S512x512, .bf16⟩
  | .hbm, ⟨5, _⟩ => ⟨S2048x2048, .f32⟩
  | .hbm, ⟨6, _⟩ => ⟨S2048, .f32⟩
  | .hbm, ⟨7, _⟩ => ⟨S2048x512, .f32⟩
  | .hbm, ⟨8, _⟩ => ⟨S512x2048, .f32⟩
  | .hbm, ⟨9, _⟩ => ⟨S2048, .f32⟩
  | .hbm, ⟨10, _⟩ => ⟨S2048x32, .f32⟩
  | .hbm, ⟨11, _⟩ => ⟨S32, .f32⟩
  | .hbm, ⟨12, _⟩ => ⟨S16384x2048, .bf16⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x2048, .f32⟩
  | .hbm, ⟨29, _⟩ => ⟨S16384x2048, .f32⟩
  | .hbm, ⟨30, _⟩ => ⟨S1x2048, .f32⟩
  | .hbm, ⟨31, _⟩ => ⟨S16384x2048, .f32⟩
  | .hbm, ⟨32, _⟩ => ⟨S16384x2048, .f32⟩
  | .hbm, ⟨33, _⟩ => ⟨S16384x512, .f32⟩
  | .hbm, ⟨34, _⟩ => ⟨S2x8192x4x128, .f32⟩
  | .hbm, ⟨35, _⟩ => ⟨S_, .f32⟩
  | .hbm, ⟨36, _⟩ => ⟨S2x8192x4x128, .f32⟩
  | .hbm, ⟨37, _⟩ => ⟨S2x8192x4x128, .f32⟩
  | .hbm, ⟨38, _⟩ => ⟨S512x512, .f32⟩
  | .hbm, ⟨39, _⟩ => ⟨S2x256x4x128, .f32⟩
  | .hbm, ⟨40, _⟩ => ⟨S512x512, .f32⟩
  | .hbm, ⟨41, _⟩ => ⟨S2x256x4x128, .f32⟩
  | .hbm, ⟨42, _⟩ => ⟨S2x4x8192x256, .f32⟩
  | .hbm, ⟨43, _⟩ => ⟨S_, .f32⟩
  | .hbm, ⟨44, _⟩ => ⟨S2x4x8192, .f32⟩
  | .hbm, ⟨45, _⟩ => ⟨S_, .f32⟩
  | .hbm, ⟨46, _⟩ => ⟨S2x4x8192, .f32⟩
  | .hbm, ⟨47, _⟩ => ⟨S2x4x8192, .f32⟩
  | .hbm, ⟨48, _⟩ => ⟨S2x4x8192x1, .f32⟩
  | .hbm, ⟨49, _⟩ => ⟨S2x4x8192x256, .f32⟩
  | .hbm, ⟨50, _⟩ => ⟨S2x4x8192x256, .f32⟩
  | .hbm, ⟨51, _⟩ => ⟨S2x4x8192x256, .f32⟩
  | .hbm, ⟨52, _⟩ => ⟨S_, .f32⟩
  | .hbm, ⟨53, _⟩ => ⟨S2x4x8192, .f32⟩
  | .hbm, ⟨54, _⟩ => ⟨S2x4x8192x1, .f32⟩
  | .hbm, ⟨55, _⟩ => ⟨S2x4x8192x256, .f32⟩
  | .hbm, ⟨56, _⟩ => ⟨S2x4x8192x256, .f32⟩
  | .hbm, ⟨57, _⟩ => ⟨S2x4x128x8192, .f32⟩
  | .hbm, ⟨58, _⟩ => ⟨S2x8192x4x128, .f32⟩
  | .hbm, ⟨59, _⟩ => ⟨S16384x512, .f32⟩
  | .hbm, ⟨60, _⟩ => ⟨S16384x2048, .f32⟩
  | .hbm, ⟨61, _⟩ => ⟨S16384x2048, .f32⟩
  | .hbm, ⟨62, _⟩ => ⟨S16384x2048, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S16384x2048, .f32⟩
  | .hbm, ⟨74, _⟩ => ⟨S16384x2048, .f32⟩
  | .hbm, ⟨75, _⟩ => ⟨S1x2048, .f32⟩
  | .hbm, ⟨76, _⟩ => ⟨S16384x2048, .f32⟩
  | .hbm, ⟨77, _⟩ => ⟨S16384x2048, .f32⟩
  | .hbm, ⟨78, _⟩ => ⟨S16384x32, .f32⟩
  | .hbm, ⟨79, _⟩ => ⟨S1x32, .f32⟩
  | .hbm, ⟨80, _⟩ => ⟨S16384x32, .f32⟩
  | .hbm, ⟨81, _⟩ => ⟨S16384x32, .f32⟩
  | .hbm, ⟨82, _⟩ => ⟨S16384x4, .f32⟩
  | .hbm, ⟨83, _⟩ => ⟨S16384x4, .i32⟩
  | .hbm, ⟨84, _⟩ => ⟨S_, .f32⟩
  | .hbm, ⟨85, _⟩ => ⟨S16384, .f32⟩
  | .hbm, ⟨86, _⟩ => ⟨S_, .f32⟩
  | .hbm, ⟨87, _⟩ => ⟨S16384, .f32⟩
  | .hbm, ⟨88, _⟩ => ⟨S16384, .f32⟩
  | .hbm, ⟨89, _⟩ => ⟨S16384x1, .f32⟩
  | .hbm, ⟨90, _⟩ => ⟨S16384x4, .f32⟩
  | .hbm, ⟨91, _⟩ => ⟨S16384x4, .f32⟩
  | .hbm, ⟨92, _⟩ => ⟨S16384x4, .f32⟩
  | .hbm, ⟨93, _⟩ => ⟨S_, .f32⟩
  | .hbm, ⟨94, _⟩ => ⟨S16384, .f32⟩
  | .hbm, ⟨95, _⟩ => ⟨S16384x1, .f32⟩
  | .hbm, ⟨96, _⟩ => ⟨S16384x4, .f32⟩
  | .hbm, ⟨97, _⟩ => ⟨S16384x4, .f32⟩
  | .hbm, ⟨98, _⟩ => ⟨S_, .i32⟩
  | .hbm, ⟨99, _⟩ => ⟨S16384x124, .i32⟩
  | .hbm, ⟨100, _⟩ => ⟨S16384x128, .i32⟩
  | .hbm, ⟨101, _⟩ => ⟨S_, .f32⟩
  | .hbm, ⟨102, _⟩ => ⟨S16384x124, .f32⟩
  | .hbm, ⟨103, _⟩ => ⟨S16384x128, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_values : Ref sig .tc := ⟨.hbm, 82, rfl⟩
abbrev main_indices : Ref sig .tc := ⟨.hbm, 83, rfl⟩
abbrev main_cst_9 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_11 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c : Ref sig .tc := ⟨.hbm, 98, rfl⟩
abbrev main_v71 : Ref sig .tc := ⟨.hbm, 99, rfl⟩
abbrev main_v72 : Ref sig .tc := ⟨.hbm, 100, rfl⟩
abbrev main_cst_12 : Ref sig .tc := ⟨.hbm, 101, rfl⟩
abbrev main_v73 : Ref sig .tc := ⟨.hbm, 102, rfl⟩
abbrev main_v74 : Ref sig .tc := ⟨.hbm, 103, rfl⟩

abbrev nD : Nat := 1
abbrev τ : Topo := Topo.v7x

variable {F : FTy → Type} [FloatOps F]
-- ==== Inproj.lean ====
abbrev S2x8192x2048 : Shape := ⟨3, ![2, 8192, 2048]⟩
abbrev S2048 : Shape := ⟨1, ![2048]⟩
abbrev S2048x4656 : Shape := ⟨2, ![2048, 4656]⟩
abbrev S_ : Shape := ⟨0, ![]⟩
abbrev S2048x4736 : Shape := ⟨2, ![2048, 4736]⟩
abbrev S16384x2048 : Shape := ⟨2, ![16384, 2048]⟩
abbrev S1x2048 : Shape := ⟨2, ![1, 2048]⟩
abbrev S16384x1024 : Shape := ⟨2, ![16384, 1024]⟩
abbrev S16384x1536 : Shape := ⟨2, ![16384, 1536]⟩
abbrev S16384x128 : Shape := ⟨2, ![16384, 128]⟩
abbrev S256x2048 : Shape := ⟨2, ![256, 2048]⟩
abbrev S256x1024 : Shape := ⟨2, ![256, 1024]⟩
abbrev S256x1536 : Shape := ⟨2, ![256, 1536]⟩
abbrev S256x128 : Shape := ⟨2, ![256, 128]⟩
abbrev S256 : Shape := ⟨1, ![256]⟩
abbrev S256x1 : Shape := ⟨2, ![256, 1]⟩
abbrev S2048x2048 : Shape := ⟨2, ![2048, 2048]⟩
abbrev S2048x1024 : Shape := ⟨2, ![2048, 1024]⟩
abbrev S2048x1536 : Shape := ⟨2, ![2048, 1536]⟩
abbrev S2048x128 : Shape := ⟨2, ![2048, 128]⟩

abbrev nBuf : Space → Nat
  | .hbm => 13
  | .vmem => 12
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x4656, .f32⟩
  | .hbm, ⟨3, _⟩ => ⟨S_, .i32⟩
  | .hbm, ⟨4, _⟩ => ⟨S_, .f32⟩
  | .hbm, ⟨5, _⟩ => ⟨S2048x4736, .f32⟩
  | .hbm, ⟨6, _⟩ => ⟨S2048x4736, .bf16⟩
  | .hbm, ⟨7, _⟩ => ⟨S16384x2048, .f32⟩
  | .hbm, ⟨8, _⟩ => ⟨S1x2048, .f32⟩
  | .hbm, ⟨9, _⟩ => ⟨S16384x2048, .f32⟩
  | .hbm, ⟨10, _⟩ => ⟨S16384x1024, .bf16⟩
  | .hbm, ⟨11, _⟩ => ⟨S16384x1536, .bf16⟩
  | .hbm, ⟨12, _⟩ => ⟨S16384x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x4736, .bf16⟩
  | .local _ .vmem, ⟨4, _⟩ => ⟨S256x2048, .f32⟩
  | .local _ .vmem, ⟨5, _⟩ => ⟨S256x2048, .f32⟩
  | .local _ .vmem, ⟨6, _⟩ => ⟨S256x1024, .bf16⟩
  | .local _ .vmem, ⟨7, _⟩ => ⟨S256x1024, .bf16⟩
  | .local _ .vmem, ⟨8, _⟩ => ⟨S256x1536, .bf16⟩
  | .local _ .vmem, ⟨9, _⟩ => ⟨S256x1536, .bf16⟩
  | .local _ .vmem, ⟨10, _⟩ => ⟨S256x128, .f32⟩
  | .local _ .vmem, ⟨11, _⟩ => ⟨S256x128, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InprojReferenceIdeal.lean ====
abbrev S2x8192x2048 : Shape := ⟨3, ![2, 8192, 2048]⟩
abbrev S2048 : Shape := ⟨1, ![2048]⟩
abbrev S2048x4656 : Shape := ⟨2, ![2048, 4656]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩
abbrev S16384x4656 : Shape := ⟨2, ![16384, 4656]⟩
abbrev S16384x1024 : Shape := ⟨2, ![16384, 1024]⟩
abbrev S16384x1536 : Shape := ⟨2, ![16384, 1536]⟩
abbrev S16384x48 : Shape := ⟨2, ![16384, 48]⟩
abbrev S16384x128 : Shape := ⟨2, ![16384, 128]⟩

abbrev nBuf : Space → Nat
  | .hbm => 33
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x4656, .f32⟩
  | .hbm, ⟨3, _⟩ => ⟨S2x8192x2048, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x2048, .f32⟩
  | .hbm, ⟨15, _⟩ => ⟨S2x8192x2048, .f32⟩
  | .hbm, ⟨16, _⟩ => ⟨S1x1x2048, .f32⟩
  | .hbm, ⟨17, _⟩ => ⟨S2x8192x2048, .f32⟩
  | .hbm, ⟨18, _⟩ => ⟨S2x8192x2048, .f32⟩
  | .hbm, ⟨19, _⟩ => ⟨S16384x2048, .f32⟩
  | .hbm, ⟨20, _⟩ => ⟨S16384x4656, .f32⟩
  | .hbm, ⟨21, _⟩ => ⟨S16384x2048, .f32⟩
  | .hbm, ⟨22, _⟩ => ⟨S16384x1024, .f32⟩
  | .hbm, ⟨23, _⟩ => ⟨S16384x1536, .f32⟩
  | .hbm, ⟨24, _⟩ => ⟨S16384x48, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x1024, .bf16⟩
  | .hbm, ⟨29, _⟩ => ⟨S16384x1536, .bf16⟩
  | .hbm, ⟨30, _⟩ => ⟨S_, .i32⟩
  | .hbm, ⟨31, _⟩ => ⟨S_, .f32⟩
  | .hbm, ⟨32, _⟩ => ⟨S16384x128, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_call0_v0 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Memkv.lean ====
abbrev S2x256x2048 : Shape := ⟨3, ![2, 256, 2048]⟩
abbrev S2048 : Shape := ⟨1, ![2048]⟩
abbrev S2048x512 : Shape := ⟨2, ![2048, 512]⟩
abbrev S512x2048 : Shape := ⟨2, ![512, 2048]⟩
abbrev S1x2048 : Shape := ⟨2, ![1, 2048]⟩
abbrev S512x512 : Shape := ⟨2, ![512, 512]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 10
  | .vmem => 9
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S512x2048, .f32⟩
  | .hbm, ⟨5, _⟩ => ⟨S1x2048, .f32⟩
  | .hbm, ⟨6, _⟩ => ⟨S2048x512, .bf16⟩
  | .hbm, ⟨7, _⟩ => ⟨S2048x512, .bf16⟩
  | .hbm, ⟨8, _⟩ => ⟨S512x512, .bf16⟩
  | .hbm, ⟨9, _⟩ => ⟨S512x512, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemkvReferenceIdeal.lean ====
abbrev S2x256x2048 : Shape := ⟨3, ![2, 256, 2048]⟩
abbrev S2048 : Shape := ⟨1, ![2048]⟩
abbrev S2048x512 : Shape := ⟨2, ![2048, 512]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S512x2048 : Shape := ⟨2, ![512, 2048]⟩
abbrev S512x512 : Shape := ⟨2, ![512, 512]⟩

abbrev nBuf : Space → Nat
  | .hbm => 25
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S2x256x2048, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x2048, .f32⟩
  | .hbm, ⟨16, _⟩ => ⟨S2x256x2048, .f32⟩
  | .hbm, ⟨17, _⟩ => ⟨S1x1x2048, .f32⟩
  | .hbm, ⟨18, _⟩ => ⟨S2x256x2048, .f32⟩
  | .hbm, ⟨19, _⟩ => ⟨S2x256x2048, .f32⟩
  | .hbm, ⟨20, _⟩ => ⟨S512x2048, .f32⟩
  | .hbm, ⟨21, _⟩ => ⟨S512x512, .f32⟩
  | .hbm, ⟨22, _⟩ => ⟨S512x512, .bf16⟩
  | .hbm, ⟨23, _⟩ => ⟨S512x512, .f32⟩
  | .hbm, ⟨24, _⟩ => ⟨S512x512, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Gmm.lean ====
abbrev S160 : Shape := ⟨1, ![160]⟩
abbrev S1 : Shape := ⟨1, ![1]⟩
abbrev S65536 : Shape := ⟨1, ![65536]⟩
abbrev S16384x2048 : Shape := ⟨2, ![16384, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S32x1x4096 : Shape := ⟨3, ![32, 1, 4096]⟩
abbrev S32x1x2048 : Shape := ⟨3, ![32, 1, 2048]⟩
abbrev S_ : Shape := ⟨0, ![]⟩
abbrev S1x1 : Shape := ⟨2, ![1, 1]⟩
abbrev S81920x2048 : Shape := ⟨2, ![81920, 2048]⟩
abbrev S1x2048x512 : Shape := ⟨3, ![1, 2048, 512]⟩
abbrev S1x1x512 : Shape := ⟨3, ![1, 1, 512]⟩
abbrev S1x512x2048 : Shape := ⟨3, ![1, 512, 2048]⟩
abbrev S1x1x2048 : Shape := ⟨3, ![1, 1, 2048]⟩
abbrev S512x2048 : Shape := ⟨2, ![512, 2048]⟩
abbrev S1x2048 : Shape := ⟨2, ![1, 2048]⟩
abbrev S2048x512 : Shape := ⟨2, ![2048, 512]⟩
abbrev S512x512 : Shape := ⟨2, ![512, 512]⟩
abbrev S1x512 : Shape := ⟨2, ![1, 512]⟩

abbrev nBuf : Space → Nat
  | .hbm => 24
  | .vmem => 17
  | .smem => 5
  | _ => 0

abbrev bufTy : (tb : Table) → Fin (tcTables nBuf tb) → BufTy
  | .hbm, ⟨0, _⟩ => ⟨S16384x2048, .f32⟩
  | .hbm, ⟨1, _⟩ => ⟨S32x2048x4096, .f32⟩
  | .hbm, ⟨2, _⟩ => ⟨S32x4096, .f32⟩
  | .hbm, ⟨3, _⟩ => ⟨S32x2048x2048, .f32⟩
  | .hbm, ⟨4, _⟩ => ⟨S32x2048, .f32⟩
  | .hbm, ⟨5, _⟩ => ⟨S32x2048x4096, .bf16⟩
  | .hbm, ⟨6, _⟩ => ⟨S32x1x4096, .f32⟩
  | .hbm, ⟨7, _⟩ => ⟨S32x2048x2048, .bf16⟩
  | .hbm, ⟨8, _⟩ => ⟨S32x1x2048, .f32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S1, .i1⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S1, .i32⟩
  | .hbm, ⟨22, _⟩ => ⟨S1x1, .i32⟩
  | .hbm, ⟨23, _⟩ => ⟨S81920x2048, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x512x2048, .bf16⟩
  | .local _ .vmem, ⟨9, _⟩ => ⟨S1x512x2048, .bf16⟩
  | .local _ .vmem, ⟨10, _⟩ => ⟨S1x1x2048, .f32⟩
  | .local _ .vmem, ⟨11, _⟩ => ⟨S1x1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .f32⟩
  | .local _ .smem, ⟨0, _⟩ => ⟨S160, .i32⟩
  | .local _ .smem, ⟨1, _⟩ => ⟨S160, .i32⟩
  | .local _ .smem, ⟨2, _⟩ => ⟨S1, .i32⟩
  | .local _ .smem, ⟨3, _⟩ => ⟨S65536, .i32⟩
  | .local _ .smem, ⟨4, _⟩ => ⟨S1, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v15 : Ref sig .tc := ⟨.hbm, 23, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_v14 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![160, 4], ![false, false]⟩

abbrev pre0 : Pipeline.Prefetch sig := ⟨5, ![main_arg0.idx, main_arg1.idx, main_arg2.idx, main_arg3.idx, main_v14.idx], fun | 0 => main_arg0.names | 1 => main_arg1.names | 2 => main_arg2.names | 3 => main_arg3.names | 4 => main_v14.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v2 : Index := Scalar.indexCast arg0
  ![v2.toNat]
def k0_cond2 (i : grid0.Coords) : BitVec 1 :=
  let arg1 : BitVec 32 := BitVec.ofNat 32 (i 1).val
  let c0_i32_3 : BitVec 32 := 0#32
  let v10 : BitVec 1 := Scalar.cmpi .eq arg1 c0_i32_3
  let v11 : BitVec 32 := Scalar.extui v10
  let c0_i32_4 : BitVec 32 := 0#32
  let v12 : BitVec 1 := Scalar.cmpi .ne v11 c0_i32_4
  v12

def k0_off2 (i : grid0.Coords) : Fin 1 → Nat :=
  let arg0 : BitVec 32 := BitVec.ofNat 32 (i 0).val
  let v59 : Index := Scalar.indexCast arg0
  ![v59.toNat]
@[reducible] def k0_t1_loop : Scf.Loop 32 :=
  let c0_i32_37 : BitVec 32 := 0#32
  let c512_i32 : BitVec 32 := 512#32
  let v61 : BitVec 32 := Scalar.addi c0_i32_37 c512_i32
  let c1_i32 : BitVec 32 := 1#32
  ⟨c0_i32_37, v61, c1_i32⟩
def k0_off3 (v60 : BitVec 32) (k0_t1 : Fin k0_t1_loop.trips) : Fin 1 → Nat :=
  let c0_i32_37 : BitVec 32 := 0#32
  let c1_i32 : BitVec 32 := 1#32
  let arg19 : BitVec 32 := Scf.iv c0_i32_37 c1_i32 k0_t1
  let v72 : BitVec 32 := Scalar.addi v60 arg19
  let c65535_i32 : BitVec 32 := 65535#32
  let v73 : BitVec 32 := Scalar.minsi v72 c65535_i32
  let v74 : Index := Scalar.indexCast v73
  ![v74.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_chk1 (i : grid0.Coords) (v0 : BitVec 32) (v60 : BitVec 32) : Prop :=
  (∀ k0_t1 : Fin k0_t1_loop.trips, ∀ (k0_h1 : k0_cond1 i v0 = 1#1), ∀ (k0_h2 : k0_cond2 i = 1#1), ∀ a, (k0_off3 v60 k0_t1) a + S1.size a ≤ S65536.size a)
theorem k0_off3_inb : ∀ (i : grid0.Coords) (v0 : BitVec 32) (v60 : BitVec 32) (k0_hw1 : k0_chk1 i v0 v60) (k0_t1 : Fin k0_t1_loop.trips), ∀ (k0_h1 : k0_cond1 i v0 = 1#1), ∀ (k0_h2 : k0_cond2 i = 1#1), ∀ a, (k0_off3 v60 k0_t1) a + S1.size a ≤ S65536.size a := fun i v0 v60 k0_hw1 k0_t1 k0_h1 k0_h2 => k0_hw1 k0_t1 k0_h1 k0_h2

def k0_off4 (k0_t1 : Fin k0_t1_loop.trips) : Fin 2 → Nat :=
  let c0_i32_37 : BitVec 32 := 0#32
  let c1_i32 : BitVec 32 := 1#32
  let arg19 : BitVec 32 := Scf.iv c0_i32_37 c1_i32 k0_t1
  let c0_i32_50 : BitVec 32 := 0#32
  ![arg19.toNat, 0]
def k0_off5 (v75 : BitVec 32) : Fin 2 → Nat :=
  let c0_i32_51 : BitVec 32 := 0#32
  ![v75.toNat, 0]

def k0_chk2 (i : grid0.Coords) (v0 : BitVec 32) (v75 : BitVec 32) : Prop :=
  (∀ (k0_h1 : k0_cond1 i v0 = 1#1), ∀ (k0_h2 : k0_cond2 i = 1#1), ∀ a, (k0_off5 v75) a + S1x2048.size a ≤ S16384x2048.size a)
theorem k0_off5_inb : ∀ (i : grid0.Coords) (v0 : BitVec 32) (v75 : BitVec 32) (k0_hw2 : k0_chk2 i v0 v75), ∀ (k0_h1 : k0_cond1 i v0 = 1#1), ∀ (k0_h2 : k0_cond2 i = 1#1), ∀ a, (k0_off5 v75) a + S1x2048.size a ≤ S16384x2048.size a := fun i v0 v75 k0_hw2 k0_h1 k0_h2 => k0_hw2 k0_h1 k0_h2

@[reducible] def k0_t2_loop : Scf.Loop 32 :=
  let c0_i32_39 : BitVec 32 := 0#32
  let c512_i32_40 : BitVec 32 := 512#32
  let v62 : BitVec 32 := Scalar.addi c0_i32_39 c512_i32_40
  let c1_i32_41 : BitVec 32 := 1#32
  ⟨c0_i32_39, v62, c1_i32_41⟩
def k0_off6 (k0_t2 : Fin k0_t2_loop.trips) : Fin 2 → Nat :=
  let c0_i32_39 : BitVec 32 := 0#32
  let c1_i32_41 : BitVec 32 := 1#32
  let arg19 : BitVec 32 := Scf.iv c0_i32_39 c1_i32_41 k0_t2
  let c0_i32_50 : BitVec 32 := 0#32
  ![arg19.toNat, 0]
def k0_cond3 (i : grid0.Coords) : BitVec 1 :=
  let arg1 : BitVec 32 := BitVec.ofNat 32 (i 1).val
  let c3_i32 : BitVec 32 := 3#32
  let v56 : BitVec 1 := Scalar.cmpi .eq arg1 c3_i32
  let v57 : BitVec 32 := Scalar.extui v56
  let c0_i32_36 : BitVec 32 := 0#32
  let v58 : BitVec 1 := Scalar.cmpi .ne v57 c0_i32_36
  v58

def k0_cond4 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_1 (inb_S1_S1_0 : ∀ a, (![0] : Fin 1 → Nat) a + S1.size a ≤ S1.size a) (numel1_S1 : S1.numel = 1) (k0_off1_inb : ∀ i : grid0.Coords, ∀ a, (k0_off1 i) a + S1.size a ≤ S160.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S160) ![v2.toNat] S1.size (k0_off1_inb i)) numel1_S1
  let c0_0 : Index := 0#32
  let v4 : BitVec 32 := pf.at 4 (Rect.unit (s := S1) ![0] S1.size inb_S1_S1_0) numel1_S1
  let v5 : BitVec 32 := Scalar.select v1 v3 v4
  let c3_i32 : BitVec 32 := 3#32
  let v6 : BitVec 32 := Scalar.select v1 arg1 c3_i32
  let c0_i32 : BitVec 32 := 0#32
  let c0_i32_1 : BitVec 32 := 0#32
  ![v5.toNat, c0_i32.toNat, v6.toNat]

def cc0_transform_2 (inb_S1_S1_0 : ∀ a, (![0] : Fin 1 → Nat) a + S1.size a ≤ S1.size a) (numel1_S1 : S1.numel = 1) (k0_off1_inb : ∀ i : grid0.Coords, ∀ a, (k0_off1 i) a + S1.size a ≤ S160.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S160) ![v2.toNat] S1.size (k0_off1_inb i)) numel1_S1
  let c0_0 : Index := 0#32
  let v4 : BitVec 32 := pf.at 4 (Rect.unit (s := S1) ![0] S1.size inb_S1_S1_0) numel1_S1
  let v5 : BitVec 32 := Scalar.select v1 v3 v4
  let c3_i32 : BitVec 32 := 3#32
  let v6 : BitVec 32 := Scalar.select v1 arg1 c3_i32
  let c4_i32 : BitVec 32 := 4#32
  let v7 : BitVec 32 := Scalar.addi c4_i32 v6
  let c0_i32 : BitVec 32 := 0#32
  let c0_i32_1 : BitVec 32 := 0#32
  ![v5.toNat, c0_i32.toNat, v7.toNat]

def cc0_transform_3 (inb_S1_S1_0 : ∀ a, (![0] : Fin 1 → Nat) a + S1.size a ≤ S1.size a) (numel1_S1 : S1.numel = 1) (k0_off1_inb : ∀ i : grid0.Coords, ∀ a, (k0_off1 i) a + S1.size a ≤ S160.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S160) ![v2.toNat] S1.size (k0_off1_inb i)) numel1_S1
  let c0_0 : Index := 0#32
  let v4 : BitVec 32 := pf.at 4 (Rect.unit (s := S1) ![0] S1.size inb_S1_S1_0) numel1_S1
  let v5 : BitVec 32 := Scalar.select v1 v3 v4
  let c3_i32 : BitVec 32 := 3#32
  let v6 : BitVec 32 := Scalar.select v1 arg1 c3_i32
  let c0_i32 : BitVec 32 := 0#32
  let c0_i32_1 : BitVec 32 := 0#32
  ![v5.toNat, c0_i32.toNat, v6.toNat]

def cc0_transform_4 (inb_S1_S1_0 : ∀ a, (![0] : Fin 1 → Nat) a + S1.size a ≤ S1.size a) (numel1_S1 : S1.numel = 1) (k0_off1_inb : ∀ i : grid0.Coords, ∀ a, (k0_off1 i) a + S1.size a ≤ S160.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S160) ![v2.toNat] S1.size (k0_off1_inb i)) numel1_S1
  let c0_0 : Index := 0#32
  let v4 : BitVec 32 := pf.at 4 (Rect.unit (s := S1) ![0] S1.size inb_S1_S1_0) numel1_S1
  let v5 : BitVec 32 := Scalar.select v1 v3 v4
  let c3_i32 : BitVec 32 := 3#32
  let v6 : BitVec 32 := Scalar.select v1 arg1 c3_i32
  let c4_i32 : BitVec 32 := 4#32
  let v7 : BitVec 32 := Scalar.addi c4_i32 v6
  let c0_i32 : BitVec 32 := 0#32
  let c0_i32_1 : BitVec 32 := 0#32
  ![v5.toNat, c0_i32.toNat, v7.toNat]

def cc0_transform_5 (inb_S1_S1_0 : ∀ a, (![0] : Fin 1 → Nat) a + S1.size a ≤ S1.size a) (numel1_S1 : S1.numel = 1) (k0_off1_inb : ∀ i : grid0.Coords, ∀ a, (k0_off1 i) a + S1.size a ≤ S160.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S160) ![v2.toNat] S1.size (k0_off1_inb i)) numel1_S1
  let c0_0 : Index := 0#32
  let v4 : BitVec 32 := pf.at 4 (Rect.unit (s := S1) ![0] S1.size inb_S1_S1_0) numel1_S1
  let v5 : BitVec 32 := Scalar.select v1 v3 v4
  let c3_i32 : BitVec 32 := 3#32
  let v6 : BitVec 32 := Scalar.select v1 arg1 c3_i32
  let c0_i32 : BitVec 32 := 0#32
  let c0_i32_1 : BitVec 32 := 0#32
  ![v5.toNat, v6.toNat, c0_i32.toNat]

def cc0_transform_6 (inb_S1_S1_0 : ∀ a, (![0] : Fin 1 → Nat) a + S1.size a ≤ S1.size a) (numel1_S1 : S1.numel = 1) (k0_off1_inb : ∀ i : grid0.Coords, ∀ a, (k0_off1 i) a + S1.size a ≤ S160.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S160) ![v2.toNat] S1.size (k0_off1_inb i)) numel1_S1
  let c0_0 : Index := 0#32
  let v4 : BitVec 32 := pf.at 4 (Rect.unit (s := S1) ![0] S1.size inb_S1_S1_0) numel1_S1
  let v5 : BitVec 32 := Scalar.select v1 v3 v4
  let c3_i32 : BitVec 32 := 3#32
  let v6 : BitVec 32 := Scalar.select v1 arg1 c3_i32
  let c0_i32 : BitVec 32 := 0#32
  let c0_i32_1 : BitVec 32 := 0#32
  let c0_i32_2 : BitVec 32 := 0#32
  ![v5.toNat, c0_i32.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== GmmReferenceIdeal.lean ====
abbrev S160 : Shape := ⟨1, ![160]⟩
abbrev S1 : Shape := ⟨1, ![1]⟩
abbrev S65536 : Shape := ⟨1, ![65536]⟩
abbrev S16384x2048 : Shape := ⟨2, ![16384, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S160x1 : Shape := ⟨2, ![160, 1]⟩
abbrev S512 : Shape := ⟨1, ![512]⟩
abbrev S1x512 : Shape := ⟨2, ![1, 512]⟩
abbrev S160x512 : Shape := ⟨2, ![160, 512]⟩
abbrev S_ : Shape := ⟨0, ![]⟩
abbrev S160x512x1 : Shape := ⟨3, ![160, 512, 1]⟩
abbrev S160x512x2048 : Shape := ⟨3, ![160, 512, 2048]⟩
abbrev S160x2048x4096 : Shape := ⟨3, ![160, 2048, 4096]⟩
abbrev S160x512x4096 : Shape := ⟨3, ![160, 512, 4096]⟩
abbrev S160x4096 : Shape := ⟨2, ![160, 4096]⟩
abbrev S160x1x4096 : Shape := ⟨3, ![160, 1, 4096]⟩
abbrev S160x2048x2048 : Shape := ⟨3, ![160, 2048, 2048]⟩
abbrev S160x2048 : Shape := ⟨2, ![160, 2048]⟩
abbrev S160x1x2048 : Shape := ⟨3, ![160, 1, 2048]⟩
abbrev S160x1x1 : Shape := ⟨3, ![160, 1, 1]⟩
abbrev S81920x2048 : Shape := ⟨2, ![81920, 2048]⟩

abbrev nBuf : Space → Nat
  | .hbm => 120
  | .vmem => 0
  | .smem => 0
  | _ => 0

abbrev bufTy : (tb : Table) → Fin (tcTables nBuf tb) → BufTy
  | .hbm, ⟨0, _⟩ => ⟨S160, .i32⟩
  | .hbm, ⟨1, _⟩ => ⟨S160, .i32⟩
  | .hbm, ⟨2, _⟩ => ⟨S1, .i32⟩
  | .hbm, ⟨3, _⟩ => ⟨S65536, .i32⟩
  | .hbm, ⟨4, _⟩ => ⟨S16384x2048, .f32⟩
  | .hbm, ⟨5, _⟩ => ⟨S32x2048x4096, .f32⟩
  | .hbm, ⟨6, _⟩ => ⟨S32x4096, .f32⟩
  | .hbm, ⟨7, _⟩ => ⟨S32x2048x2048, .f32⟩
  | .hbm, ⟨8, _⟩ => ⟨S32x2048, .f32⟩
  | .hbm, ⟨9, _⟩ => ⟨S160x1, .i32⟩
  | .hbm, ⟨10, _⟩ => ⟨S512, .i32⟩
  | .hbm, ⟨11, _⟩ => ⟨S1x512, .i32⟩
  | .hbm, ⟨12, _⟩ => ⟨S160x512, .i32⟩
  | .hbm, ⟨13, _⟩ => ⟨S160x512, .i32⟩
  | .hbm, ⟨14, _⟩ => ⟨S160x512, .i32⟩
  | .hbm, ⟨15, _⟩ => ⟨S_, .i32⟩
  | .hbm, ⟨16, _⟩ => ⟨S160x512, .i32⟩
  | .hbm, ⟨17, _⟩ => ⟨S160x512, .i32⟩
  | .hbm, ⟨18, _⟩ => ⟨S_, .i32⟩
  | .hbm, ⟨19, _⟩ => ⟨S160x512, .i32⟩
  | .hbm, ⟨20, _⟩ => ⟨S160x512, .i1⟩
  | .hbm, ⟨21, _⟩ => ⟨S_, .i32⟩
  | .hbm, ⟨22, _⟩ => ⟨S160x512, .i32⟩
  | .hbm, ⟨23, _⟩ => ⟨S160x512, .i32⟩
  | .hbm, ⟨24, _⟩ => ⟨S160x512, .i32⟩
  | .hbm, ⟨25, _⟩ => ⟨S160x512x1, .i32⟩
  | .hbm, ⟨26, _⟩ => ⟨S160x512, .i32⟩
  | .hbm, ⟨27, _⟩ => ⟨S_, .i32⟩
  | .hbm, ⟨28, _⟩ => ⟨S160x512, .i32⟩
  | .hbm, ⟨29, _⟩ => ⟨S160x512, .i1⟩
  | .hbm, ⟨30, _⟩ => ⟨S_, .i32⟩
  | .hbm, ⟨31, _⟩ => ⟨S160x512, .i32⟩
  | .hbm, ⟨32, _⟩ => ⟨S160x512, .i32⟩
  | .hbm, ⟨33, _⟩ => ⟨S160x512, .i32⟩
  | .hbm, ⟨34, _⟩ => ⟨S160x512x1, .i32⟩
  | .hbm, ⟨35, _⟩ => ⟨S160x512x2048, .f32⟩
  | .hbm, ⟨36, _⟩ => ⟨S_, .i32⟩
  | .hbm, ⟨37, _⟩ => ⟨S160, .i32⟩
  | .hbm, ⟨38, _⟩ => ⟨S160, .i1⟩
  | .hbm, ⟨39, _⟩ => ⟨S_, .i32⟩
  | .hbm, ⟨40, _⟩ => ⟨S160, .i32⟩
  | .hbm, ⟨41, _⟩ => ⟨S160, .i32⟩
  | .hbm, ⟨42, _⟩ => ⟨S160, .i32⟩
  | .hbm, ⟨43, _⟩ => ⟨S160x1, .i32⟩
  | .hbm, ⟨44, _⟩ => ⟨S160x2048x4096, .f32⟩
  | .hbm, ⟨45, _⟩ => ⟨S160x512x4096, .f32⟩
  | .hbm, ⟨46, _⟩ => ⟨S_, .i32⟩
  | .hbm, ⟨47, _⟩ => ⟨S160, .i32⟩
  | .hbm, ⟨48, _⟩ => ⟨S160, .i1⟩
  | .hbm, ⟨49, _⟩ => ⟨S_, .i32⟩
  | .hbm, ⟨50, _⟩ => ⟨S160, .i32⟩
  | .hbm, ⟨51, _⟩ => ⟨S160, .i32⟩
  | .hbm, ⟨52, _⟩ => ⟨S160, .i32⟩
  | .hbm, ⟨53, _⟩ => ⟨S160x1, .i32⟩
  | .hbm, ⟨54, _⟩ => ⟨S160x4096, .f32⟩
  | .hbm, ⟨55, _⟩ => ⟨S160x1x4096, .f32⟩
  | .hbm, ⟨56, _⟩ => ⟨S160x512x4096, .f32⟩
  | .hbm, ⟨57, _⟩ => ⟨S160x512x4096, .f32⟩
  | .hbm, ⟨58, _⟩ => ⟨S160x512x2048, .f32⟩
  | .hbm, ⟨59, _⟩ => ⟨S_, .f32⟩
  | .hbm, ⟨60, _⟩ => ⟨S160x512x2048, .f32⟩
  | .hbm, ⟨61, _⟩ => ⟨S160x512x2048, .f32⟩
  | .hbm, ⟨62, _⟩ => ⟨S160x512x2048, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S160x512x2048, .f32⟩
  | .hbm, ⟨67, _⟩ => ⟨S160x512x2048, .f32⟩
  | .hbm, ⟨68, _⟩ => ⟨S_, .f32⟩
  | .hbm, ⟨69, _⟩ => ⟨S160x512x2048, .f32⟩
  | .hbm, ⟨70, _⟩ => ⟨S160x512x2048, .f32⟩
  | .hbm, ⟨71, _⟩ => ⟨S_, .f32⟩
  | .hbm, ⟨72, _⟩ => ⟨S160x512x2048, .f32⟩
  | .hbm, ⟨73, _⟩ => ⟨S160x512x2048, .f32⟩
  | .hbm, ⟨74, _⟩ => ⟨S160x512x2048, .f32⟩
  | .hbm, ⟨75, _⟩ => ⟨S160x512x2048, .f32⟩
  | .hbm, ⟨76, _⟩ => ⟨S_, .f32⟩
  | .hbm, ⟨77, _⟩ => ⟨S160x512x2048, .f32⟩
  | .hbm, ⟨78, _⟩ => ⟨S160x512x2048, .f32⟩
  | .hbm, ⟨79, _⟩ => ⟨S_, .f32⟩
  | .hbm, ⟨80, _⟩ => ⟨S160x512x2048, .f32⟩
  | .hbm, ⟨81, _⟩ => ⟨S160x512x2048, .f32⟩
  | .hbm, ⟨82, _⟩ => ⟨S160x512x2048, .f32⟩
  | .hbm, ⟨83, _⟩ => ⟨S_, .f32⟩
  | .hbm, ⟨84, _⟩ => ⟨S160x512x2048, .f32⟩
  | .hbm, ⟨85, _⟩ => ⟨S160x512x2048, .f32⟩
  | .hbm, ⟨86, _⟩ => ⟨S160x512x2048, .f32⟩
  | .hbm, ⟨87, _⟩ => ⟨S_, .i32⟩
  | .hbm, ⟨88, _⟩ => ⟨S160, .i32⟩
  | .hbm, ⟨89, _⟩ => ⟨S160, .i1⟩
  | .hbm, ⟨90, _⟩ => ⟨S_, .i32⟩
  | .hbm, ⟨91, _⟩ => ⟨S160, .i32⟩
  | .hbm, ⟨92, _⟩ => ⟨S160, .i32⟩
  | .hbm, ⟨93, _⟩ => ⟨S160, .i32⟩
  | .hbm, ⟨94, _⟩ => ⟨S160x1, .i32⟩
  | .hbm, ⟨95, _⟩ => ⟨S160x2048x2048, .f32⟩
  | .hbm, ⟨96, _⟩ => ⟨S160x512x2048, .f32⟩
  | .hbm, ⟨97, _⟩ => ⟨S_, .i32⟩
  | .hbm, ⟨98, _⟩ => ⟨S160, .i32⟩
  | .hbm, ⟨99, _⟩ => ⟨S160, .i1⟩
  | .hbm, ⟨100, _⟩ => ⟨S_, .i32⟩
  | .hbm, ⟨101, _⟩ => ⟨S160, .i32⟩
  | .hbm, ⟨102, _⟩ => ⟨S160, .i32⟩
  | .hbm, ⟨103, _⟩ => ⟨S160, .i32⟩
  | .hbm, ⟨104, _⟩ => ⟨S160x1, .i32⟩
  | .hbm, ⟨105, _⟩ => ⟨S160x2048, .f32⟩
  | .hbm, ⟨106, _⟩ => ⟨S160x1x2048, .f32⟩
  | .hbm, ⟨107, _⟩ => ⟨S160x512x2048, .f32⟩
  | .hbm, ⟨108, _⟩ => ⟨S160x512x2048, .f32⟩
  | .hbm, ⟨109, _⟩ => ⟨S160, .i32⟩
  | .hbm, ⟨110, _⟩ => ⟨S_, .i32⟩
  | .hbm, ⟨111, _⟩ => ⟨S160, .i32⟩
  | .hbm, ⟨112, _⟩ => ⟨S160, .i1⟩
  | .hbm, ⟨113, _⟩ => ⟨S160x1x1, .i1⟩
  | .hbm, ⟨114, _⟩ => ⟨S_, .f32⟩
  | .hbm, ⟨115, _⟩ => ⟨S_, .f32⟩
  | .hbm, ⟨116, _⟩ => ⟨S160x512x2048, .i1⟩
  | .hbm, ⟨117, _⟩ => ⟨S160x512x2048, .f32⟩
  | .hbm, ⟨118, _⟩ => ⟨S160x512x2048, .f32⟩
  | .hbm, ⟨119, _⟩ => ⟨S81920x2048, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_cst_9 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_11 : Ref sig .tc := ⟨.hbm, 76, rfl⟩
abbrev main_v49 : Ref sig .tc := ⟨.hbm, 77, rfl⟩
abbrev main_v50 : Ref sig .tc := ⟨.hbm, 78, rfl⟩
abbrev main_cst_12 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_13 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_14 : Ref sig .tc := ⟨.hbm, 87, rfl⟩
abbrev main_v57 : Ref sig .tc := ⟨.hbm, 88, rfl⟩
abbrev main_v58 : Ref sig .tc := ⟨.hbm, 89, rfl⟩
abbrev main_c_15 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_16 : Ref sig .tc := ⟨.hbm, 97, rfl⟩
abbrev main_v65 : Ref sig .tc := ⟨.hbm, 98, rfl⟩
abbrev main_v66 : Ref sig .tc := ⟨.hbm, 99, rfl⟩
abbrev main_c_17 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_18 : Ref sig .tc := ⟨.hbm, 114, rfl⟩
abbrev main_call1_v0 : Ref sig .tc := ⟨.hbm, 115, rfl⟩
abbrev main_call1_v1 : Ref sig .tc := ⟨.hbm, 116, rfl⟩
abbrev main_call1_v2 : Ref sig .tc := ⟨.hbm, 117, rfl⟩
abbrev main_v80 : Ref sig .tc := ⟨.hbm, 118, rfl⟩
abbrev main_v81 : Ref sig .tc := ⟨.hbm, 119, rfl⟩

abbrev nD : Nat := 1
abbrev τ : Topo := Topo.v7x

variable {F : FTy → Type} [FloatOps F]
-- ==== Proof.Spec.lean ====
/- What the mid call computes for one row, as plain sums over the extended reals. -/
module

public import Idealize.ShloMosaic.Lib.Pipeline.ValueKit

@[expose] public section

noncomputable section

namespace Cert.Mid

open Idealize.ShloMosaic

/-- The row of the output projection added to its residual, the two halves of the contraction apart. -/
def x1Row (x : Fin 2048 → EReal) (yc yn : Fin 1024 → EReal) (wa wb : Fin 1024 → Fin 2048 → EReal) (c : Fin 2048) : EReal :=
  x c + ∑ k, yc k * wa k c + ∑ k, yn k * wb k c

/-- The reciprocal root mean square of a row. -/
def rmsScale (x : Fin 2048 → EReal) : EReal :=
  Ideal.rsqrt (Ideal.div (∑ k, x k * x k) (Ideal.ofBits .f32 0x45000000#32) + Ideal.ofBits .f32 0x3727C5AC#32)

/-- A row normalised and multiplied by its gain. -/
def rmsRow (x g : Fin 2048 → EReal) (c : Fin 2048) : EReal := x c * rmsScale x * g c

/-- The scaled query row. -/
def qRow (h : Fin 2048 → EReal) (wq : Fin 2048 → Fin 512 → EReal) (j : Fin 512) : EReal :=
  (∑ k, h k * wq k j) * Ideal.ofBits .f32 0x3DB504F3#32

theorem ofBits_neg_inf : Ideal.ofBits .f32 0xFF800000#32 = ⊥ := by simp [Ideal.ofBits, Ideal.ieee]

/-- The greatest of 256 scores. -/
def top (s : Fin 256 → EReal) : EReal := Finset.univ.fold max ⊥ s

/-- The unnormalised softmax weights of a row of scores. -/
def ex (s : Fin 256 → EReal) (m : Fin 256) : EReal := Ideal.exp (s m - top s)

/-- One head's row: the weighted values divided by the sum of the weights. -/
def attRow (q : Fin 128 → EReal) (k v : Fin 256 → Fin 128 → EReal) (d : Fin 128) : EReal :=
  Ideal.div (∑ m, ex (fun m => ∑ e, q e * k m e) m * v m d) (∑ m, ex (fun m => ∑ e, q e * k m e) m)

/-- Lane `e` of head `h`. -/
def lane (h : Fin 4) (e : Fin 128) : Fin 512 := ⟨128 * h.val + e.val, by have := h.isLt; have := e.isLt; omega⟩

/-- The cross-attention's output projected. -/
def oRow (q : Fin 512 → EReal) (mk mv : Fin 256 → Fin 512 → EReal) (wo : Fin 512 → Fin 2048 → EReal) (c : Fin 2048) : EReal :=
  ∑ j : Fin 512, attRow (fun e => q (lane ⟨j.val / 128, by have := j.isLt; omega⟩ e))
    (fun m e => mk m (lane ⟨j.val / 128, by have := j.isLt; omega⟩ e)) (fun m e => mv m (lane ⟨j.val / 128, by have := j.isLt; omega⟩ e))
    ⟨j.val % 128, by omega⟩ * wo j c

/-- A row of the residual stream after the cross-attention. -/
def x2Row (x : Fin 2048 → EReal) (yc yn : Fin 1024 → EReal) (wa wb : Fin 1024 → Fin 2048 → EReal) (gx : Fin 2048 → EReal)
    (wq : Fin 2048 → Fin 512 → EReal) (mk mv : Fin 256 → Fin 512 → EReal) (wo : Fin 512 → Fin 2048 → EReal) (c : Fin 2048) : EReal :=
  x1Row x yc yn wa wb c + oRow (qRow (rmsRow (x1Row x yc yn wa wb) gx) wq) mk mv wo c

end Cert.Mid
-- ==== Proof.Pay.lean ====
/- The kernel's payloads of the cross-attention part, read at an index. -/
module

public import proofs.«01_k».proof.Proof.Spec
public import proofs.«01_k».proof.Proof.Gen.KernelIdeal.Skeleton

@[expose] public section

set_option maxRecDepth 16384

noncomputable section

namespace Cert.Mid

open Idealize.ShloMosaic Idealize.ShloMosaic.TcCoe Idealize.SL.Sem Cert.KernelIdeal Cert.KernelIdeal.Gen

theorem pay3_at (v0 : Vec Ideal S256x2048 .f32) (v2 : Vec Ideal S256x1024 .bf16) (v3 : Vec Ideal S1024x2048 .bf16)
    (v7 : Vec Ideal S256x1024 .bf16) (v8 : Vec Ideal S1024x2048 .bf16) (r : Fin 256) (c : Fin 2048) :
    k0_pay3 v0 v2 v3 v7 v8 (ix2 r c)
      = x1Row (fun c => v0 (ix2 r c)) (fun k => v2 (ix2 r k)) (fun k => v7 (ix2 r k)) (fun k c => v3 (ix2 k c))
          (fun k c => v8 (ix2 k c)) c := by
  unfold x1Row
  pointwise [k0_pay3]

theorem pay4_at (v0 : Vec Ideal S256x2048 .f32) (v2 : Vec Ideal S256x1024 .bf16) (v3 : Vec Ideal S1024x2048 .bf16)
    (v7 : Vec Ideal S256x1024 .bf16) (v8 : Vec Ideal S1024x2048 .bf16) (v12 : Vec Ideal S1x2048 .f32)
    (v27 : Vec Ideal S2048x512 .bf16) (r : Fin 256) (j : Fin 512) :
    k0_pay4 v0 v2 v3 v7 v8 v12 v27 (ix2 r j)
      = qRow (rmsRow (fun c => k0_pay3 v0 v2 v3 v7 v8 (ix2 r c)) (fun c => v12 (ix2 0 c))) (fun k j => v27 (ix2 k j)) j := by
  unfold qRow rmsRow rmsScale
  pointwise [k0_pay4]

theorem pay5_at (v0 : Vec Ideal S256x2048 .f32) (v2 : Vec Ideal S256x1024 .bf16) (v3 : Vec Ideal S1024x2048 .bf16)
    (v7 : Vec Ideal S256x1024 .bf16) (v8 : Vec Ideal S1024x2048 .bf16) (v12 : Vec Ideal S1x2048 .f32)
    (v27 : Vec Ideal S2048x512 .bf16) (r : Fin 256) (e : Fin 128) :
    k0_pay5 v0 v2 v3 v7 v8 v12 v27 (ix2 r e) = k0_pay4 v0 v2 v3 v7 v8 v12 v27 (ix2 r (lane 0 e)) := by
  unfold lane
  pointwise [k0_pay5]

theorem pay6_at (v33 v34 : Vec Ideal S256x128 .bf16) (cst : FVec Ideal S256x256 .f32) (v42 : Vec Ideal S256x128 .bf16)
    (hc : ∀ i, cst i = 0) (r : Fin 256) (d : Fin 128) :
    k0_pay6 v33 v34 cst v42 (ix2 r d)
      = attRow (fun e => v33 (ix2 r e)) (fun m e => v34 (ix2 m e)) (fun m e => v42 (ix2 m e)) d := by
  unfold attRow ex top
  pointwise [k0_pay6]
  simp only [hc, zero_add, ofBits_neg_inf]

theorem pay7_at (v32 : FVec Ideal S256x512 .bf16) (v50 v58 : Vec Ideal S256x128 .bf16) (r : Fin 256) (d : Fin 128) :
    k0_pay7 v32 v50 v58 (ix2 r d)
      = attRow (fun e => v32 (ix2 r (lane 1 e))) (fun m e => v50 (ix2 m e)) (fun m e => v58 (ix2 m e)) d := by
  unfold attRow ex top lane
  pointwise [k0_pay7]
  simp only [ofBits_neg_inf]

theorem pay8_at (v32 : FVec Ideal S256x512 .bf16) (v66 : Vec Ideal S256x128 .bf16) (r m : Fin 256) :
    k0_pay8 v32 v66 (ix2 r m) = ex (fun m => ∑ e, v32 (ix2 r (lane 2 e)) * v66 (ix2 m e)) m := by
  unfold ex top lane
  pointwise [k0_pay8]
  simp only [ofBits_neg_inf]

theorem pay9_at (v32 : FVec Ideal S256x512 .bf16) (v66 : Vec Ideal S256x128 .bf16) (i : S256x256.Idx) :
    k0_pay9 v32 v66 i = k0_pay8 v32 v66 i := rfl

/-- The four heads' rows beside each other. -/
def heads (a b c d : Fin 128 → EReal) (j : Fin 512) : EReal :=
  (![a, b, c, d] ⟨j.val / 128, by have := j.isLt; omega⟩) ⟨j.val % 128, by omega⟩

theorem heads_ite (a b c d : Fin 128 → EReal) (x : Fin 512) :
    heads a b c d x = if h : x.val < 128 then a ⟨x.val, h⟩ else if h : x.val - 128 < 128 then b ⟨x.val - 128, h⟩
      else if h : x.val - 128 - 128 < 128 then c ⟨x.val - 128 - 128, h⟩
      else d ⟨x.val - 128 - 128 - 128, by have := x.isLt; omega⟩ := by
  obtain ⟨x, hx⟩ := x
  unfold heads
  dsimp only
  split_ifs with h0 h1 h2
  · have e : (⟨x / 128, by omega⟩ : Fin 4) = 0 := Fin.ext (by show x / 128 = 0; omega)
    rw [e]; exact congrArg a (Fin.ext (by show x % 128 = x; omega))
  · have e : (⟨x / 128, by omega⟩ : Fin 4) = 1 := Fin.ext (by show x / 128 = 1; omega)
    rw [e]; exact congrArg b (Fin.ext (by show x % 128 = x - 128; omega))
  · have e : (⟨x / 128, by omega⟩ : Fin 4) = 2 := Fin.ext (by show x / 128 = 2; omega)
    rw [e]; exact congrArg c (Fin.ext (by show x % 128 = x - 128 - 128; omega))
  · have e : (⟨x / 128, by omega⟩ : Fin 4) = 3 := Fin.ext (by show x / 128 = 3; omega)
    rw [e]; exact congrArg d (Fin.ext (by show x % 128 = x - 128 - 128 - 128; omega))

theorem pay10_at (v11 : FVec Ideal S256x2048 .f32) (v32 : FVec Ideal S256x512 .bf16) (v48 v64 : FVec Ideal S256x128 .bf16)
    (v72 : FVec Ideal S256x256 .f32) (v73 : FVec Ideal S256x256 .bf16) (v74 : Vec Ideal S256x128 .bf16)
    (cst : FVec Ideal S256x128 .f32) (hc : ∀ i, cst i = 0) (v82 v90 : Vec Ideal S256x128 .bf16) (v98 : Vec Ideal S512x2048 .bf16)
    (r : Fin 256) (c : Fin 2048) :
    k0_pay10 v11 v32 v48 v64 v72 v73 v74 cst v82 v90 v98 (ix2 r c)
      = v11 (ix2 r c) + ∑ j, heads (fun d => v48 (ix2 r d)) (fun d => v64 (ix2 r d))
          (fun d => Ideal.div (∑ m, v73 (ix2 r m) * v74 (ix2 m d)) (∑ m, v72 (ix2 r m)))
          (attRow (fun e => v32 (ix2 r (lane 3 e))) (fun m e => v82 (ix2 m e)) (fun m e => v90 (ix2 m e))) j * v98 (ix2 j c) := by
  unfold attRow ex top lane
  pointwise [k0_pay10]
  simp only [ofBits_neg_inf, hc, zero_add]
  refine congrArg₂ (· + ·) rfl (Finset.sum_congr rfl fun x _ => ?_)
  rw [heads_ite]

theorem pay12_at (v11 : FVec Ideal S256x2048 .f32) (v32 : FVec Ideal S256x512 .bf16) (v48 v64 : FVec Ideal S256x128 .bf16)
    (v72 : FVec Ideal S256x256 .f32) (v73 : FVec Ideal S256x256 .bf16) (v74 : Vec Ideal S256x128 .bf16)
    (cst : FVec Ideal S256x128 .f32) (v82 v90 : Vec Ideal S256x128 .bf16) (v98 : Vec Ideal S512x2048 .bf16)
    (v103 : Vec Ideal S1x2048 .f32) (r : Fin 256) (c : Fin 2048) :
    k0_pay13 (k0_pay11 v103) (k0_pay12 v11 v32 v48 v64 v72 v73 v74 cst v82 v90 v98) (ix2 r c)
      = rmsRow (fun c => k0_pay10 v11 v32 v48 v64 v72 v73 v74 cst v82 v90 v98 (ix2 r c)) (fun c => v103 (ix2 0 c)) c := by
  unfold rmsRow rmsScale
  pointwise [k0_pay13, k0_pay11, k0_pay12]

end Cert.Mid
-- ==== Proof.Body.lean ====
/- What one point of the mid call leaves in the two row outputs, read at an index of the block. -/
module

public import proofs.«01_k».proof.Proof.Pay
public import proofs.«01_k».proof.Proof.Gen.KernelIdeal.Frame

@[expose] public section

set_option maxRecDepth 16384

noncomputable section

namespace Cert.Mid

open Idealize.ShloMosaic Idealize.ShloMosaic.TcCoe Idealize.SL.Sem Cert.KernelIdeal Cert.KernelIdeal.Gen

variable (x0 : Vec Ideal S256x2048 .f32) (x1 x2 : Vec Ideal S256x1024 .bf16) (x3 : Vec Ideal S2048x2048 .bf16)
  (x4 : Vec Ideal S1x2048 .f32) (x5 : Vec Ideal S2048x512 .bf16) (x6 x7 : Vec Ideal S256x512 .bf16) (x8 : Vec Ideal S512x2048 .bf16)
  (x9 : Vec Ideal S1x2048 .f32) (x10 : Vec Ideal S2048x128 .f32) (x11 : Vec Ideal S1x128 .f32)

/-- The row of the residual stream a point computes, from its blocks. -/
def x2Blk (r : Fin 256) : Fin 2048 → EReal :=
  x2Row (fun c => x0 (ix2 r c)) (fun k => x1 (ix2 r k)) (fun k => x2 (ix2 r k))
    (fun k c => x3 (ix2 ⟨k.val, by have := k.isLt; omega⟩ c)) (fun k c => x3 (ix2 ⟨1024 + k.val, by have := k.isLt; omega⟩ c))
    (fun c => x4 (ix2 0 c)) (fun k j => x5 (ix2 k j)) (fun m j => x6 (ix2 m j)) (fun m j => x7 (ix2 m j)) (fun j c => x8 (ix2 j c))

/-- The query row of a point. -/
def qBlk (r : Fin 256) : Fin 512 → EReal :=
  qRow (rmsRow (x1Row (fun c => x0 (ix2 r c)) (fun k => x1 (ix2 r k)) (fun k => x2 (ix2 r k))
    (fun k c => x3 (ix2 ⟨k.val, by have := k.isLt; omega⟩ c)) (fun k c => x3 (ix2 ⟨1024 + k.val, by have := k.isLt; omega⟩ c)))
    (fun c => x4 (ix2 0 c))) (fun k j => x5 (ix2 k j))

theorem pay35_at (r : Fin 256) (c : Fin 2048) :
    k0_pay35 x0 x1 x2 x3 x4 x5 x6 x7 x8 x9 x10 x11 (ix2 r c)
      = x1Row (fun c => x0 (ix2 r c)) (fun k => x1 (ix2 r k)) (fun k => x2 (ix2 r k))
    (fun k c => x3 (ix2 ⟨k.val, by have := k.isLt; omega⟩ c)) (fun k c => x3 (ix2 ⟨1024 + k.val, by have := k.isLt; omega⟩ c)) c := by
  unfold k0_pay35
  rw [pay3_at]
  unfold x1Row
  pointwise

theorem pay36_at (r : Fin 256) (j : Fin 512) :
    k0_pay36 x0 x1 x2 x3 x4 x5 x6 x7 x8 x9 x10 x11 (ix2 r j) = qBlk x0 x1 x2 x3 x4 x5 r j := by
  unfold k0_pay36
  rw [pay4_at]
  unfold qBlk
  have e : (fun c => k0_pay3 (View.ld x0 r0_0) (View.ld x1 r0_1) (View.ld x3 r0_2) (View.ld x2 r0_1) (View.ld x3 r0_3) (ix2 r c))
      = x1Row (fun c => x0 (ix2 r c)) (fun k => x1 (ix2 r k)) (fun k => x2 (ix2 r k))
    (fun k c => x3 (ix2 ⟨k.val, by have := k.isLt; omega⟩ c)) (fun k c => x3 (ix2 ⟨1024 + k.val, by have := k.isLt; omega⟩ c)) :=
    funext fun c => pay35_at x0 x1 x2 x3 x4 x5 x6 x7 x8 x9 x10 x11 r c
  rw [e]
  generalize x1Row (fun c => x0 (ix2 r c)) (fun k => x1 (ix2 r k)) (fun k => x2 (ix2 r k))
    (fun k c => x3 (ix2 ⟨k.val, by have := k.isLt; omega⟩ c)) (fun k c => x3 (ix2 ⟨1024 + k.val, by have := k.isLt; omega⟩ c)) = X
  unfold qRow rmsRow
  pointwise

/-- The attention row of head `h`. -/
abbrev att (q : Fin 512 → EReal) (mk mv : Fin 256 → Fin 512 → EReal) (h : Fin 4) : Fin 128 → EReal :=
  attRow (fun e => q (lane h e)) (fun m e => mk m (lane h e)) (fun m e => mv m (lane h e))

theorem ld6 (k : Fin 256) (c : Fin 128) : View.ld x6 r0_6 (ix2 k c) = x6 (ix2 k (lane 0 c)) := by
  unfold lane; pointwise
theorem ld7 (k : Fin 256) (c : Fin 128) : View.ld x6 r0_7 (ix2 k c) = x6 (ix2 k (lane 1 c)) := by
  unfold lane; pointwise
theorem ld8 (k : Fin 256) (c : Fin 128) : View.ld x6 r0_8 (ix2 k c) = x6 (ix2 k (lane 2 c)) := by
  unfold lane; pointwise
theorem ld9 (k : Fin 256) (c : Fin 128) : View.ld x6 r0_9 (ix2 k c) = x6 (ix2 k (lane 3 c)) := by
  unfold lane; pointwise
theorem ld10 (k : Fin 512) (c : Fin 2048) : View.ld x8 r0_10 (ix2 k c) = x8 (ix2 k c) := by
  pointwise
theorem ld4 (c : Fin 2048) : View.ld x9 r0_4 (ix2 0 c) = x9 (ix2 0 c) := by
  pointwise

theorem pay38_at (r : Fin 256) (d : Fin 128) :
    k0_pay38 x0 x1 x2 x3 x4 x5 x6 x7 x8 x9 x10 x11 (ix2 r d)
      = att (qBlk x0 x1 x2 x3 x4 x5 r) (fun m j => x6 (ix2 m j)) (fun m j => x7 (ix2 m j)) 0 d := by
  unfold k0_pay38
  rw [pay6_at _ _ _ _ (fun i => by pointwise)]
  simp only [pay5_at]
  have e : ∀ j, k0_pay4 (View.ld x0 r0_0) (View.ld x1 r0_1) (View.ld x3 r0_2) (View.ld x2 r0_1) (View.ld x3 r0_3) (View.ld x4 r0_4) (View.ld x5 r0_5) (ix2 r j)
      = qBlk x0 x1 x2 x3 x4 x5 r j := fun j => pay36_at x0 x1 x2 x3 x4 x5 x6 x7 x8 x9 x10 x11 r j
  simp only [e]
  exact congrArg₂ (fun a b => attRow _ a b d) (funext fun m => funext fun e => ld6 x6 m e) (funext fun m => funext fun e => ld6 x7 m e)

theorem pay39_at (r : Fin 256) (d : Fin 128) :
    k0_pay39 x0 x1 x2 x3 x4 x5 x6 x7 x8 x9 x10 x11 (ix2 r d)
      = att (qBlk x0 x1 x2 x3 x4 x5 r) (fun m j => x6 (ix2 m j)) (fun m j => x7 (ix2 m j)) 1 d := by
  unfold k0_pay39
  rw [pay7_at]
  simp only [pay36_at]
  exact congrArg₂ (fun a b => attRow _ a b d) (funext fun m => funext fun e => ld7 x6 m e) (funext fun m => funext fun e => ld7 x7 m e)

theorem pay40_at (r : Fin 256) (m : Fin 256) :
    k0_pay40 x0 x1 x2 x3 x4 x5 x6 x7 x8 x9 x10 x11 (ix2 r m)
      = ex (fun m => ∑ e, qBlk x0 x1 x2 x3 x4 x5 r (lane 2 e) * x6 (ix2 m (lane 2 e))) m := by
  unfold k0_pay40
  rw [pay8_at]
  simp only [pay36_at]
  exact congrArg (fun s => ex s m) (funext fun m => Finset.sum_congr rfl fun e _ => congrArg (_ * ·) (ld8 x6 m e))

theorem pay41_at (r : Fin 256) (m : Fin 256) :
    k0_pay41 x0 x1 x2 x3 x4 x5 x6 x7 x8 x9 x10 x11 (ix2 r m)
      = ex (fun m => ∑ e, qBlk x0 x1 x2 x3 x4 x5 r (lane 2 e) * x6 (ix2 m (lane 2 e))) m :=
  (pay9_at _ _ _).trans (pay40_at x0 x1 x2 x3 x4 x5 x6 x7 x8 x9 x10 x11 r m)

theorem heads_att (q : Fin 512 → EReal) (mk mv : Fin 256 → Fin 512 → EReal) (j : Fin 512) :
    heads (att q mk mv 0) (att q mk mv 1) (att q mk mv 2) (att q mk mv 3) j
      = att q mk mv ⟨j.val / 128, by have := j.isLt; omega⟩ ⟨j.val % 128, by omega⟩ := by
  unfold heads
  generalize (⟨j.val / 128, by have := j.isLt; omega⟩ : Fin 4) = h
  match h with
  | 0 => rfl
  | 1 => rfl
  | 2 => rfl
  | 3 => rfl

/-- The row the payload of the first output computes. -/
theorem payX2_at (r : Fin 256) (c : Fin 2048) :
    k0_pay10 (k0_pay35 x0 x1 x2 x3 x4 x5 x6 x7 x8 x9 x10 x11) (k0_pay36 x0 x1 x2 x3 x4 x5 x6 x7 x8 x9 x10 x11) (k0_pay38 x0 x1 x2 x3 x4 x5 x6 x7 x8 x9 x10 x11) (k0_pay39 x0 x1 x2 x3 x4 x5 x6 x7 x8 x9 x10 x11) (k0_pay40 x0 x1 x2 x3 x4 x5 x6 x7 x8 x9 x10 x11) (k0_pay41 x0 x1 x2 x3 x4 x5 x6 x7 x8 x9 x10 x11) (View.ld x7 r0_8) (k0_pay37 x0 x1 x2 x3 x4 x5 x6 x7 x8 x9 x10 x11) (View.ld x6 r0_9) (View.ld x7 r0_9) (View.ld x8 r0_10) (ix2 r c)
      = x2Blk x0 x1 x2 x3 x4 x5 x6 x7 x8 r c := by
  rw [pay10_at _ _ _ _ _ _ _ _ (fun i => by unfold k0_pay37; pointwise)]
  simp only [pay35_at, pay36_at, pay38_at, pay39_at, pay40_at, pay41_at]
  have h2 : (fun d => Ideal.div (∑ m, ex (fun m => ∑ e, qBlk x0 x1 x2 x3 x4 x5 r (lane 2 e) * x6 (ix2 m (lane 2 e))) m * View.ld x7 r0_8 (ix2 m d))
        (∑ m, ex (fun m => ∑ e, qBlk x0 x1 x2 x3 x4 x5 r (lane 2 e) * x6 (ix2 m (lane 2 e))) m))
      = att (qBlk x0 x1 x2 x3 x4 x5 r) (fun m j => x6 (ix2 m j)) (fun m j => x7 (ix2 m j)) 2 :=
    funext fun d => congrArg (Ideal.div · _) (Finset.sum_congr rfl fun m _ => congrArg (_ * ·) (ld8 x7 m d))
  have h3 : attRow (fun e => qBlk x0 x1 x2 x3 x4 x5 r (lane 3 e)) (fun m e => View.ld x6 r0_9 (ix2 m e)) (fun m e => View.ld x7 r0_9 (ix2 m e))
      = att (qBlk x0 x1 x2 x3 x4 x5 r) (fun m j => x6 (ix2 m j)) (fun m j => x7 (ix2 m j)) 3 :=
    congrArg₂ (attRow _) (funext fun m => funext fun e => ld9 x6 m e) (funext fun m => funext fun e => ld9 x7 m e)
  rw [h2, h3]
  unfold x2Blk x2Row oRow
  refine congrArg₂ (· + ·) rfl (Finset.sum_congr rfl fun j _ => ?_)
  refine congrArg₂ (· * ·) ?_ (ld10 x8 j c)
  exact heads_att (qBlk x0 x1 x2 x3 x4 x5 r) (fun m j => x6 (ix2 m j)) (fun m j => x7 (ix2 m j)) j

theorem out12_at (r : Fin 256) (c : Fin 2048) :
    out0_12 x0 x1 x2 x3 x4 x5 x6 x7 x8 x9 x10 x11 (ix2 r c) = x2Blk x0 x1 x2 x3 x4 x5 x6 x7 x8 r c := by
  unfold out0_12
  rw [View.canon_unit_zero (by decide)]
  exact payX2_at x0 x1 x2 x3 x4 x5 x6 x7 x8 x9 x10 x11 r c

theorem payH3_at (r : Fin 256) (c : Fin 2048) :
    k0_pay13 (k0_pay42 x0 x1 x2 x3 x4 x5 x6 x7 x8 x9 x10 x11) (k0_pay43 x0 x1 x2 x3 x4 x5 x6 x7 x8 x9 x10 x11) (ix2 r c)
      = rmsRow (x2Blk x0 x1 x2 x3 x4 x5 x6 x7 x8 r) (fun c => x9 (ix2 0 c)) c := by
  unfold k0_pay42 k0_pay43
  rw [pay12_at]
  simp only [payX2_at]
  exact congrArg (fun g => rmsRow _ g c) (funext fun c => ld4 x9 c)

theorem out13_at (r : Fin 256) (c : Fin 2048) :
    out0_13 x0 x1 x2 x3 x4 x5 x6 x7 x8 x9 x10 x11 (ix2 r c)
      = rmsRow (x2Blk x0 x1 x2 x3 x4 x5 x6 x7 x8 r) (fun c => x9 (ix2 0 c)) c := by
  unfold out0_13
  rw [View.canon_unit_zero (by decide)]
  exact payH3_at x0 x1 x2 x3 x4 x5 x6 x7 x8 x9 x10 x11 r c

end Cert.Mid
-- ==== Proof.Value.lean ====
/- The blocks a grid point reads, at indices of the argument arrays. -/
module

public import proofs.«01_k».proof.Proof.Body
public import proofs.«01_k».proof.Proof.Gen.KernelIdeal.Value
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, t.val < 64 ∧ win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![t.val / 32, 0] ∧ win0_7.index t = ![t.val / 32, 0] ∧ win0_8.index t = ![0, 0]
    ∧ win0_9.index t = ![0, 0] ∧ win0_10.index t = ![0, 0] ∧ win0_11.index t = ![0, 0]
    ∧ win0_12.index t = ![t.val, 0] ∧ win0_13.index t = ![t.val, 0] ∧ win0_14.index t = ![t.val, 0] ∧ win0_15.index t = ![t.val, 0] :=
  (by decide +kernel : ∀ t : Fin grid0.N, _)

/-- The point's row of the whole array. -/
def row (t : Fin cfg0.N) (r : Fin 256) : Fin 16384 := ⟨t.val * 256 + r.val, by have := (idx t).1; have := r.isLt; omega⟩

theorem emb0 (t : Fin cfg0.N) (r : Fin 256) (k : Fin 2048) : ((cfg0.win 0).blk t).view.emb (ix2 r k) = ix2 (row t r) k := by
  blk_ext [idx t, row]

theorem split_at (X : FVec Ideal S2x8192x2048 .f32) (i : Fin 16384) (k : Fin 2048) :
    shapeCast S16384x2048 X shapeCasts_S2x8192x2048_S16384x2048 (ix2 i k)
      = X (ix3 ⟨i.val / 8192, by have := i.isLt; omega⟩ ⟨i.val % 8192, by omega⟩ k) := by
  pointwise

theorem entry0 : V m c main_v3 = shapeCast _ (m ((c : Thread nD τ).loc main_arg0)) shapeCasts_S2x8192x2048_S16384x2048 := by
  entry_read
  rfl

theorem blk0 (t : Fin cfg0.N) (r : Fin 256) (k : Fin 2048) :
    iblk m c 0 t (ix2 r k) = m ((c : Thread nD τ).loc main_arg0)
      (ix3 ⟨(row t r).val / 8192, by have := (row t r).isLt; omega⟩ ⟨(row t r).val % 8192, by omega⟩ k) := by
  refine Eq.trans ?_ (split_at (m ((c : Thread nD τ).loc main_arg0)) (row t r) k)
  rw [← emb0, ← entry0]
  rfl

theorem blk1 (t : Fin cfg0.N) (r : Fin 256) (k : Fin 1024) :
    iblk m c 1 t (ix2 r k) = m ((c : Thread nD τ).loc main_arg1) (ix2 (row t r) k) := by
  blk_ext [iblk, V, idx t, row]

theorem blk2 (t : Fin cfg0.N) (r : Fin 256) (k : Fin 1024) :
    iblk m c 2 t (ix2 r k) = m ((c : Thread nD τ).loc main_arg2) (ix2 (row t r) k) := by
  blk_ext [iblk, V, idx t, row]

theorem blk3 (t : Fin cfg0.N) (k : Fin 2048) (j : Fin 2048) :
    iblk m c 3 t (ix2 k j) = m ((c : Thread nD τ).loc main_arg5) (ix2 k j) := by
  blk_point [iblk, V, idx t]

theorem blk4 (t : Fin cfg0.N) (k : Fin 2048) :
    iblk m c 4 t (ix2 (0 : Fin 1) k) = m ((c : Thread nD τ).loc main_arg6) (ix1 k) := by
  blk_simp [iblk]
  have e : V m c main_v5 = shapeCast _ (m ((c : Thread nD τ).loc main_arg6)) shapeCasts_S2048_S1x2048 := by
    entry_read
    rfl
  rw [e]
  pointwise
  blk_ext [idx t]

theorem blk5 (t : Fin cfg0.N) (k : Fin 2048) (j : Fin 512) :
    iblk m c 5 t (ix2 k j) = m ((c : Thread nD τ).loc main_arg7) (ix2 k j) := by
  blk_point [iblk, V, idx t]

theorem blk6 (t : Fin cfg0.N) (r : Fin 256) (k : Fin 256) (j : Fin 512) :
    iblk m c 6 t (ix2 k j) = m ((c : Thread nD τ).loc main_arg3)
      (ix2 ⟨(row t r).val / 8192 * 256 + k.val, by have := (row t r).isLt; have := k.isLt; omega⟩ j) := by
  have := r.isLt
  blk_ext [iblk, V, idx t, row]

theorem blk7 (t : Fin cfg0.N) (r : Fin 256) (k : Fin 256) (j : Fin 512) :
    iblk m c 7 t (ix2 k j) = m ((c : Thread nD τ).loc main_arg4)
      (ix2 ⟨(row t r).val / 8192 * 256 + k.val, by have := (row t r).isLt; have := k.isLt; omega⟩ j) := by
  have := r.isLt
  blk_ext [iblk, V, idx t, row]

theorem blk8 (t : Fin cfg0.N) (k : Fin 512) (j : Fin 2048) :
    iblk m c 8 t (ix2 k j) = m ((c : Thread nD τ).loc main_arg8) (ix2 k j) := by
  blk_point [iblk, V, idx t]

theorem blk9 (t : Fin cfg0.N) (k : Fin 2048) :
    iblk m c 9 t (ix2 (0 : Fin 1) k) = m ((c : Thread nD τ).loc main_arg9) (ix1 k) := by
  blk_simp [iblk]
  have e : V m c main_v8 = shapeCast _ (m ((c : Thread nD τ).loc main_arg9)) shapeCasts_S2048_S1x2048 := by
    entry_read
    rfl
  rw [e]
  pointwise
  blk_ext [idx t]

theorem zero_word : (FloatOps.sitofp .f32 (0#32) : Ideal .f32) = (0 : EReal) := by
  show (((0#32 : BitVec 32).toInt : ℝ) : EReal) = 0
  simp

theorem emb10 (t : Fin cfg0.N) (k : Fin 2048) (j : Fin 128) : ((cfg0.win 10).blk t).view.emb (ix2 k j) = ix2 k j := by
  blk_ext [idx t]

theorem pad2_at (X : FVec Ideal S2048x32 .f32) (k : Fin 2048) (j : Fin 128) :
    pad S2048x128 ![0, 0] ![0, 96] ![0, 0] X (sitofp (F := Ideal) .f32 (constantI S_ 32 0#32)) pads_S2048x32_S2048x128_000_0960 h_S_ (ix2 k j)
      = if h : j.val < 32 then X (ix2 k ⟨j.val, h⟩) else (0 : EReal) := by
  pointwise
  rw [zero_word]

theorem entry10 : V m c main_v0 = pad S2048x128 ![0, 0] ![0, 96] ![0, 0] (m ((c : Thread nD τ).loc main_arg10) : FVec Ideal S2048x32 .f32)
    (sitofp (F := Ideal) .f32 (constantI S_ 32 0#32)) pads_S2048x32_S2048x128_000_0960 h_S_ := by
  entry_read
  rfl

theorem blk10 (t : Fin cfg0.N) (k : Fin 2048) (j : Fin 128) :
    iblk m c 10 t (ix2 k j) = if h : j.val < 32 then m ((c : Thread nD τ).loc main_arg10) (ix2 k ⟨j.val, h⟩) else (0 : EReal) := by
  refine Eq.trans ?_ (pad2_at (m ((c : Thread nD τ).loc main_arg10)) k j)
  rw [← entry10]
  exact congrArg (V m c main_v0) (emb10 t k j)

theorem emb11 (t : Fin cfg0.N) (j : Fin 128) : ((cfg0.win 11).blk t).view.emb (ix2 (0 : Fin 1) j) = ix2 (0 : Fin 1) j := by
  blk_ext [idx t]

theorem pad1_at (X : FVec Ideal S32 .f32) (j : Fin 128) :
    shapeCast S1x128 (pad S128 ![0] ![96] ![0] X (sitofp (F := Ideal) .f32 (constantI S_ 32 0#32)) pads_S32_S128_0960 h_S_) shapeCasts_S128_S1x128 (ix2 (0 : Fin 1) j)
      = if h : j.val < 32 then X (ix1 ⟨j.val, h⟩) else (0 : EReal) := by
  pointwise
  rw [zero_word]

theorem entry11 : V m c main_v2 = shapeCast S1x128 (pad S128 ![0] ![96] ![0] (m ((c : Thread nD τ).loc main_arg11) : FVec Ideal S32 .f32)
    (sitofp (F := Ideal) .f32 (constantI S_ 32 0#32)) pads_S32_S128_0960 h_S_) shapeCasts_S128_S1x128 := by
  entry_read
  rfl

theorem blk11 (t : Fin cfg0.N) (j : Fin 128) :
    iblk m c 11 t (ix2 (0 : Fin 1) j) = if h : j.val < 32 then m ((c : Thread nD τ).loc main_arg11) (ix1 ⟨j.val, h⟩) else (0 : EReal) := by
  refine Eq.trans ?_ (pad1_at (m ((c : Thread nD τ).loc main_arg11)) j)
  rw [← entry11]
  exact congrArg (V m c main_v2) (emb11 t j)

end Cert.KernelIdeal.Value
-- ==== Proof.Top.lean ====
/- Four rounds of "take the greatest, the first of equals" pick what a stable sort by greater value puts first. -/
module

public import Idealize.ShloMosaic.Lib.SortFacts
public import Idealize.ShloMosaic.Lib.Pipeline.ValueKit

@[expose] public section

noncomputable section

namespace Cert.Top

open Idealize.ShloMosaic

/-! ## The stable sort -/

section sort
variable {n : Nat} (R : Fin n → EReal)

/-- The sort's order between two positions: the greater value, then the smaller position. -/
def Lex (a b : Fin n) : Prop := R b < R a ∨ (R a = R b ∧ a < b)

theorem Lex.trans {a b d : Fin n} (h : Lex R a b) (h' : Lex R b d) : Lex R a d := by
  rcases h with h | ⟨h, l⟩ <;> rcases h' with h' | ⟨h', l'⟩
  · exact Or.inl (h'.trans h)
  · exact Or.inl (h' ▸ h)
  · exact Or.inl (h ▸ h')
  · exact Or.inr ⟨h.trans h', l.trans l'⟩

variable (gt : Fin n → Fin n → Bool) (hgt : ∀ a b, gt a b = true ↔ R b < R a)
include hgt

theorem insert_lex (a : Fin n) (l : List (Fin n)) (hl : l.Pairwise (Lex R)) (ha : ∀ b ∈ l, a < b) :
    (insertBefore gt a l).Pairwise (Lex R) := by
  induction l with
  | nil => exact List.pairwise_singleton _ _
  | cons b l ih =>
    rw [List.pairwise_cons] at hl
    unfold insertBefore
    split
    · rename_i h
      refine List.pairwise_cons.mpr ⟨fun d hd => ?_, ih hl.2 fun d hd => ha d (List.mem_cons_of_mem b hd)⟩
      rcases List.mem_cons.mp ((perm_insertBefore gt a l).mem_iff.mp hd) with rfl | hd'
      · exact Or.inl ((hgt b d).mp h)
      · exact hl.1 d hd'
    · rename_i h
      have hab : Lex R a b := by
        rcases lt_or_eq_of_le (not_lt.mp fun hh => h ((hgt b a).mpr hh)) with hlt | heq
        · exact Or.inl hlt
        · exact Or.inr ⟨heq.symm, ha b List.mem_cons_self⟩
      refine List.pairwise_cons.mpr ⟨fun d hd => ?_, List.pairwise_cons.mpr hl⟩
      rcases List.mem_cons.mp hd with rfl | hd'
      · exact hab
      · exact Lex.trans R hab (hl.1 d hd')

theorem sort_lex (l : List (Fin n)) (hl : l.Pairwise (· < ·)) : (stableSort gt l).Pairwise (Lex R) := by
  induction l with
  | nil => exact List.Pairwise.nil
  | cons a l ih =>
    rw [List.pairwise_cons] at hl
    unfold stableSort
    exact insert_lex R gt hgt a _ (ih hl.2) fun b hb => hl.1 b ((perm_stableSort gt l).mem_iff.mp hb)

theorem sortedFrom_lex (i j : Fin n) (hij : i < j) : Lex R (sortedFrom gt i) (sortedFrom gt j) := by
  have hp := List.pairwise_iff_get.mp (sort_lex R gt hgt (List.finRange n) (List.pairwise_lt_finRange n))
  unfold sortedFrom
  exact hp (i.cast (length_sortPositions n gt).symm) (j.cast (length_sortPositions n gt).symm) hij

end sort

/-! ## The rounds -/

/-- The word of a lane's number. -/
def num (j : Fin 128) : EReal := ((j.val : ℝ) : EReal)

/-- The greatest of a row of 128. -/
def mx (L : Fin 128 → EReal) : EReal := Finset.univ.fold max ⊥ L

/-- The number of the first lane that holds the greatest. -/
def fst (L : Fin 128 → EReal) : EReal := Finset.univ.fold min ⊤ fun j => if L j = mx L then num j else ((128 : ℝ) : EReal)

/-- The row with the lane just picked out of the way. -/
def nxt (L : Fin 128 → EReal) (j : Fin 128) : EReal := if num j = fst L then ⊥ else L j

theorem nxt_def (L : Fin 128 → EReal) (j : Fin 128) : nxt L j = if num j = fst L then ⊥ else L j := rfl

theorem num_inj {i j : Fin 128} (h : num i = num j) : i = j := by
  unfold num at h
  exact Fin.ext (by exact_mod_cast h)

theorem num_le {i j : Fin 128} (h : i ≤ j) : num i ≤ num j := by
  unfold num
  have h' : i.val ≤ j.val := h
  exact_mod_cast h'

theorem num_le_128 (i : Fin 128) : num i ≤ ((128 : ℝ) : EReal) := by
  unfold num
  have h' : i.val ≤ 128 := i.isLt.le
  exact_mod_cast h'

theorem mx_eq (L : Fin 128 → EReal) (q : Fin 128) (h : ∀ j, L j ≤ L q) : mx L = L q := by
  unfold mx
  apply le_antisymm
  · exact (Finset.fold_max_le _).mpr ⟨bot_le, fun j _ => h j⟩
  · exact (Finset.le_fold_max _).mpr (Or.inr ⟨q, Finset.mem_univ q, le_rfl⟩)

theorem fst_eq (L : Fin 128 → EReal) (q : Fin 128) (h : ∀ j, L j ≤ L q) (hq : ∀ j, L j = L q → q ≤ j) : fst L = num q := by
  unfold fst
  rw [mx_eq L q h]
  apply le_antisymm
  · exact (Finset.fold_min_le _).mpr (Or.inr ⟨q, Finset.mem_univ q, by rw [if_pos rfl]⟩)
  · refine (Finset.le_fold_min _).mpr ⟨le_top, fun j _ => ?_⟩
    by_cases e : L j = L q
    · rw [if_pos e]; exact num_le (hq j e)
    · rw [if_neg e]; exact num_le_128 q

/-- The row of 32 followed by lanes that never win. -/
def wide (R : Fin 32 → EReal) (j : Fin 128) : EReal := if h : j.val < 32 then R ⟨j.val, h⟩ else ⊥

/-- Position `e` as a lane. -/
def up (e : Fin 32) : Fin 128 := ⟨e.val, by have := e.isLt; omega⟩

theorem wide_up (R : Fin 32 → EReal) (e : Fin 32) : wide R (up e) = R e := dif_pos e.isLt

variable (R : Fin 32 → EReal) (hR : ∀ e, ⊥ < R e) (p : Fin 32 → Fin 32) (hp : Function.Surjective p)
  (hlex : ∀ i j, i < j → Lex R (p i) (p j))

/-- The row after `k` rounds: the `k` positions picked are out of the way. -/
def after (k : Nat) (j : Fin 128) : EReal := if ∃ i : Fin 32, i.val < k ∧ j = up (p i) then ⊥ else wide R j

theorem after_zero : after R p 0 = wide R := by
  funext j
  unfold after
  rw [if_neg]
  rintro ⟨i, h, _⟩
  exact absurd h (Nat.not_lt_zero _)

theorem up_inj {a b : Fin 32} (h : up a = up b) : a = b := Fin.ext (by have := congrArg Fin.val h; exact this)

section picks
include hR hp hlex

theorem p_inj {i j : Fin 32} (h : p i = p j) : i = j := by
  rcases lt_trichotomy i j with l | l | l
  · rcases hlex i j l with x | ⟨_, x⟩
    · rw [h] at x; exact absurd x (lt_irrefl _)
    · rw [h] at x; exact absurd x (lt_irrefl _)
  · exact l
  · rcases hlex j i l with x | ⟨_, x⟩
    · rw [h] at x; exact absurd x (lt_irrefl _)
    · rw [h] at x; exact absurd x (lt_irrefl _)

theorem after_self (k : Fin 32) : after R p k.val (up (p k)) = R (p k) := by
  unfold after
  rw [if_neg, wide_up]
  rintro ⟨i, h, e⟩
  have := p_inj R hR p hp hlex (up_inj e)
  rw [this] at h
  exact absurd h (lt_irrefl _)

/-- A lane still in play after `k` rounds is bottom or a position the sort puts at `k` or later. -/
theorem after_cases (k : Fin 32) (j : Fin 128) :
    after R p k.val j = ⊥ ∨ ∃ i, k ≤ i ∧ j = up (p i) ∧ after R p k.val j = R (p i) := by
  unfold after
  split
  · exact Or.inl rfl
  · rename_i h
    unfold wide
    split
    · rename_i hj
      obtain ⟨i, hi⟩ := hp ⟨j.val, hj⟩
      have ej : j = up (p i) := by rw [hi]; rfl
      exact Or.inr ⟨i, not_lt.mp fun hlt => h ⟨i, hlt, ej⟩, ej, by rw [hi]⟩
    · exact Or.inl rfl

theorem after_le (k : Fin 32) (j : Fin 128) : after R p k.val j ≤ after R p k.val (up (p k)) := by
  rw [after_self R hR p hp hlex]
  rcases after_cases R hR p hp hlex k j with h | ⟨i, hi, _, h⟩
  · rw [h]; exact bot_le
  · rw [h]
    rcases lt_or_eq_of_le hi with l | l
    · rcases hlex k i l with x | ⟨x, _⟩
      · exact x.le
      · exact x.ge
    · rw [l]

theorem after_first (k : Fin 32) (j : Fin 128) (h : after R p k.val j = after R p k.val (up (p k))) : up (p k) ≤ j := by
  rw [after_self R hR p hp hlex] at h
  rcases after_cases R hR p hp hlex k j with h' | ⟨i, hi, ej, h'⟩
  · rw [h'] at h; exact absurd (hR (p k)) (by rw [← h]; exact lt_irrefl _)
  · rcases lt_or_eq_of_le hi with l | l
    · rcases hlex k i l with x | ⟨_, x⟩
      · rw [h'] at h; rw [h] at x; exact absurd x (lt_irrefl _)
      · rw [ej]; exact x.le
    · rw [ej, l]

theorem mx_after (k : Fin 32) : mx (after R p k.val) = R (p k) := by
  rw [mx_eq _ _ (after_le R hR p hp hlex k), after_self R hR p hp hlex]

theorem fst_after (k : Fin 32) : fst (after R p k.val) = num (up (p k)) :=
  fst_eq _ _ (after_le R hR p hp hlex k) (after_first R hR p hp hlex k)

theorem nxt_after (k : Fin 32) : nxt (after R p k.val) = after R p (k.val + 1) := by
  funext j
  unfold nxt
  rw [fst_after R hR p hp hlex]
  by_cases e : j = up (p k)
  · rw [if_pos (by rw [e])]
    unfold after
    rw [if_pos ⟨k, Nat.lt_succ_self _, e⟩]
  · rw [if_neg fun h => e (num_inj h)]
    unfold after
    refine if_congr ⟨fun ⟨i, hi, ei⟩ => ⟨i, Nat.lt_succ_of_lt hi, ei⟩, fun ⟨i, hi, ei⟩ => ⟨i, ?_, ei⟩⟩ rfl rfl
    rcases Nat.lt_succ_iff_lt_or_eq.mp hi with l | l
    · exact l
    · exact absurd (by rw [ei, Fin.ext l]) e

end picks

end Cert.Top
-- ==== Proof.Route.lean ====
/- The kernel's four rounds, read at an index. -/
module

public import proofs.«01_k».proof.Proof.Pay
public import proofs.«01_k».proof.Proof.Top

@[expose] public section

set_option maxRecDepth 16384

noncomputable section

namespace Cert.Mid

open Idealize.ShloMosaic Idealize.ShloMosaic.TcCoe Idealize.SL.Sem Cert.KernelIdeal Cert.KernelIdeal.Gen Cert.Top

theorem ofBits_pos_inf : Ideal.ofBits .f32 0x7F800000#32 = ⊤ := by simp [Ideal.ofBits, Ideal.ieee]

theorem ofBits_128 : Ideal.ofBits .f32 0x43000000#32 = ((128 : ℝ) : EReal) := by
  simp [Ideal.ofBits, Ideal.ieee]
  rw [← EReal.coe_mul]
  norm_num

theorem taken_eq : (Named.named κ "taken" 0xFF61B1E6#32 : Ideal .f32) = (⊥ : EReal) :=
  IdealRules.named_const.ideal_named_scalar _ _ _ _ rfl

theorem mask_eq : (Named.named κ "mask" 0xF149F2CA#32 : Ideal .f32) = (⊥ : EReal) :=
  IdealRules.named_const.ideal_named_scalar _ _ _ _ rfl

theorem sitofp_num (j : Fin 128) : (FloatOps.sitofp .f32 (BitVec.ofNat 32 j.val) : Ideal .f32) = num j := by
  have e : ∀ j : Fin 128, (BitVec.ofNat 32 j.val).toInt = (j.val : Int) := by decide +kernel
  show (((BitVec.ofNat 32 j.val).toInt : ℝ) : EReal) = num j
  rw [e]
  unfold num
  norm_cast

theorem pay15_at (j : Fin 128) : k0_pay15 (F := Ideal) (ix2 0 j) = num j := by
  refine Eq.trans ?_ (sitofp_num j)
  pointwise [k0_pay15]

variable (a : FVec Ideal S1x2048 .f32) (b : FVec Ideal S256x2048 .f32) (w : Vec Ideal S2048x128 .f32) (d : Vec Ideal S1x128 .f32)

theorem pay18_at (r : Fin 256) : k0_pay18 (F := Ideal) a b w d (ix2 r 0) = mx fun j => k0_pay14 (F := Ideal) a b w d (ix2 r j) := by
  unfold mx
  rw [← ofBits_neg_inf]
  pointwise [k0_pay18]

theorem pay19_at (r : Fin 256) : k0_pay19 (F := Ideal) a b w d (ix2 r 0) = fst fun j => k0_pay14 (F := Ideal) a b w d (ix2 r j) := by
  unfold fst
  rw [← pay18_at, ← ofBits_pos_inf, ← ofBits_128]
  simp only [← pay15_at]
  pointwise [k0_pay19]

section rounds
variable (L : FVec Ideal S256x128 .f32) (f : FVec Ideal S256x1 .f32) (r : Fin 256)
  (hf : f (ix2 r 0) = fst fun j => L (ix2 r j))
include hf

theorem pay21_at (j : Fin 128) : k0_pay21 L k0_pay15 f (ix2 r j) = nxt (fun j => L (ix2 r j)) j := by
  unfold nxt
  rw [← hf, ← pay15_at, ← taken_eq]
  pointwise [k0_pay21]

theorem pay22_at : k0_pay22 L k0_pay15 f (ix2 r 0) = mx (nxt fun j => L (ix2 r j)) := by
  rw [← funext fun j => pay21_at L f r hf j]
  unfold mx
  rw [← ofBits_neg_inf]
  pointwise [k0_pay22]

theorem pay23_at : k0_pay23 L k0_pay15 f (ix2 r 0) = fst (nxt fun j => L (ix2 r j)) := by
  unfold fst
  rw [← pay22_at L f r hf, ← ofBits_pos_inf, ← ofBits_128]
  simp only [← pay15_at, ← pay21_at L f r hf]
  pointwise [k0_pay23]

theorem pay26_at (j : Fin 128) : k0_pay26 L k0_pay15 f (ix2 r j) = nxt (nxt fun j => L (ix2 r j)) j := by
  rw [nxt_def, ← pay23_at L f r hf, ← pay15_at, ← taken_eq, ← pay21_at L f r hf]
  pointwise [k0_pay26]

theorem pay27_at : k0_pay27 L k0_pay15 f (ix2 r 0) = mx (nxt (nxt fun j => L (ix2 r j))) := by
  rw [← funext fun j => pay26_at L f r hf j]
  unfold mx
  rw [← ofBits_neg_inf]
  pointwise [k0_pay27]

theorem pay29_at : k0_pay29 (F := Ideal) k0_pay15 (k0_pay28 L k0_pay15 f) (Scalar.ofBits .f32 0x43000000#32) (ix2 r 0)
    = fst (nxt (nxt fun j => L (ix2 r j))) := by
  unfold fst
  rw [← pay27_at L f r hf, ← ofBits_pos_inf, ← ofBits_128]
  simp only [← pay15_at, ← pay26_at L f r hf]
  pointwise [k0_pay29, k0_pay28]

theorem pay30_at (j : Fin 128) : k0_pay30 (F := Ideal) k0_pay15 (k0_pay26 L k0_pay15 f) (k0_pay28 L k0_pay15 f) (Scalar.ofBits .f32 0x43000000#32) (ix2 r j)
    = nxt (nxt (nxt fun j => L (ix2 r j))) j := by
  rw [nxt_def, ← pay29_at L f r hf, ← pay15_at, ← taken_eq, ← pay26_at L f r hf]
  pointwise [k0_pay30]

theorem pay31_at : k0_pay31 (F := Ideal) k0_pay15 (k0_pay26 L k0_pay15 f) (k0_pay28 L k0_pay15 f) (Scalar.ofBits .f32 0x43000000#32) (ix2 r 0)
    = mx (nxt (nxt (nxt fun j => L (ix2 r j)))) := by
  rw [← funext fun j => pay30_at L f r hf j]
  unfold mx
  rw [← ofBits_neg_inf]
  pointwise [k0_pay31]

end rounds

/-! ## The lanes selected -/

theorem sel_eq {α : Type} (j k : Fin 128) (x y : α) :
    Scalar.select (IntOp.cmpi .eq (BitVec.ofNat 32 j.val) (BitVec.ofNat 32 k.val)) x y = if j = k then x else y := by
  have e : ∀ j k : Fin 128, IntOp.cmpi .eq (BitVec.ofNat 32 j.val) (BitVec.ofNat 32 k.val) = if j = k then 1#1 else 0#1 := by decide +kernel
  rw [e]
  by_cases h : j = k
  · rw [if_pos h, if_pos h]; rfl
  · rw [if_neg h, if_neg h]; rfl

theorem sel_lt {α : Type} (j k : Fin 128) (x y : α) :
    Scalar.select (IntOp.cmpi .slt (BitVec.ofNat 32 j.val) (BitVec.ofNat 32 k.val)) x y = if j < k then x else y := by
  have e : ∀ j k : Fin 128, IntOp.cmpi .slt (BitVec.ofNat 32 j.val) (BitVec.ofNat 32 k.val) = if j < k then 1#1 else 0#1 := by decide +kernel
  rw [e]
  by_cases h : j < k
  · rw [if_pos h, if_pos h]; rfl
  · rw [if_neg h, if_neg h]; rfl

/-- Lane `k < 4` takes the `k`-th of four, the others the filler. -/
def quad (z x0 x1 x2 x3 : EReal) (j : Fin 128) : EReal :=
  if j = 3 then x3 else if j = 2 then x2 else if j = 1 then x1 else if j = 0 then x0 else z

/-- The iota payload of the body. -/
abbrev lanes : IVec S1x128 32 := iota .tc S1x128 32 [1] iota_S1x128_d1_w32

section select
variable (L : FVec Ideal S256x128 .f32) (f : FVec Ideal S256x1 .f32) (r : Fin 256)
  (hf : f (ix2 r 0) = fst fun j => L (ix2 r j))
include hf

theorem pay24_at (j : Fin 128) : k0_pay24 (F := Ideal) lanes L k0_pay15 k0_pay16 f k0_pay20 (ix2 r j)
    = if j = 1 then fst (nxt fun j => L (ix2 r j)) else if j = 0 then fst (fun j => L (ix2 r j)) else 0 := by
  rw [← pay23_at L f r hf, ← hf, ← sel_eq j 1, ← sel_eq j 0]
  pointwise [k0_pay24, k0_pay20, k0_pay16]

theorem pay25_at (g : FVec Ideal S256x1 .f32) (j : Fin 128) : k0_pay25 (F := Ideal) lanes L k0_pay15 k0_pay17 g f (ix2 r j)
    = if j = 1 then mx (nxt fun j => L (ix2 r j)) else if j = 0 then g (ix2 r 0) else ⊥ := by
  rw [← pay22_at L f r hf, ← sel_eq j 1, ← sel_eq j 0, ← mask_eq]
  pointwise [k0_pay25, k0_pay17]

theorem pay32_at (q : FVec Ideal S256x128 .f32) (j : Fin 128) :
    k0_pay32 (F := Ideal) lanes k0_pay15 q (k0_pay26 L k0_pay15 f) (k0_pay28 L k0_pay15 f) (Scalar.ofBits .f32 0x43000000#32) (ix2 r j)
    = if j = 3 then fst (nxt (nxt (nxt fun j => L (ix2 r j)))) else if j = 2 then fst (nxt (nxt fun j => L (ix2 r j))) else q (ix2 r j) := by
  rw [← pay29_at L f r hf, ← sel_eq j 3, ← sel_eq j 2]
  unfold fst
  rw [← pay31_at L f r hf, ← ofBits_pos_inf, ← ofBits_128]
  simp only [← pay15_at, ← pay30_at L f r hf]
  pointwise [k0_pay32]

theorem pay33_at (q : FVec Ideal S256x128 .f32) (j : Fin 128) :
    k0_pay33 (F := Ideal) lanes k0_pay15 q (k0_pay26 L k0_pay15 f) (k0_pay27 L k0_pay15 f) (k0_pay28 L k0_pay15 f) (Scalar.ofBits .f32 0x43000000#32) (ix2 r j)
    = if j = 3 then mx (nxt (nxt (nxt fun j => L (ix2 r j)))) else if j = 2 then mx (nxt (nxt fun j => L (ix2 r j))) else q (ix2 r j) := by
  rw [← pay27_at L f r hf, ← pay31_at L f r hf, ← sel_eq j 3, ← sel_eq j 2]
  pointwise [k0_pay33]

end select

theorem pay1_at (L : FVec Ideal S256x128 .f32) (r : Fin 256) (j : Fin 128) : k0_pay1 L (ix2 r j) = FloatOps.fptosi 32 (L (ix2 r j)) := by
  pointwise [k0_pay1]

/-- The gate of a row of values. -/
def gateRow (V : Fin 128 → EReal) (j : Fin 128) : EReal :=
  Ideal.div (if j < 4 then Ideal.exp (V j - mx V) else 0) (∑ x, if x < 4 then Ideal.exp (V x - mx V) else 0)

theorem pay2_at (L : FVec Ideal S256x128 .f32) (r : Fin 256) (j : Fin 128) :
    k0_pay2 lanes L k0_pay34 (ix2 r j) = gateRow (fun j => L (ix2 r j)) j := by
  unfold gateRow mx
  simp only [← sel_lt]
  rw [← ofBits_neg_inf]
  pointwise [k0_pay2, k0_pay34]

end Cert.Mid
-- ==== Proof.Soft.lean ====
/- Dividing the softmax weights before or after they are summed against the values: the same row when the scores are real. -/
module

public import proofs.«01_k».proof.Proof.Spec

@[expose] public section

noncomputable section

namespace Cert.Mid

open Idealize.ShloMosaic

/-- An extended real that is a real number. -/
def Fin' (x : EReal) : Prop := ∃ r : ℝ, x = (r : EReal)

theorem Fin'.mul {x y : EReal} (hx : Fin' x) (hy : Fin' y) : Fin' (x * y) := by
  obtain ⟨a, rfl⟩ := hx; obtain ⟨b, rfl⟩ := hy; exact ⟨a * b, (EReal.coe_mul a b).symm⟩

theorem Fin'.add {x y : EReal} (hx : Fin' x) (hy : Fin' y) : Fin' (x + y) := by
  obtain ⟨a, rfl⟩ := hx; obtain ⟨b, rfl⟩ := hy; exact ⟨a + b, (EReal.coe_add a b).symm⟩

theorem Fin'.sub {x y : EReal} (hx : Fin' x) (hy : Fin' y) : Fin' (x - y) := by
  obtain ⟨a, rfl⟩ := hx; obtain ⟨b, rfl⟩ := hy; exact ⟨a - b, (EReal.coe_sub a b).symm⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.sum {ι : Type*} {s : Finset ι} {f : ι → EReal} (h : ∀ i ∈ s, Fin' (f i)) : Fin' (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem fin_of_abs_lt {x : EReal} (h : max x (-x) < ⊤) : Fin' x := by
  induction x with
  | bot => simp at h
  | top => simp at h
  | coe r => exact ⟨r, rfl⟩

/-- The greatest of real scores is one of them. -/
theorem top_mem (s : Fin 256 → EReal) : ∃ m, top s = s m := by
  obtain ⟨m, _, hm⟩ := Finset.exists_mem_eq_sup Finset.univ ⟨0, Finset.mem_univ _⟩ s
  exact ⟨m, hm⟩

theorem ex_real {s : Fin 256 → EReal} (h : ∀ m, Fin' (s m)) (m : Fin 256) : ∃ r : ℝ, 0 < r ∧ ex s m = (r : EReal) := by
  obtain ⟨m', hm'⟩ := top_mem s
  obtain ⟨r, hr⟩ := (h m).sub (h m')
  refine ⟨Real.exp r, Real.exp_pos r, ?_⟩
  unfold ex
  rw [hm', hr]; rfl

theorem sum_ex_real {s : Fin 256 → EReal} (h : ∀ m, Fin' (s m)) : ∃ r : ℝ, 0 < r ∧ ∑ m, ex s m = (r : EReal) := by
  choose f hf0 hf using ex_real h
  refine ⟨∑ m, f m, Finset.sum_pos (fun m _ => hf0 m) ⟨0, Finset.mem_univ _⟩, ?_⟩
  rw [coe_sum]; exact Finset.sum_congr rfl fun m _ => hf m

/-- A sum times a real that is not negative, at every extended real. -/
theorem sum_mul_real {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

theorem soft (s : Fin 256 → EReal) (v : Fin 256 → EReal) (h : ∀ m, Fin' (s m)) :
    ∑ m, v m * Ideal.div (ex s m) (∑ m, ex s m) = Ideal.div (∑ m, ex s m * v m) (∑ m, ex s m) := by
  obtain ⟨D, hD, hs⟩ := sum_ex_real h
  rw [hs]
  simp only [Ideal.div_coe hD.ne']
  rw [sum_mul_real _ _ (by positivity)]
  refine Finset.sum_congr rfl fun m _ => ?_
  rw [mul_comm (ex s m) (v m), mul_assoc]

end Cert.Mid
-- ==== Proof.Ref.lean ====
/- The reference's cross-attention, read at an index. -/
module

public import proofs.«01_k».proof.Proof.Soft
public import proofs.«01_k».proof.Proof.Gen.ReferenceIdeal.Read

@[expose] public section

set_option maxRecDepth 16384

noncomputable section

namespace Cert.Mid

open Idealize.ShloMosaic Idealize.ShloMosaic.TcCoe Idealize.SL.Sem Cert.ReferenceIdeal Cert.ReferenceIdeal.Read

variable (x0 : FVec Ideal S2x8192x2048 .f32) (x1 x2 : FVec Ideal S16384x1024 .bf16) (x3 x4 : FVec Ideal S512x512 .bf16)
  (x5 : FVec Ideal S2048x2048 .f32) (x6 : FVec Ideal S2048 .f32) (x7 : FVec Ideal S2048x512 .f32)
  (x8 : FVec Ideal S512x2048 .f32) (x9 : FVec Ideal S2048 .f32)

theorem lane_eq : lane = fun h e => (⟨h.val * 128 + e.val, by have := h.isLt; have := e.isLt; omega⟩ : Fin 512) := by
  funext h e; unfold lane; exact Fin.ext (congrArg (· + e.val) (Nat.mul_comm 128 h.val))

/-- A host maximum over the last of four axes is the fold of `max` along it. -/
theorem reduce4 {n0 n1 n2 n3 : Nat} (X : FVec Ideal ⟨4, ![n0, n1, n2, n3]⟩ .f32) (c : FVec Ideal S_ .f32)
    (h : (⟨4, ![n0, n1, n2, n3]⟩ : Shape).ReducesTo [3] ⟨3, ![n0, n1, n2]⟩) (hu : 0 < S_.numel) (a : Fin n0) (b : Fin n1) (d : Fin n2) :
    Host.reduce FloatOps.maximumf X c h hu (ix3 a b d)
      = Finset.univ.fold max (c (Shape.Idx.first hu)) fun k => X (ix4 a b d k) := by
  simp only [pointwise]

theorem ref4_at (i : Fin 16384) (c : Fin 2048) :
    val_main_v4 (F := Ideal) x0 x1 x2 x5 (ix2 i c)
      = x1Row (fun c => x0 (ix3 ⟨i.val / 8192, by have := i.isLt; omega⟩ ⟨i.val % 8192, by omega⟩ c)) (fun k => x1 (ix2 i k)) (fun k => x2 (ix2 i k))
          (fun k c => x5 (ix2 ⟨k.val, by have := k.isLt; omega⟩ c)) (fun k c => x5 (ix2 ⟨1024 + k.val, by have := k.isLt; omega⟩ c)) c := by
  unfold x1Row
  pointwise [val_main_v4, val_main_v3, val_main_v2, val_main_v1, val_main_v0]
  exact (add_assoc _ _ _).symm

theorem ref17_at (i : Fin 16384) (c : Fin 2048) :
    val_main_v17 (F := Ideal) x0 x1 x2 x5 x6 (ix2 i c)
      = rmsRow (fun c => val_main_v4 (F := Ideal) x0 x1 x2 x5 (ix2 i c)) (fun c => x6 (ix1 c)) c := by
  unfold rmsRow rmsScale
  pointwise [val_main_v17, val_main_v16, val_main_v15, val_main_v14, val_main_v13, val_main_v12, val_main_v11, val_main_v10, val_main_v9, val_main_v8, val_main_v7, val_main_v6, val_main_v5, val_main_cst, val_main_cst_0, val_main_cst_1]

theorem ref21_at (b : Fin 2) (s : Fin 8192) (h : Fin 4) (e : Fin 128) :
    val_main_v21 (F := Ideal) x0 x1 x2 x5 x6 x7 (ix4 b s h e)
      = qRow (fun c => val_main_v17 (F := Ideal) x0 x1 x2 x5 x6 (ix2 ⟨b.val * 8192 + s.val, by have := b.isLt; have := s.isLt; omega⟩ c)) (fun k j => x7 (ix2 k j)) (lane h e) := by
  unfold qRow
  rw [lane_eq]
  pointwise [val_main_v21, val_main_v20, val_main_v19, val_main_v18, val_main_cst_2]

theorem ref26_at (b : Fin 2) (h : Fin 4) (s : Fin 8192) (m : Fin 256) :
    val_main_v26 (F := Ideal) x0 x1 x2 x3 x5 x6 x7 (ix4 b h s m)
      = ∑ e, val_main_v21 (F := Ideal) x0 x1 x2 x5 x6 x7 (ix4 b s h e) * x3 (ix2 ⟨b.val * 256 + m.val, by have := b.isLt; have := m.isLt; omega⟩ (lane h e)) := by
  rw [lane_eq]
  pointwise [val_main_v26, val_main_v22, val_main_v23]

theorem ref27_at (b : Fin 2) (h : Fin 4) (s : Fin 8192) :
    val_main_v27 (F := Ideal) x0 x1 x2 x3 x5 x6 x7 (ix3 b h s)
      = top fun m => val_main_v26 (F := Ideal) x0 x1 x2 x3 x5 x6 x7 (ix4 b h s m) := by
  unfold val_main_v27 top
  generalize val_main_v26 (F := Ideal) x0 x1 x2 x3 x5 x6 x7 = X
  rw [reduce4]
  exact congrArg (fun z => Finset.univ.fold max z fun m => X (ix4 b h s m)) ofBits_neg_inf

theorem ref33_at (b : Fin 2) (h : Fin 4) (s : Fin 8192) (m : Fin 256) :
    val_main_v33 (F := Ideal) x0 x1 x2 x3 x5 x6 x7 (ix4 b h s m)
      = ex (fun m => val_main_v26 (F := Ideal) x0 x1 x2 x3 x5 x6 x7 (ix4 b h s m)) m := by
  unfold ex
  rw [← ref27_at]
  rw [val_main_v33_apply, val_main_v32_apply, val_main_v31_apply, val_main_v30_apply, val_main_v29_apply, val_main_v28_apply]
  have e : idx_main_v30 (idx_main_v31 (ix4 b h s m)) = ix3 b h s := by
    funext a
    match a with
    | ⟨0, _⟩ => rfl
    | ⟨1, _⟩ => rfl
    | ⟨2, _⟩ => rfl
  rw [e]
  beta_reduce
  generalize val_main_v26 (F := Ideal) x0 x1 x2 x3 x5 x6 x7 (ix4 b h s m) = A
  generalize val_main_v27 (F := Ideal) x0 x1 x2 x3 x5 x6 x7 (ix3 b h s) = B
  show Ideal.exp (A - max (Ideal.ofBits .f32 0xFF800000#32) B) = Ideal.exp (A - B)
  rw [ofBits_neg_inf, max_eq_right bot_le]

theorem ref40_at (i : Fin 16384) (j : Fin 512) :
    val_main_v40 (F := Ideal) x0 x1 x2 x3 x4 x5 x6 x7 (ix2 i j)
      = ∑ m, x4 (ix2 ⟨i.val / 8192 * 256 + m.val, by have := i.isLt; have := m.isLt; omega⟩ j)
          * Ideal.div (val_main_v33 (F := Ideal) x0 x1 x2 x3 x5 x6 x7 (ix4 ⟨i.val / 8192, by have := i.isLt; omega⟩ ⟨j.val / 128, by have := j.isLt; omega⟩ ⟨i.val % 8192, by omega⟩ m))
             (∑ m, val_main_v33 (F := Ideal) x0 x1 x2 x3 x5 x6 x7 (ix4 ⟨i.val / 8192, by have := i.isLt; omega⟩ ⟨j.val / 128, by have := j.isLt; omega⟩ ⟨i.val % 8192, by omega⟩ m)) := by
  pointwise [val_main_v40, val_main_v39, val_main_v38, val_main_v37, val_main_v36, val_main_v35, val_main_v34, val_main_v25, val_main_v24, val_main_cst_5]

theorem ref42_at (i : Fin 16384) (c : Fin 2048) :
    val_main_v42 (F := Ideal) x0 x1 x2 x3 x4 x5 x6 x7 x8 (ix2 i c)
      = val_main_v4 (F := Ideal) x0 x1 x2 x5 (ix2 i c)
        + ∑ j, val_main_v40 (F := Ideal) x0 x1 x2 x3 x4 x5 x6 x7 (ix2 i j) * x8 (ix2 j c) := by
  pointwise [val_main_v42, val_main_v41]

theorem ref55_at (i : Fin 16384) (c : Fin 2048) :
    val_main_v55 (F := Ideal) x0 x1 x2 x3 x4 x5 x6 x7 x8 x9 (ix2 i c)
      = rmsRow (fun c => val_main_v42 (F := Ideal) x0 x1 x2 x3 x4 x5 x6 x7 x8 (ix2 i c)) (fun c => x9 (ix1 c)) c := by
  unfold rmsRow rmsScale
  pointwise [val_main_v55, val_main_v54, val_main_v53, val_main_v52, val_main_v51, val_main_v50, val_main_v49, val_main_v48, val_main_v47, val_main_v46, val_main_v45, val_main_v44, val_main_v43, val_main_cst_6, val_main_cst_7, val_main_cst_8]

end Cert.Mid
-- ==== Proof.RefTop.lean ====
/- The reference's routing, read at an index. -/
module

public import proofs.«01_k».proof.Proof.Ref
public import proofs.«01_k».proof.Proof.Top

@[expose] public section

set_option maxRecDepth 16384

noncomputable section

namespace Cert.Mid

open Idealize.ShloMosaic Idealize.ShloMosaic.TcCoe Idealize.SL.Sem Cert.ReferenceIdeal Cert.ReferenceIdeal.Read

/-- The sort's comparator on a row's positions. -/
def before (R : Fin 32 → EReal) (k k' : Fin 32) : Bool := Ideal.cmp CmpDirection.gt.ordered (R k) (R k') == 1#1

theorem before_iff (R : Fin 32 → EReal) (k k' : Fin 32) : before R k k' = true ↔ R k' < R k := by
  unfold before
  simp only [Ideal.cmp, CmpDirection.ordered, beq_iff_eq]
  by_cases h : R k' < R k <;> simp [h]

/-- The position of the row's `k`-th greatest, equal ones in their own order. -/
def pick (R : Fin 32 → EReal) : Fin 32 → Fin 32 := sortedFrom (before R)

theorem pick_surj (R : Fin 32 → EReal) : Function.Surjective (pick R) := sortedFrom_surjective _

theorem pick_lex (R : Fin 32 → EReal) (i j : Fin 32) (h : i < j) : Top.Lex R (pick R i) (pick R j) :=
  Top.sortedFrom_lex R (before R) (before_iff R) i j h

/-- Rank `j` of four as a rank of 32. -/
def rank (j : Fin 4) : Fin 32 := ⟨j.val, by have := j.isLt; omega⟩

theorem along_ix2 (i : Fin 16384) (j k : Fin 32) : (ix2 i j : S16384x32.Idx).along (1 : Fin 2) k = ix2 i k := by
  funext a
  match a with
  | ⟨0, _⟩ => rfl
  | ⟨1, _⟩ => rfl

theorem topK_val (X : FVec Ideal S16384x32 .f32) (h : S16384x32.Slices (fun _ => 0) S16384x4) (i : Fin 16384) (j : Fin 4) :
    (Host.topK S16384x4 1 (FloatOps.cmpfTotal CmpDirection.gt) X h).1 (ix2 i j)
      = X (ix2 i (pick (fun e => X (ix2 i e)) (rank j))) := by
  unfold Host.topK Host.sort2
  simp only [show (1 : Nat) < S16384x32.rank from by decide, dif_pos]
  unfold extractStridedSlice
  have e : (fun a : Fin 2 => (⟨0 + ((ix2 i j : S16384x4.Idx) (a.cast h.1.symm)).val, Nat.lt_of_lt_of_le (Nat.add_lt_add_left ((ix2 i j : S16384x4.Idx) _).isLt _) (h.2 a)⟩ : Fin (S16384x32.size a)))
      = (ix2 i (rank j) : S16384x32.Idx) := by
    funext a
    match a with
    | ⟨0, _⟩ => exact Fin.ext (Nat.zero_add _)
    | ⟨1, _⟩ => exact Fin.ext (Nat.zero_add _)
  have e2 : (⟨0 + ((ix2 i j : S16384x4.Idx) (Fin.cast h.1.symm (1 : Fin 2))).val, Nat.lt_of_lt_of_le (Nat.add_lt_add_left ((ix2 i j : S16384x4.Idx) _).isLt _) (h.2 1)⟩ : Fin 32) = rank j :=
    Fin.ext (Nat.zero_add _)
  beta_reduce
  erw [e]
  erw [e2]
  have key : ∀ f : (Fin 32 → Fin 32 → Bool) → Fin 32 → Fin 32,
      X ((ix2 i (rank j) : S16384x32.Idx).along (1 : Fin 2) (f (fun k k' => FloatOps.cmpfTotal (F := Ideal) (φ := .f32) CmpDirection.gt
        (X ((ix2 i (rank j) : S16384x32.Idx).along (1 : Fin 2) k)) (X ((ix2 i (rank j) : S16384x32.Idx).along (1 : Fin 2) k')) == 1#1) (rank j)))
      = X (ix2 i (f (before fun e => X (ix2 i e)) (rank j))) := by
    intro f
    simp only [along_ix2]
    rfl
  exact key sortedFrom

theorem topK_idx (X : FVec Ideal S16384x32 .f32) (h : S16384x32.Slices (fun _ => 0) S16384x4) (i : Fin 16384) (j : Fin 4) :
    (Host.topK S16384x4 1 (FloatOps.cmpfTotal CmpDirection.gt) X h).2 (ix2 i j)
      = BitVec.ofNat 32 (pick (fun e => X (ix2 i e)) (rank j)).val := by
  unfold Host.topK Host.sort2
  simp only [show (1 : Nat) < S16384x32.rank from by decide, dif_pos]
  unfold extractStridedSlice
  have e : (fun a : Fin 2 => (⟨0 + ((ix2 i j : S16384x4.Idx) (a.cast h.1.symm)).val, Nat.lt_of_lt_of_le (Nat.add_lt_add_left ((ix2 i j : S16384x4.Idx) _).isLt _) (h.2 a)⟩ : Fin (S16384x32.size a)))
      = (ix2 i (rank j) : S16384x32.Idx) := by
    funext a
    match a with
    | ⟨0, _⟩ => exact Fin.ext (Nat.zero_add _)
    | ⟨1, _⟩ => exact Fin.ext (Nat.zero_add _)
  have e2 : (⟨0 + ((ix2 i j : S16384x4.Idx) (Fin.cast h.1.symm (1 : Fin 2))).val, Nat.lt_of_lt_of_le (Nat.add_lt_add_left ((ix2 i j : S16384x4.Idx) _).isLt _) (h.2 1)⟩ : Fin 32) = rank j :=
    Fin.ext (Nat.zero_add _)
  beta_reduce
  erw [e]
  erw [e2]
  have key : ∀ f : (Fin 32 → Fin 32 → Bool) → Fin 32 → Fin 32,
      BitVec.ofNat 32 (((ix2 i (rank j) : S16384x32.Idx).along (1 : Fin 2) (f (fun k k' => FloatOps.cmpfTotal (F := Ideal) (φ := .f32) CmpDirection.gt
        (X ((ix2 i (rank j) : S16384x32.Idx).along (1 : Fin 2) k)) (X ((ix2 i (rank j) : S16384x32.Idx).along (1 : Fin 2) k')) == 1#1) (rank j))) (1 : Fin 2)).val
      = BitVec.ofNat 32 (f (before fun e => X (ix2 i e)) (rank j)).val := by
    intro f
    simp only [along_ix2]
    rfl
  exact key sortedFrom

end Cert.Mid
-- ==== Proof.Gate.lean ====
/- The four picks and the gate over them: what the rounds leave in the lanes, as the sort's four first. -/
module

public import proofs.«01_k».proof.Proof.Route
public import proofs.«01_k».proof.Proof.RefTop

@[expose] public section

noncomputable section

namespace Cert.Mid

open Idealize.ShloMosaic Cert.Top

theorem quad_eq (z : EReal) (a : Fin 4 → EReal) (j : Fin 128) :
    quad z (a 0) (a 1) (a 2) (a 3) j = if h : j.val < 4 then a ⟨j.val, h⟩ else z := by
  unfold quad
  obtain ⟨n, hn⟩ := j
  by_cases h : n < 4
  · rw [dif_pos h]
    match n, h with
    | 0, _ => rfl
    | 1, _ => rfl
    | 2, _ => rfl
    | 3, _ => rfl
  · rw [dif_neg h, if_neg, if_neg, if_neg, if_neg] <;>
      (intro e; have := congrArg Fin.val e; simp at this; omega)

section
variable (R : Fin 32 → EReal) (hR : ∀ e, ⊥ < R e)
include hR

theorem rounds_after : nxt (wide R) = after R (pick R) 1 ∧ nxt (nxt (wide R)) = after R (pick R) 2
    ∧ nxt (nxt (nxt (wide R))) = after R (pick R) 3 := by
  have h0 : nxt (wide R) = after R (pick R) 1 := by
    rw [← after_zero R (pick R)]; exact nxt_after R hR (pick R) (pick_surj R) (pick_lex R) 0
  have h1 : nxt (nxt (wide R)) = after R (pick R) 2 := by
    rw [h0]; exact nxt_after R hR (pick R) (pick_surj R) (pick_lex R) 1
  exact ⟨h0, h1, by rw [h1]; exact nxt_after R hR (pick R) (pick_surj R) (pick_lex R) 2⟩

theorem fst0 : fst (wide R) = num (up (pick R (rank 0))) := by
  rw [← after_zero R (pick R)]; exact fst_after R hR (pick R) (pick_surj R) (pick_lex R) 0

theorem fst1 : fst (nxt (wide R)) = num (up (pick R (rank 1))) := by
  rw [(rounds_after R hR).1]; exact fst_after R hR (pick R) (pick_surj R) (pick_lex R) 1

theorem fst2 : fst (nxt (nxt (wide R))) = num (up (pick R (rank 2))) := by
  rw [(rounds_after R hR).2.1]; exact fst_after R hR (pick R) (pick_surj R) (pick_lex R) 2

theorem fst3 : fst (nxt (nxt (nxt (wide R)))) = num (up (pick R (rank 3))) := by
  rw [(rounds_after R hR).2.2]; exact fst_after R hR (pick R) (pick_surj R) (pick_lex R) 3

theorem mx0 : mx (wide R) = R (pick R (rank 0)) := by
  rw [← after_zero R (pick R)]; exact mx_after R hR (pick R) (pick_surj R) (pick_lex R) 0

theorem mx1 : mx (nxt (wide R)) = R (pick R (rank 1)) := by
  rw [(rounds_after R hR).1]; exact mx_after R hR (pick R) (pick_surj R) (pick_lex R) 1

theorem mx2 : mx (nxt (nxt (wide R))) = R (pick R (rank 2)) := by
  rw [(rounds_after R hR).2.1]; exact mx_after R hR (pick R) (pick_surj R) (pick_lex R) 2

theorem mx3 : mx (nxt (nxt (nxt (wide R)))) = R (pick R (rank 3)) := by
  rw [(rounds_after R hR).2.2]; exact mx_after R hR (pick R) (pick_surj R) (pick_lex R) 3

end

/-! ## The index of a lane as a word -/

theorem fptosi_nat (n : Nat) (h : n < 128) : Ideal.fptosi 32 ((n : ℝ) : EReal) = BitVec.ofNat 32 n := by
  unfold Ideal.fptosi
  rw [Ideal.toIntClamped_coe, if_pos (Nat.cast_nonneg n), Int.floor_natCast, min_eq_right (by norm_num; omega), max_eq_right (by norm_num)]
  exact BitVec.ofInt_natCast 32 n

theorem fptosi_num (j : Fin 128) : Ideal.fptosi 32 (num j) = BitVec.ofNat 32 j.val := fptosi_nat j.val j.isLt

theorem up_val (p : Fin 32) : (up p).val = p.val := rfl

theorem fptosi_up (p : Fin 32) : Ideal.fptosi 32 (num (up p)) = BitVec.ofNat 32 p.val := by
  rw [fptosi_num, up_val]

theorem fptosi_zero : Ideal.fptosi 32 (0 : EReal) = 0#32 := by
  have := fptosi_nat 0 (by omega)
  rw [Nat.cast_zero, EReal.coe_zero] at this
  exact this

/-! ## The gate -/

theorem sum_quad (f : Fin 4 → EReal) : ∑ x : Fin 128, (if h : x.val < 4 then f ⟨x.val, h⟩ else 0) = ∑ x, f x := by
  rw [← Finset.sum_subset (Finset.subset_univ (Finset.univ.map (Fin.castLEEmb (by omega : 4 ≤ 128))))]
  · rw [Finset.sum_map]
    exact Finset.sum_congr rfl fun x _ => dif_pos x.isLt
  · intro x _ hx
    refine dif_neg fun h => hx ?_
    exact Finset.mem_map.mpr ⟨⟨x.val, h⟩, Finset.mem_univ _, rfl⟩

theorem exp_nonneg (x : EReal) : 0 ≤ Ideal.exp x := by
  induction x with
  | bot => exact le_rfl
  | top => exact le_top
  | coe r =>
    show ((0 : ℝ) : EReal) ≤ ((Real.exp r : ℝ) : EReal)
    exact_mod_cast (Real.exp_pos r).le

/-- The gate row over four real values of which the first is greatest. -/
theorem gate_eq (a : Fin 4 → EReal) (h0 : Fin' (a 0)) (ha : ∀ k, a k ≤ a 0) (j : Fin 128) :
    gateRow (quad ⊥ (a 0) (a 1) (a 2) (a 3)) j
      = if h : j.val < 4 then Ideal.div (Ideal.exp (a ⟨j.val, h⟩ - max ⊥ (Finset.univ.fold max ⊥ a)))
          (0 + ∑ x, Ideal.exp (a x - max ⊥ (Finset.univ.fold max ⊥ a))) else 0 := by
  have hM : Finset.univ.fold max ⊥ a = a 0 :=
    le_antisymm ((Finset.fold_max_le _).mpr ⟨bot_le, fun k _ => ha k⟩) ((Finset.le_fold_max _).mpr (Or.inr ⟨0, Finset.mem_univ _, le_rfl⟩))
  have hV : mx (quad ⊥ (a 0) (a 1) (a 2) (a 3)) = a 0 := by
    refine mx_eq _ 0 fun j => ?_
    rw [quad_eq, quad_eq]
    rw [dif_pos (show ((0 : Fin 128).val < 4) from by decide)]
    by_cases h : j.val < 4
    · rw [dif_pos h]; exact ha _
    · rw [dif_neg h]; exact bot_le
  have hsum : ∑ x : Fin 128, (if x < 4 then Ideal.exp (quad ⊥ (a 0) (a 1) (a 2) (a 3) x - a 0) else 0) = ∑ x, Ideal.exp (a x - a 0) := by
    rw [← sum_quad]
    refine Finset.sum_congr rfl fun x _ => ?_
    rw [quad_eq]
    by_cases h : x.val < 4
    · rw [dif_pos h, dif_pos h, if_pos (show x < 4 from h)]
    · rw [dif_neg h, dif_neg h, if_neg (show ¬ x < 4 from h)]
  have hne : ∑ x, Ideal.exp (a x - a 0) ≠ 0 := by
    obtain ⟨r, hr⟩ := h0
    have h1 : Ideal.exp (a 0 - a 0) = 1 := by
      rw [hr, ← EReal.coe_sub, sub_self]
      show ((Real.exp 0 : ℝ) : EReal) = 1
      rw [Real.exp_zero]; rfl
    have h2 : (1 : EReal) ≤ ∑ x, Ideal.exp (a x - a 0) := by
      rw [← h1]
      exact Finset.single_le_sum (f := fun x => Ideal.exp (a x - a 0)) (fun x _ => exp_nonneg _) (Finset.mem_univ 0)
    intro h
    rw [h] at h2
    exact absurd h2 (by norm_num)
  unfold gateRow
  rw [hV, hsum, hM, max_eq_right bot_le, zero_add]
  by_cases h : j.val < 4
  · rw [dif_pos h, if_pos (show j < 4 from h), quad_eq, dif_pos h]
  · rw [dif_neg h, if_neg (show ¬ j < 4 from h)]
    unfold Ideal.div
    rw [if_neg hne, zero_mul]

theorem pick_le (R : Fin 32 → EReal) (k : Fin 4) : R (pick R (rank k)) ≤ R (pick R (rank 0)) := by
  by_cases h : k = 0
  · rw [h]
  · have hlt : rank 0 < rank k := by
      show (0 : Fin 4).val < k.val
      exact Nat.pos_of_ne_zero fun e => h (Fin.ext e)
    rcases pick_lex R _ _ hlt with x | ⟨x, _⟩
    · exact x.le
    · exact x.ge

end Cert.Mid
-- ==== Proof.Real.lean ====
/- What is finite: a normalised row, whatever the row, and what is computed from it with finite weights. -/
module

public import proofs.«01_k».proof.Proof.Soft

@[expose] public section

noncomputable section

namespace Cert.Mid

open Idealize.ShloMosaic

theorem ofBits_2048 : Ideal.ofBits .f32 0x45000000#32 = ((2048 : ℝ) : EReal) := by
  simp [Ideal.ofBits, Ideal.ieee]
  rw [← EReal.coe_mul]
  norm_num

theorem eps_pos : ∃ e : ℝ, 0 < e ∧ Ideal.ofBits .f32 0x3727C5AC#32 = (e : EReal) := by
  refine ⟨_, ?_, by simp [Ideal.ofBits, Ideal.ieee]; rw [← EReal.coe_mul]⟩
  norm_num

theorem scale_fin : Fin' (Ideal.ofBits .f32 0x3DB504F3#32) :=
  ⟨_, by simp [Ideal.ofBits, Ideal.ieee]; rw [← EReal.coe_mul]⟩

theorem sq_nonneg' (x : EReal) : 0 ≤ x * x := by
  induction x with
  | bot => simp
  | top => simp
  | coe r => rw [← EReal.coe_mul]; exact_mod_cast mul_self_nonneg r

theorem sq_top {x : EReal} (h : ¬ Fin' x) : x * x = ⊤ := by
  induction x with
  | bot => simp
  | top => simp
  | coe r => exact absurd ⟨r, rfl⟩ h

/-- The reciprocal root of a row's mean square is real, and zero where the row is not. -/
theorem rmsScale_cases (x : Fin 2048 → EReal) : rmsScale x = 0 ∨ (Fin' (rmsScale x) ∧ ∀ k, Fin' (x k)) := by
  obtain ⟨e, he, hE⟩ := eps_pos
  by_cases h : ∀ k, Fin' (x k)
  · right
    refine ⟨?_, h⟩
    choose f hf using h
    unfold rmsScale
    rw [hE, ofBits_2048]
    have : ∑ k, x k * x k = ((∑ k, f k * f k : ℝ) : EReal) := by
      rw [coe_sum]
      exact Finset.sum_congr rfl fun k _ => by rw [hf k, EReal.coe_mul]
    rw [this, Ideal.div_coe (by norm_num), ← EReal.coe_mul, ← EReal.coe_add]
    have hp : 0 < (∑ k, f k * f k) * (1 / 2048) + e := by
      have : 0 ≤ ∑ k, f k * f k := Finset.sum_nonneg fun k _ => mul_self_nonneg _
      positivity
    refine ⟨(Real.sqrt ((∑ k, f k * f k) * (1 / 2048) + e))⁻¹, ?_⟩
    show (if _ < 0 then ⊥ else if _ = 0 then ⊤ else _ : EReal) = _
    rw [if_neg hp.le.not_gt, if_neg hp.ne']
  · left
    simp only [not_forall] at h
    obtain ⟨k, hk⟩ := h
    have : ∑ k, x k * x k = ⊤ := by
      refine top_le_iff.mp ?_
      rw [← sq_top hk]
      exact Finset.single_le_sum (f := fun k => x k * x k) (fun i _ => sq_nonneg' _) (Finset.mem_univ k)
    unfold rmsScale
    rw [this, hE, ofBits_2048, Ideal.div_coe (by norm_num), EReal.top_mul_coe_of_pos (by norm_num), EReal.top_add_coe]
    rfl

theorem rmsRow_fin (x g : Fin 2048 → EReal) (hg : ∀ c, Fin' (g c)) (c : Fin 2048) : Fin' (rmsRow x g c) := by
  unfold rmsRow
  rcases rmsScale_cases x with h | ⟨h, hx⟩
  · rw [h, mul_zero, zero_mul]; exact ⟨0, by simp⟩
  · exact ((hx c).mul h).mul (hg c)

theorem qRow_fin (h : Fin 2048 → EReal) (wq : Fin 2048 → Fin 512 → EReal) (hh : ∀ k, Fin' (h k)) (hw : ∀ k j, Fin' (wq k j)) (j : Fin 512) :
    Fin' (qRow h wq j) := by
  unfold qRow
  exact (Fin'.sum fun k _ => (hh k).mul (hw k j)).mul scale_fin

end Cert.Mid
-- ==== Proof.Out.lean ====
/- The routing outputs' blocks, once the block's logits are known. -/
module

public import proofs.«01_k».proof.Proof.Gate
public import proofs.«01_k».proof.Proof.Body
public import proofs.«01_k».proof.Proof.Real

@[expose] public section

set_option maxRecDepth 16384

noncomputable section

namespace Cert.Mid

open Idealize.ShloMosaic Idealize.ShloMosaic.TcCoe Idealize.SL.Sem Cert.KernelIdeal Cert.KernelIdeal.Gen Cert.Top

/-- The kernel's logits: three products of the rows and weights split in two, with the residues zero. -/
theorem pay14_at (a : FVec Ideal S1x2048 .f32) (b : FVec Ideal S256x2048 .f32) (w : Vec Ideal S2048x128 .f32) (d : Vec Ideal S1x128 .f32)
    (r : Fin 256) (j : Fin 128) (h : Fin 2048 → EReal) (hh : ∀ k, k0_pay13 a b (ix2 r k) = h k) (hf : ∀ k, Fin' (h k)) (hw : ∀ k, Fin' (w (ix2 k j))) :
    k0_pay14 (F := Ideal) a b w d (ix2 r j) = ∑ k, h k * w (ix2 k j) + if j < 32 then d (ix2 0 j) else ⊥ := by
  have z : ∀ {x : EReal}, Fin' x → x - x = 0 := by
    rintro x ⟨y, rfl⟩
    rw [← EReal.coe_sub, sub_self]; rfl
  have e : k0_pay14 (F := Ideal) a b w d (ix2 r j) = (∑ k, k0_pay13 a b (ix2 r k) * w (ix2 k j) + ∑ k, k0_pay13 a b (ix2 r k) * (w (ix2 k j) - w (ix2 k j))
      + ∑ k, (k0_pay13 a b (ix2 r k) - k0_pay13 a b (ix2 r k)) * w (ix2 k j)) + if j < 32 then d (ix2 0 j) else ⊥ := by
    rw [← sel_lt, ← mask_eq]
    pointwise [k0_pay14]
  rw [e]
  simp only [hh, z (hf _), z (hw _), mul_zero, zero_mul, Finset.sum_const_zero, add_zero]

variable (x0 : Vec Ideal S256x2048 .f32) (x1 : Vec Ideal S256x1024 .bf16) (x2 : Vec Ideal S256x1024 .bf16) (x3 : Vec Ideal S2048x2048 .bf16) (x4 : Vec Ideal S1x2048 .f32) (x5 : Vec Ideal S2048x512 .bf16) (x6 : Vec Ideal S256x512 .bf16) (x7 : Vec Ideal S256x512 .bf16) (x8 : Vec Ideal S512x2048 .bf16) (x9 : Vec Ideal S1x2048 .f32) (x10 : Vec Ideal S2048x128 .f32) (x11 : Vec Ideal S1x128 .f32)

theorem ldw (k : Fin 2048) (j : Fin 128) : View.ld x10 r0_11 (ix2 k j) = x10 (ix2 k j) := by pointwise
theorem ldb (j : Fin 128) : View.ld x11 r0_12 (ix2 0 j) = x11 (ix2 0 j) := by pointwise

theorem pay45_at (r : Fin 256) (R : Fin 32 → EReal) (w : Fin 2048 → Fin 32 → EReal) (d : Fin 32 → EReal)
    (hg : ∀ c, Fin' (x9 (ix2 0 c))) (hw : ∀ k e, Fin' (w k e))
    (h10 : ∀ k (j : Fin 128), x10 (ix2 k j) = if h : j.val < 32 then w k ⟨j.val, h⟩ else 0)
    (h11 : ∀ (j : Fin 128) (h : j.val < 32), x11 (ix2 0 j) = d ⟨j.val, h⟩)
    (hR : ∀ e, R e = ∑ k, rmsRow (x2Blk x0 x1 x2 x3 x4 x5 x6 x7 x8 r) (fun c => x9 (ix2 0 c)) k * w k e + d e) (j : Fin 128) :
    k0_pay45 x0 x1 x2 x3 x4 x5 x6 x7 x8 x9 x10 x11 (ix2 r j) = wide R j := by
  unfold k0_pay45
  have hh : ∀ c, Fin' (rmsRow (x2Blk x0 x1 x2 x3 x4 x5 x6 x7 x8 r) (fun c => x9 (ix2 0 c)) c) := rmsRow_fin _ _ hg
  have hw' : ∀ k, Fin' (View.ld x10 r0_11 (ix2 k j)) := fun k => by
    have e := (ldw x10 k j).trans (h10 k j)
    by_cases h : j.val < 32
    · rw [dif_pos h] at e; exact e ▸ hw k ⟨j.val, h⟩
    · rw [dif_neg h] at e; exact ⟨0, e⟩
  refine (pay14_at _ _ _ _ r j _ (payH3_at x0 x1 x2 x3 x4 x5 x6 x7 x8 x9 x10 x11 r) hh hw').trans ?_
  unfold wide
  by_cases h : j.val < 32
  · rw [dif_pos h, hR, if_pos (show j < 32 from h)]
    have e : ∀ k, View.ld x10 r0_11 (ix2 k j) = w k ⟨j.val, h⟩ := fun k => ((ldw x10 k j).trans (h10 k j)).trans (dif_pos h)
    simp only [e]
    exact congrArg (_ + ·) ((ldb x11 j).trans (h11 j h))
  · rw [dif_neg h, if_neg (show ¬ j < 32 from h)]
    exact EReal.add_bot _

theorem pay47_at (r : Fin 256) : k0_pay47 x0 x1 x2 x3 x4 x5 x6 x7 x8 x9 x10 x11 (ix2 r 0)
    = fst fun j => k0_pay45 x0 x1 x2 x3 x4 x5 x6 x7 x8 x9 x10 x11 (ix2 r j) :=
  pay19_at _ _ _ _ r

section core
variable (L : FVec Ideal S256x128 .f32) (f g : FVec Ideal S256x1 .f32) (r : Fin 256) (R : Fin 32 → EReal)
  (hL : (fun j => L (ix2 r j)) = wide R) (hf : f (ix2 r 0) = fst fun j => L (ix2 r j)) (hR : ∀ e, ⊥ < R e)
include hL hf hR

theorem idx_core (j : Fin 128) :
    k0_pay1 (k0_pay32 (F := Ideal) lanes k0_pay15 (k0_pay24 (F := Ideal) lanes L k0_pay15 k0_pay16 f k0_pay20) (k0_pay26 L k0_pay15 f) (k0_pay28 L k0_pay15 f) (Scalar.ofBits .f32 0x43000000#32)) (ix2 r j)
    = if h : j.val < 4 then BitVec.ofNat 32 (pick R (rank ⟨j.val, h⟩)).val else 0#32 := by
  have e := pay32_at L f r hf (k0_pay24 (F := Ideal) lanes L k0_pay15 k0_pay16 f k0_pay20) j
  rw [pay24_at L f r hf, hL, fst0 R hR, fst1 R hR, fst2 R hR, fst3 R hR] at e
  refine (pay1_at _ r j).trans ?_
  rw [e, show FloatOps.fptosi (F := Ideal) (φ := .f32) 32 = Ideal.fptosi 32 from rfl]
  refine (congrArg (Ideal.fptosi 32) (quad_eq 0 (fun k => num (up (pick R (rank k)))) j)).trans ?_
  by_cases h : j.val < 4
  · rw [dif_pos h, dif_pos h]
    exact fptosi_up _
  · rw [dif_neg h, dif_neg h]
    exact fptosi_zero

theorem gate_core (hg : g (ix2 r 0) = mx fun j => L (ix2 r j)) (hF : ∀ e, Fin' (R e)) (j : Fin 128) :
    k0_pay2 lanes (k0_pay33 (F := Ideal) lanes k0_pay15 (k0_pay25 (F := Ideal) lanes L k0_pay15 k0_pay17 g f) (k0_pay26 L k0_pay15 f) (k0_pay27 L k0_pay15 f) (k0_pay28 L k0_pay15 f) (Scalar.ofBits .f32 0x43000000#32)) k0_pay34 (ix2 r j)
    = if h : j.val < 4 then Ideal.div (Ideal.exp (R (pick R (rank ⟨j.val, h⟩)) - max ⊥ (Finset.univ.fold max ⊥ fun k => R (pick R (rank k)))))
          (0 + ∑ x, Ideal.exp (R (pick R (rank x)) - max ⊥ (Finset.univ.fold max ⊥ fun k => R (pick R (rank k))))) else 0 := by
  refine (pay2_at _ r j).trans ?_
  refine Eq.trans (congrArg (fun V => gateRow V j) (funext fun j => ?_)) (gate_eq (fun k => R (pick R (rank k))) (hF _) (pick_le R) j)
  have e := pay33_at L f r hf (k0_pay25 (F := Ideal) lanes L k0_pay15 k0_pay17 g f) j
  rw [pay25_at L f r hf, hg, hL, mx0 R hR, mx1 R hR, mx2 R hR, mx3 R hR] at e
  exact e

end core

section
variable (r : Fin 256) (R : Fin 32 → EReal) (hrow : ∀ j, k0_pay45 x0 x1 x2 x3 x4 x5 x6 x7 x8 x9 x10 x11 (ix2 r j) = wide R j)
  (hR : ∀ e, ⊥ < R e)
include hrow hR

theorem out14_at (j : Fin 128) : out0_14 x0 x1 x2 x3 x4 x5 x6 x7 x8 x9 x10 x11 (ix2 r j)
    = if h : j.val < 4 then BitVec.ofNat 32 (pick R (rank ⟨j.val, h⟩)).val else 0#32 := by
  unfold out0_14
  rw [View.canon_unit_zero (by decide)]
  unfold k0_pay48 k0_pay49 k0_pay44 k0_pay46
  exact idx_core _ _ r R (funext hrow) (pay47_at x0 x1 x2 x3 x4 x5 x6 x7 x8 x9 x10 x11 r) hR j

theorem out15_at (hf : ∀ e, Fin' (R e)) (j : Fin 128) : out0_15 x0 x1 x2 x3 x4 x5 x6 x7 x8 x9 x10 x11 (ix2 r j)
    = if h : j.val < 4 then Ideal.div (Ideal.exp (R (pick R (rank ⟨j.val, h⟩)) - max ⊥ (Finset.univ.fold max ⊥ fun k => R (pick R (rank k)))))
          (0 + ∑ x, Ideal.exp (R (pick R (rank x)) - max ⊥ (Finset.univ.fold max ⊥ fun k => R (pick R (rank k))))) else 0 := by
  unfold out0_15
  rw [View.canon_unit_zero (by decide)]
  unfold k0_pay48 k0_pay49 k0_pay44 k0_pay46
  exact gate_core _ _ _ r R (funext hrow) (pay47_at x0 x1 x2 x3 x4 x5 x6 x7 x8 x9 x10 x11 r) hR (pay18_at _ _ _ _ r) hf j

end

end Cert.Mid
-- ==== Proof.RefOut.lean ====
/- The reference's padded routing results, read at an index. -/
module

public import proofs.«01_k».proof.Proof.RefTop

@[expose] public section

set_option maxRecDepth 16384

noncomputable section

namespace Cert.Mid

open Idealize.ShloMosaic Idealize.ShloMosaic.TcCoe Idealize.SL.Sem Cert.ReferenceIdeal Cert.ReferenceIdeal.Read

variable (x0 : FVec Ideal S2x8192x2048 .f32) (x1 x2 : FVec Ideal S16384x1024 .bf16) (x3 x4 : FVec Ideal S512x512 .bf16)
  (x5 : FVec Ideal S2048x2048 .f32) (x6 : FVec Ideal S2048 .f32) (x7 : FVec Ideal S2048x512 .f32)
  (x8 : FVec Ideal S512x2048 .f32) (x9 : FVec Ideal S2048 .f32) (x10 : FVec Ideal S2048x32 .f32) (x11 : FVec Ideal S32 .f32)

/-- A row's logits. -/
def logits (i : Fin 16384) (e : Fin 32) : EReal :=
  val_main_v59 (F := Ideal) x0 x1 x2 x3 x4 x5 x6 x7 x8 x9 x10 x11 (ix2 i e)

theorem ref59_at (i : Fin 16384) (e : Fin 32) :
    logits x0 x1 x2 x3 x4 x5 x6 x7 x8 x9 x10 x11 i e
      = ∑ k, val_main_v55 (F := Ideal) x0 x1 x2 x3 x4 x5 x6 x7 x8 x9 (ix2 i k) * x10 (ix2 k e) + x11 (ix1 e) := by
  unfold logits
  pointwise [val_main_v59, val_main_v58, val_main_v57, val_main_v56]

theorem refVal_at (i : Fin 16384) (k : Fin 4) :
    val_main_values (F := Ideal) x0 x1 x2 x3 x4 x5 x6 x7 x8 x9 x10 x11 (ix2 i k)
      = logits x0 x1 x2 x3 x4 x5 x6 x7 x8 x9 x10 x11 i (pick (logits x0 x1 x2 x3 x4 x5 x6 x7 x8 x9 x10 x11 i) (rank k)) := by
  unfold val_main_values
  exact topK_val _ _ i k

theorem ref72_at (i : Fin 16384) (j : Fin 128) :
    val_main_v72 (F := Ideal) x0 x1 x2 x3 x4 x5 x6 x7 x8 x9 x10 x11 (ix2 i j)
      = if h : j.val < 4 then BitVec.ofNat 32 (pick (logits x0 x1 x2 x3 x4 x5 x6 x7 x8 x9 x10 x11 i) (rank ⟨j.val, h⟩)).val else 0#32 := by
  have e : ∀ k : Fin 4, val_main_indices (F := Ideal) x0 x1 x2 x3 x4 x5 x6 x7 x8 x9 x10 x11 (ix2 i k)
      = BitVec.ofNat 32 (pick (logits x0 x1 x2 x3 x4 x5 x6 x7 x8 x9 x10 x11 i) (rank k)).val := fun k => by
    unfold val_main_indices
    exact topK_idx _ _ i k
  simp only [← e]
  pointwise [val_main_v72, val_main_v71, val_main_c]

theorem ref74_at (i : Fin 16384) (j : Fin 128) (a : Fin 4 → EReal)
    (ha : ∀ k, a k = logits x0 x1 x2 x3 x4 x5 x6 x7 x8 x9 x10 x11 i (pick (logits x0 x1 x2 x3 x4 x5 x6 x7 x8 x9 x10 x11 i) (rank k))) :
    val_main_v74 (F := Ideal) x0 x1 x2 x3 x4 x5 x6 x7 x8 x9 x10 x11 (ix2 i j)
      = if h : j.val < 4 then Ideal.div (Ideal.exp (a ⟨j.val, h⟩ - max ⊥ (Finset.univ.fold max ⊥ a)))
          (0 + ∑ x, Ideal.exp (a x - max ⊥ (Finset.univ.fold max ⊥ a))) else 0 := by
  have ea : a = fun k => val_main_values (F := Ideal) x0 x1 x2 x3 x4 x5 x6 x7 x8 x9 x10 x11 (ix2 i k) :=
    funext fun k => (ha k).trans (refVal_at x0 x1 x2 x3 x4 x5 x6 x7 x8 x9 x10 x11 i k).symm
  rw [ea, ← ofBits_neg_inf]
  clear ea ha a
  pointwise [val_main_v74, val_main_v73, val_main_v70, val_main_v69, val_main_v68, val_main_v67, val_main_v66, val_main_v65, val_main_v64, val_main_v63, val_main_v62, val_main_v61, val_main_v60, val_main_cst_9, val_main_cst_10, val_main_cst_11, val_main_cst_12]

end Cert.Mid
-- ==== Proof.Same.lean ====
/- The row the kernel computes is the reference's row, when what the attention scores are made of is finite. -/
module

public import proofs.«01_k».proof.Proof.Real
public import proofs.«01_k».proof.Proof.RefOut
public import proofs.«01_k».proof.Proof.Ref

@[expose] public section

set_option maxRecDepth 16384

noncomputable section

namespace Cert.Mid

open Idealize.ShloMosaic Idealize.ShloMosaic.TcCoe Idealize.SL.Sem Cert.ReferenceIdeal Cert.ReferenceIdeal.Read

variable (x0 : FVec Ideal S2x8192x2048 .f32) (x1 x2 : FVec Ideal S16384x1024 .bf16) (x3 x4 : FVec Ideal S512x512 .bf16)
  (x5 : FVec Ideal S2048x2048 .f32) (x6 : FVec Ideal S2048 .f32) (x7 : FVec Ideal S2048x512 .f32)
  (x8 : FVec Ideal S512x2048 .f32) (x9 : FVec Ideal S2048 .f32) (x10 : FVec Ideal S2048x32 .f32) (x11 : FVec Ideal S32 .f32)

/-- The row of the residual stream as the kernel computes it, from the argument arrays. -/
def x2Arg (i : Fin 16384) : Fin 2048 → EReal :=
  x2Row (fun c => x0 (ix3 ⟨i.val / 8192, by have := i.isLt; omega⟩ ⟨i.val % 8192, by omega⟩ c)) (fun k => x1 (ix2 i k)) (fun k => x2 (ix2 i k))
    (fun k c => x5 (ix2 ⟨k.val, by have := k.isLt; omega⟩ c)) (fun k c => x5 (ix2 ⟨1024 + k.val, by have := k.isLt; omega⟩ c))
    (fun c => x6 (ix1 c)) (fun k j => x7 (ix2 k j))
    (fun m j => x3 (ix2 ⟨i.val / 8192 * 256 + m.val, by have := i.isLt; have := m.isLt; omega⟩ j))
    (fun m j => x4 (ix2 ⟨i.val / 8192 * 256 + m.val, by have := i.isLt; have := m.isLt; omega⟩ j)) (fun j c => x8 (ix2 j c))

variable (h3 : ∀ i, Fin' (x3 i)) (h6 : ∀ i, Fin' (x6 i)) (h7 : ∀ i, Fin' (x7 i))
include h3 h6 h7

theorem x2_same (i : Fin 16384) (c : Fin 2048) :
    x2Arg x0 x1 x2 x3 x4 x5 x6 x7 x8 i c = val_main_v42 (F := Ideal) x0 x1 x2 x3 x4 x5 x6 x7 x8 (ix2 i c) := by
  rw [ref42_at, ref4_at]
  unfold x2Arg x2Row oRow
  refine congrArg (_ + ·) (Finset.sum_congr rfl fun j _ => congrArg (· * x8 (ix2 j c)) ?_)
  rw [ref40_at]
  simp only [ref33_at, ref26_at, ref21_at]
  have er : (⟨i.val / 8192 * 8192 + i.val % 8192, by have := i.isLt; omega⟩ : Fin 16384) = i := Fin.ext (by show i.val / 8192 * 8192 + i.val % 8192 = i.val; omega)
  have eh : (fun c => val_main_v17 (F := Ideal) x0 x1 x2 x5 x6 (ix2 i c)) = rmsRow
      (x1Row (fun c => x0 (ix3 ⟨i.val / 8192, by have := i.isLt; omega⟩ ⟨i.val % 8192, by omega⟩ c)) (fun k => x1 (ix2 i k)) (fun k => x2 (ix2 i k))
          (fun k c => x5 (ix2 ⟨k.val, by have := k.isLt; omega⟩ c)) (fun k c => x5 (ix2 ⟨1024 + k.val, by have := k.isLt; omega⟩ c))) (fun c => x6 (ix1 c)) := by
    funext c
    rw [ref17_at]
    exact congrArg (fun X => rmsRow X _ c) (funext fun c => ref4_at x0 x1 x2 x5 i c)
  simp only [er, eh]
  have ej : lane ⟨j.val / 128, by have := j.isLt; omega⟩ ⟨j.val % 128, by omega⟩ = j :=
    Fin.ext (by show 128 * (j.val / 128) + j.val % 128 = j.val; omega)
  unfold attRow
  beta_reduce
  simp only [ej]
  generalize x1Row (fun c => x0 (ix3 ⟨i.val / 8192, by have := i.isLt; omega⟩ ⟨i.val % 8192, by omega⟩ c)) (fun k => x1 (ix2 i k)) (fun k => x2 (ix2 i k))
          (fun k c => x5 (ix2 ⟨k.val, by have := k.isLt; omega⟩ c)) (fun k c => x5 (ix2 ⟨1024 + k.val, by have := k.isLt; omega⟩ c)) = X
  exact (soft _ _ fun m => Fin'.sum fun e _ => (qRow_fin _ _ (rmsRow_fin _ _ fun _ => h6 _) (fun _ _ => h7 _) _).mul (h3 _)).symm

theorem h3_same (i : Fin 16384) (c : Fin 2048) :
    rmsRow (x2Arg x0 x1 x2 x3 x4 x5 x6 x7 x8 i) (fun c => x9 (ix1 c)) c = val_main_v55 (F := Ideal) x0 x1 x2 x3 x4 x5 x6 x7 x8 x9 (ix2 i c) := by
  rw [ref55_at]
  exact congrArg (fun X => rmsRow X _ c) (funext fun c => x2_same x0 x1 x2 x3 x4 x5 x6 x7 x8 h3 h6 h7 i c)

theorem logits_same (i : Fin 16384) (e : Fin 32) :
    logits x0 x1 x2 x3 x4 x5 x6 x7 x8 x9 x10 x11 i e
      = ∑ k, rmsRow (x2Arg x0 x1 x2 x3 x4 x5 x6 x7 x8 i) (fun c => x9 (ix1 c)) k * x10 (ix2 k e) + x11 (ix1 e) := by
  rw [ref59_at]
  exact congrArg (· + _) (Finset.sum_congr rfl fun k _ => congrArg (· * _) (h3_same x0 x1 x2 x3 x4 x5 x6 x7 x8 x9 h3 h6 h7 i k).symm)

theorem logits_fin (h9 : ∀ i, Fin' (x9 i)) (h10 : ∀ i, Fin' (x10 i)) (h11 : ∀ i, Fin' (x11 i)) (i : Fin 16384) (e : Fin 32) :
    Fin' (logits x0 x1 x2 x3 x4 x5 x6 x7 x8 x9 x10 x11 i e) := by
  rw [logits_same x0 x1 x2 x3 x4 x5 x6 x7 x8 x9 x10 x11 h3 h6 h7]
  exact (Fin'.sum fun k _ => (rmsRow_fin _ _ (fun _ => h9 _) k).mul (h10 _)).add (h11 _)

end Cert.Mid
-- ==== Proof.Final.lean ====
/- The four result arrays after the run are the reference's, when the scores and the logits are finite. -/
module

public import proofs.«01_k».proof.Proof.Value
public import proofs.«01_k».proof.Proof.Out
public import proofs.«01_k».proof.Proof.Same

@[expose] public section

set_option maxRecDepth 16384

noncomputable section

namespace Cert.KernelIdeal.Value

open Cert.KernelIdeal Cert.KernelIdeal.Gen Idealize.ShloMosaic Idealize.ShloMosaic.TcCoe Idealize.SL.Sem Cert.Mid
open Idealize.ShloMosaic.Pipeline (Dat)
open Cert.ReferenceIdeal.Read (val_main_v42 val_main_v55 val_main_v72 val_main_v74)

variable (m : (ℓ : Loc nD τ sig) → Buf (Elt Ideal) ℓ) (c : Dev nD)

/-- A point's row of the residual stream, in the argument arrays. -/
theorem x2Blk_arg (t : Fin cfg0.N) (r : Fin 256) :
    x2Blk (iblk m c 0 t) (iblk m c 1 t) (iblk m c 2 t) (iblk m c 3 t) (iblk m c 4 t) (iblk m c 5 t) (iblk m c 6 t) (iblk m c 7 t) (iblk m c 8 t) r
      = x2Arg (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (row t r) := by
  unfold x2Blk x2Arg
  have e0 := funext fun k => blk0 m c t r k
  have e1 := funext fun k => blk1 m c t r k
  have e2 := funext fun k => blk2 m c t r k
  have e3 : (fun (k : Fin 1024) (j : Fin 2048) => iblk m c 3 t (ix2 (⟨k.val, by have := k.isLt; omega⟩ : Fin 2048) j)) = _ :=
    funext fun k => funext fun j => blk3 m c t ⟨k.val, by have := k.isLt; omega⟩ j
  have e3' : (fun (k : Fin 1024) (j : Fin 2048) => iblk m c 3 t (ix2 (⟨1024 + k.val, by have := k.isLt; omega⟩ : Fin 2048) j)) = _ :=
    funext fun k => funext fun j => blk3 m c t ⟨1024 + k.val, by have := k.isLt; omega⟩ j
  have e4 := funext fun k => blk4 m c t k
  have e5 := funext fun k => funext fun j => blk5 m c t k j
  have e6 := funext fun k => funext fun j => blk6 m c t r k j
  have e7 := funext fun k => funext fun j => blk7 m c t r k j
  have e8 := funext fun k => funext fun j => blk8 m c t k j
  exact congr (congr (congr (congr (congr (congr (congr (congr (congr (congrArg x2Row e0) e1) e2) e3) e3') e4) e5) e6) e7) e8

theorem emb12 (t : Fin cfg0.N) (r : Fin 256) (k : Fin 2048) : ((cfg0.win 12).blk t).view.emb (ix2 r k) = ix2 (row t r) k := by
  blk_ext [idx t, row]
theorem emb13 (t : Fin cfg0.N) (r : Fin 256) (k : Fin 2048) : ((cfg0.win 13).blk t).view.emb (ix2 r k) = ix2 (row t r) k := by
  blk_ext [idx t, row]
theorem emb14 (t : Fin cfg0.N) (r : Fin 256) (k : Fin 128) : ((cfg0.win 14).blk t).view.emb (ix2 r k) = ix2 (row t r) k := by
  blk_ext [idx t, row]
theorem emb15 (t : Fin cfg0.N) (r : Fin 256) (k : Fin 128) : ((cfg0.win 15).blk t).view.emb (ix2 r k) = ix2 (row t r) k := by
  blk_ext [idx t, row]

section
variable (h3 : ∀ i, Fin' (m ((c : Thread nD τ).loc main_arg3) i)) (h6 : ∀ i, Fin' (m ((c : Thread nD τ).loc main_arg6) i))
  (h7 : ∀ i, Fin' (m ((c : Thread nD τ).loc main_arg7) i))
include h3 h6 h7

theorem final12 : (dats m 0 c).arrAt 12 cfg0.N
    = val_main_v42 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (dats m 0 c).arrAt_eq_of_covers 12 _ (by decide +kernel) fun t _ y => ?_
  idx_vars y
  rw [emb12, after0_12]
  refine Eq.trans ?_ ((out12_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1).trans ((congrFun (x2Blk_arg m c t y0) y1).trans
    (x2_same (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) h3 h6 h7 (row t y0) y1)))
  blk_simp

theorem gain9 (t : Fin cfg0.N) : (fun k : Fin 2048 => iblk m c 9 t (ix2 (0 : Fin 1) k)) = fun k => m ((c : Thread nD τ).loc main_arg9) (ix1 k) :=
  funext fun k => blk9 m c t k

theorem final13 : (dats m 0 c).arrAt 13 cfg0.N = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 13 _ (by decide +kernel) fun t _ y => ?_
  idx_vars y
  rw [emb13, after0_13]
  refine Eq.trans ?_ ((out13_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1).trans
    ((congr (congrArg₂ rmsRow (x2Blk_arg m c t y0) (gain9 m c h3 h6 h7 t)) rfl).trans
    (h3_same (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) h3 h6 h7 (row t y0) y1)))
  blk_simp

variable (h9 : ∀ i, Fin' (m ((c : Thread nD τ).loc main_arg9) i)) (h10 : ∀ i, Fin' (m ((c : Thread nD τ).loc main_arg10) i))
  (h11 : ∀ i, Fin' (m ((c : Thread nD τ).loc main_arg11) i))
include h9 h10 h11

theorem row_logits (t : Fin cfg0.N) (r : Fin 256) (j : Fin 128) :
    k0_pay45 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
      = Top.wide (logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (row t r)) j := by
  refine pay45_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r _ (fun k e => m ((c : Thread nD τ).loc main_arg10) (ix2 k e)) (fun e => m ((c : Thread nD τ).loc main_arg11) (ix1 e))
    (fun k => by rw [blk9]; exact h9 _) (fun _ _ => h10 _) (fun k j => blk10 m c t k j) (fun j h => (blk11 m c t j).trans (dif_pos h)) (fun e => ?_) j
  rw [x2Blk_arg, gain9 m c h3 h6 h7]
  exact logits_same (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) h3 h6 h7 (row t r) e

theorem logits_pos (i : Fin 16384) (e : Fin 32) : (⊥ : EReal) < logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) i e := by
  obtain ⟨x, hx⟩ := logits_fin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) h3 h6 h7 h9 h10 h11 i e
  rw [hx]; exact EReal.bot_lt_coe x

theorem final14 : (dats m 0 c).arrAt 14 cfg0.N = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 14 _ (by decide +kernel) fun t _ y => ?_
  idx_vars y
  rw [emb14, after0_14]
  refine Eq.trans ?_ ((out14_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 _
    (row_logits m c h3 h6 h7 h9 h10 h11 t y0) (logits_pos m c h3 h6 h7 h9 h10 h11 (row t y0)) y1).trans
    (ref72_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (row t y0) y1).symm)
  blk_simp

theorem final15 : (dats m 0 c).arrAt 15 cfg0.N = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 15 _ (by decide +kernel) fun t _ y => ?_
  idx_vars y
  rw [emb15, after0_15]
  refine Eq.trans ?_ ((out15_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 _
    (row_logits m c h3 h6 h7 h9 h10 h11 t y0) (logits_pos m c h3 h6 h7 h9 h10 h11 (row t y0))
    (logits_fin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) h3 h6 h7 h9 h10 h11 (row t y0)) y1).trans
    (ref74_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (row t y0) y1 _ (fun _ => rfl)).symm)
  blk_simp

end

end Cert.KernelIdeal.Value
-- ==== Proof.Pre.lean ====
/- The precondition: every entry it names is a real number. -/
module

public import proofs.«01_k».proof.Proof.Soft
public import proofs.«01_k».proof.Proof.Gen.Pre_finite_scores

@[expose] public section

set_option maxRecDepth 16384

noncomputable section

namespace Cert.Mid

open Idealize.ShloMosaic Idealize.SL.Sem

theorem ofBits_inf16 : Ideal.ofBits .bf16 0x7F80#16 = ⊤ := by simp [Ideal.ofBits, Ideal.ieee]
theorem ofBits_inf32 : Ideal.ofBits .f32 0x7F800000#32 = ⊤ := by simp [Ideal.ofBits, Ideal.ieee]

/-- An entry whose magnitude is below infinity is a real number. -/
theorem fin_at {φ : FTy} {s : Shape} (X : FVec Ideal s φ) (w : BitVec φ.bits) (hw : Ideal.ofBits φ w = ⊤)
    (h : (⟨0, ![]⟩ : Shape).BroadcastsInDim s (![] : Fin 0 → Fin s.rank))
    (e : cmpf .olt (Host.absf X) (broadcastInDim s ![] h (constant (F := Ideal) ⟨0, ![]⟩ φ w)) = fun _ => 1#1) (i : s.Idx) : Fin' (X i) := by
  have := congrFun e i
  refine fin_of_abs_lt ?_
  rw [← hw]
  have h1 : BitVec.ofBool (decide (max (X i) (-X i) < Ideal.ofBits φ w)) = 1#1 := this
  by_contra hn
  rw [decide_eq_false hn] at h1
  exact absurd h1 (by decide)

end Cert.Mid
-- ==== Proof.Mid.lean ====
/- The claims about the cross-attention and routing call. -/
module

public import proofs.«01_k».proof.Defs
public import proofs.«01_k».proof.Proof.Final
public import proofs.«01_k».proof.Proof.Pre
public import proofs.«01_k».proof.Proof.Gen.Kernel.Frame
public import proofs.«01_k».proof.Proof.Gen.ReferenceIdeal.Run
public import Idealize.ShloMosaic.Lib.Quiescent

@[expose] public section

set_option maxRecDepth 16384

noncomputable section

namespace Cert.Proof.MidClaims

open Idealize.ShloMosaic Idealize.ShloMosaic.TcCoe Idealize.SL.Sem Idealize.ShloMosaic.StableHlo Cert.Mid

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite_scores := fun m ρ _ => Cert.KernelIdeal.Gen.frame m ρ
theorem frame_ri : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)
theorem frame_ri_pre : Cert.quiescent_ReferenceIdeal_pre_finite_scores := fun m ρ _ => frame_ri m ρ trivial

/-- The two masks of the routing denote minus infinity. -/
theorem preserves : Cert.preserves_Kernel_KernelIdeal :=
  ⟨IdealRules.named_const.statement Cert.KernelIdeal.κ "mask" .f32 0xF149F2CA#32 ⊥ rfl,
    IdealRules.named_const.statement Cert.KernelIdeal.κ "taken" .f32 0xFF61B1E6#32 ⊥ rfl⟩

section
open Cert.KernelIdeal

theorem fin_args (m : (ℓ : Loc nD τ sig) → Buf (Elt Ideal) ℓ) (h : Cert.Pre_KernelIdeal_finite_scores m) (c : Dev nD) :
    (∀ i, Fin' (m ((c : Thread nD τ).loc main_arg3) i)) ∧ (∀ i, Fin' (m ((c : Thread nD τ).loc main_arg6) i))
    ∧ (∀ i, Fin' (m ((c : Thread nD τ).loc main_arg7) i)) ∧ (∀ i, Fin' (m ((c : Thread nD τ).loc main_arg9) i))
    ∧ (∀ i, Fin' (m ((c : Thread nD τ).loc main_arg10) i)) ∧ (∀ i, Fin' (m ((c : Thread nD τ).loc main_arg11) i)) := by
  obtain ⟨e3, e6, e7, e9, e10, e11⟩ := h c
  exact ⟨fin_at _ _ ofBits_inf16 _ e3, fin_at _ _ ofBits_inf32 _ e6, fin_at _ _ ofBits_inf32 _ e7, fin_at _ _ ofBits_inf32 _ e9,
    fin_at _ _ ofBits_inf32 _ e10, fin_at _ _ ofBits_inf32 _ e11⟩

end

theorem algebraic : Cert.algebraic_KernelIdeal_ReferenceIdeal_pre_finite_scores := by
  intro m ρ m' ρ' hpre hagree
  refine ⟨_, _, _, _, Cert.KernelIdeal.Value.run_blocks (F := Ideal) m ρ, ?_⟩
  refine (θ_run Cert.ReferenceIdeal.defs _ _).mono (fun _ h c => ?_) (Cert.ReferenceIdeal.Value.run (F := Ideal) m' ρ')
  obtain ⟨r0, r1, r2, r3, hk⟩ := h c
  obtain ⟨f3, f6, f7, f9, f10, f11⟩ := fin_args m hpre c
  obtain ⟨a0, a1, a2, a3, a4, a5, a6, a7, a8, a9, a10, a11⟩ := hagree c
  refine ⟨r0.trans ?_, r1.trans ?_, r2.trans ?_, r3.trans ?_, hk⟩
  · rw [Cert.KernelIdeal.Value.final12 m c f3 f6 f7, ← a0, ← a1, ← a2, ← a3, ← a4, ← a5, ← a6, ← a7, ← a8]
    exact Cert.ReferenceIdeal.Read.val_main_v42_eq (launchContents m' c)
  · rw [Cert.KernelIdeal.Value.final13 m c f3 f6 f7, ← a0, ← a1, ← a2, ← a3, ← a4, ← a5, ← a6, ← a7, ← a8, ← a9]
    exact Cert.ReferenceIdeal.Read.val_main_v55_eq (launchContents m' c)
  · rw [Cert.KernelIdeal.Value.final14 m c f3 f6 f7 f9 f10 f11, ← a0, ← a1, ← a2, ← a3, ← a4, ← a5, ← a6, ← a7, ← a8, ← a9, ← a10, ← a11]
    exact Cert.ReferenceIdeal.Read.val_main_v72_eq (launchContents m' c)
  · rw [Cert.KernelIdeal.Value.final15 m c f3 f6 f7 f9 f10 f11, ← a0, ← a1, ← a2, ← a3, ← a4, ← a5, ← a6, ← a7, ← a8, ← a9, ← a10, ← a11]
    exact Cert.ReferenceIdeal.Read.val_main_v74_eq (launchContents m' c)

end Cert.Proof.MidClaims

end
-- ==== Proof.Inproj.lean ====
/- The input projection: every result array after the run is the reference's. -/
module

public import proofs.«01_k».proof.Proof.Spec
public import proofs.«01_k».proof.Proof.Gen.InprojIdeal.Value
public import proofs.«01_k».proof.Proof.Gen.InprojReferenceIdeal.Read
public import Idealize.ShloMosaic.Lib.Pipeline.ValueKit

@[expose] public section

set_option maxRecDepth 16384

noncomputable section

namespace Cert.Inp

open Cert.InprojIdeal Cert.InprojIdeal.Gen Idealize.ShloMosaic Idealize.ShloMosaic.TcCoe Idealize.SL.Sem Cert.Mid
open Idealize.ShloMosaic.Pipeline (Dat)
open Cert.InprojReferenceIdeal.Read

/-! ## What the body stores, from the blocks it reads -/

section
variable (x0 : Vec Ideal S256x2048 .f32) (x1 : Vec Ideal S1x2048 .f32) (x2 : Vec Ideal S2048x4736 .bf16)

theorem norm_at (r : Fin 256) (k : Fin 2048) :
    k0_pay2 x0 x1 (ix2 r k) = rmsRow (fun k => x0 (ix2 r k)) (fun k => x1 (ix2 0 k)) k := by
  unfold rmsRow rmsScale
  pointwise [k0_pay2]

theorem ld0 : View.ld x0 r0_0 = x0 := by
  funext i
  idx_vars i
  pointwise
theorem ld1 : View.ld x1 r0_1 = x1 := by
  funext i
  idx_vars i
  obtain rfl : i0 = 0 := Subsingleton.elim _ _
  pointwise

theorem out3_at (r : Fin 256) (j : Fin 2048) :
    out0_3 x0 x1 x2 (ix2 r j)
      = ∑ k : Fin 2048, rmsRow (fun k => x0 (ix2 r k)) (fun k => x1 (ix2 0 k)) k * x2 (ix2 k ⟨j.val, by have := j.isLt; omega⟩) := by
  unfold out0_3
  rw [View.canon_unit_zero (by decide), ld0, ld1]
  simp only [← norm_at]
  pointwise [k0_pay3]

theorem out4_at (r : Fin 256) (j : Fin 1024) :
    out0_4 x0 x1 x2 (ix2 r j)
      = (∑ k : Fin 2048, rmsRow (fun k => x0 (ix2 r k)) (fun k => x1 (ix2 0 k)) k * x2 (ix2 k ⟨2048 + j.val, by have := j.isLt; omega⟩))
        * Ideal.ofBits .f32 0x3E000000#32 := by
  unfold out0_4
  rw [View.canon_unit_zero (by decide), ld0, ld1]
  simp only [← norm_at]
  pointwise [k0_pay4]

theorem out5_at (r : Fin 256) (j : Fin 1536) :
    out0_5 x0 x1 x2 (ix2 r j)
      = ∑ k : Fin 2048, rmsRow (fun k => x0 (ix2 r k)) (fun k => x1 (ix2 0 k)) k * x2 (ix2 k ⟨3072 + j.val, by have := j.isLt; omega⟩) := by
  unfold out0_5
  rw [View.canon_unit_zero (by decide), ld0, ld1]
  simp only [← norm_at]
  pointwise [k0_pay5]

theorem out6_at (r : Fin 256) (j : Fin 128) :
    out0_6 x0 x1 x2 (ix2 r j)
      = ∑ k : Fin 2048, rmsRow (fun k => x0 (ix2 r k)) (fun k => x1 (ix2 0 k)) k * x2 (ix2 k ⟨4608 + j.val, by have := j.isLt; omega⟩) := by
  unfold out0_6
  rw [View.canon_unit_zero (by decide), ld0, ld1]
  simp only [← norm_at]
  pointwise [k0_pay1]

end

/-! ## The reference -/

section
variable (x0 : FVec Ideal S2x8192x2048 .f32) (x1 : FVec Ideal S2048 .f32) (x2 : FVec Ideal S2048x4656 .f32)

/-- A token's row, normalised. -/
def nrow (i : Fin 16384) : Fin 2048 → EReal :=
  rmsRow (fun k => x0 (ix3 ⟨i.val / 8192, by have := i.isLt; omega⟩ ⟨i.val % 8192, by omega⟩ k)) (fun k => x1 (ix1 k))

theorem ref13_at (i : Fin 16384) (k : Fin 2048) : val_main_v13 (F := Ideal) x0 x1 (ix2 i k) = nrow x0 x1 i k := by
  unfold nrow rmsRow rmsScale
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem ref14_at (i : Fin 16384) (j : Fin 4656) :
    val_main_v14 (F := Ideal) x0 x1 x2 (ix2 i j) = ∑ k : Fin 2048, nrow x0 x1 i k * x2 (ix2 k j) := by
  simp only [← ref13_at]
  pointwise [val_main_v14]

theorem ref15_at (i : Fin 16384) (j : Fin 2048) :
    val_main_v15 (F := Ideal) x0 x1 x2 (ix2 i j) = ∑ k : Fin 2048, nrow x0 x1 i k * x2 (ix2 k ⟨j.val, by have := j.isLt; omega⟩) := by
  rw [← ref14_at]
  pointwise [val_main_v15]

theorem ref21_at (i : Fin 16384) (j : Fin 1024) :
    val_main_v21 (F := Ideal) x0 x1 x2 (ix2 i j)
      = (∑ k : Fin 2048, nrow x0 x1 i k * x2 (ix2 k ⟨2048 + j.val, by have := j.isLt; omega⟩)) * Ideal.ofBits .f32 0x3E000000#32 := by
  rw [← ref14_at]
  pointwise [val_main_v21, val_main_v20, val_main_v19, val_main_v16, val_main_cst_2]

theorem ref22_at (i : Fin 16384) (j : Fin 1536) :
    val_main_v22 (F := Ideal) x0 x1 x2 (ix2 i j) = ∑ k : Fin 2048, nrow x0 x1 i k * x2 (ix2 k ⟨3072 + j.val, by have := j.isLt; omega⟩) := by
  rw [← ref14_at]
  pointwise [val_main_v22, val_main_v17]

theorem zero_word : (FloatOps.sitofp .f32 (0#32) : Ideal .f32) = (0 : EReal) := by
  show (((0#32 : BitVec 32).toInt : ℝ) : EReal) = 0
  simp

theorem ref23_at (i : Fin 16384) (j : Fin 128) :
    val_main_v23 (F := Ideal) x0 x1 x2 (ix2 i j)
      = if h : j.val < 48 then ∑ k : Fin 2048, nrow x0 x1 i k * x2 (ix2 k ⟨4608 + j.val, by omega⟩) else 0 := by
  simp only [← ref14_at]
  pointwise [val_main_v23, val_main_v18, val_main_call0_v0, val_main_c]
  rw [zero_word]

end

end Cert.Inp

namespace Cert.InprojIdeal.Value

open Cert.InprojIdeal Cert.InprojIdeal.Gen Idealize.ShloMosaic Idealize.ShloMosaic.TcCoe Idealize.SL.Sem Cert.Mid Cert.Inp
open Idealize.ShloMosaic.Pipeline (Dat)
open Cert.InprojReferenceIdeal.Read (val_main_v15 val_main_v21 val_main_v22 val_main_v23)

variable (m : (ℓ : Loc nD τ sig) → Buf (Elt Ideal) ℓ) (c : Dev nD)

/-! ## The blocks a grid point reads -/

theorem idx : ∀ t : Fin cfg0.N, t.val < 64 ∧ win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The point's row of the whole array. -/
def row (t : Fin cfg0.N) (r : Fin 256) : Fin 16384 := ⟨t.val * 256 + r.val, by have := (idx t).1; have := r.isLt; omega⟩

theorem emb0 (t : Fin cfg0.N) (r : Fin 256) (k : Fin 2048) : ((cfg0.win 0).blk t).view.emb (ix2 r k) = ix2 (row t r) k := by
  blk_ext [idx t, row]

theorem split_at (X : FVec Ideal S2x8192x2048 .f32) (i : Fin 16384) (k : Fin 2048) :
    shapeCast S16384x2048 X shapeCasts_S2x8192x2048_S16384x2048 (ix2 i k)
      = X (ix3 ⟨i.val / 8192, by have := i.isLt; omega⟩ ⟨i.val % 8192, by omega⟩ k) := by
  pointwise

theorem entry0 : V m c main_v2 = shapeCast _ (m ((c : Thread nD τ).loc main_arg0)) shapeCasts_S2x8192x2048_S16384x2048 := by
  entry_read
  rfl

theorem blk0 (t : Fin cfg0.N) (r : Fin 256) (k : Fin 2048) :
    iblk m c 0 t (ix2 r k) = m ((c : Thread nD τ).loc main_arg0)
      (ix3 ⟨(row t r).val / 8192, by have := (row t r).isLt; omega⟩ ⟨(row t r).val % 8192, by omega⟩ k) := by
  refine Eq.trans ?_ (split_at (m ((c : Thread nD τ).loc main_arg0)) (row t r) k)
  rw [← emb0, ← entry0]
  rfl

theorem blk1 (t : Fin cfg0.N) (k : Fin 2048) :
    iblk m c 1 t (ix2 (0 : Fin 1) k) = m ((c : Thread nD τ).loc main_arg1) (ix1 k) := by
  blk_simp [iblk]
  have e : V m c main_v3 = shapeCast _ (m ((c : Thread nD τ).loc main_arg1)) shapeCasts_S2048_S1x2048 := by
    entry_read
    rfl
  rw [e]
  pointwise
  blk_ext [idx t]

theorem emb2 (t : Fin cfg0.N) (k : Fin 2048) (j : Fin 4736) : ((cfg0.win 2).blk t).view.emb (ix2 k j) = ix2 k j := by
  blk_ext [idx t]

theorem pad_at (X : FVec Ideal S2048x4656 .f32) (k : Fin 2048) (j : Fin 4736) :
    truncf .bf16 (pad S2048x4736 ![0, 0] ![0, 80] ![0, 0] X (sitofp (F := Ideal) .f32 (constantI S_ 32 0#32)) pads_S2048x4656_S2048x4736_000_0800 h_S_) bitsLt_bf16_f32 (ix2 k j)
      = if h : j.val < 4656 then X (ix2 k ⟨j.val, h⟩) else (0 : EReal) := by
  pointwise
  rw [zero_word]

theorem entry2 : V m c main_v1 = truncf .bf16 (pad S2048x4736 ![0, 0] ![0, 80] ![0, 0] (m ((c : Thread nD τ).loc main_arg2) : FVec Ideal S2048x4656 .f32)
    (sitofp (F := Ideal) .f32 (constantI S_ 32 0#32)) pads_S2048x4656_S2048x4736_000_0800 h_S_) bitsLt_bf16_f32 := by
  entry_read
  rfl

theorem blk2 (t : Fin cfg0.N) (k : Fin 2048) (j : Fin 4736) :
    iblk m c 2 t (ix2 k j) = if h : j.val < 4656 then m ((c : Thread nD τ).loc main_arg2) (ix2 k ⟨j.val, h⟩) else (0 : EReal) := by
  refine Eq.trans ?_ (pad_at (m ((c : Thread nD τ).loc main_arg2)) k j)
  rw [← entry2]
  exact congrArg (V m c main_v1) (emb2 t k j)

theorem emb3 (t : Fin cfg0.N) (r : Fin 256) (k : Fin 2048) : ((cfg0.win 3).blk t).view.emb (ix2 r k) = ix2 (row t r) k := by
  blk_ext [idx t, row]
theorem emb4 (t : Fin cfg0.N) (r : Fin 256) (k : Fin 1024) : ((cfg0.win 4).blk t).view.emb (ix2 r k) = ix2 (row t r) k := by
  blk_ext [idx t, row]
theorem emb5 (t : Fin cfg0.N) (r : Fin 256) (k : Fin 1536) : ((cfg0.win 5).blk t).view.emb (ix2 r k) = ix2 (row t r) k := by
  blk_ext [idx t, row]
theorem emb6 (t : Fin cfg0.N) (r : Fin 256) (k : Fin 128) : ((cfg0.win 6).blk t).view.emb (ix2 r k) = ix2 (row t r) k := by
  blk_ext [idx t, row]

/-- The normalised row of a point, in the argument arrays. -/
theorem nrow_arg (t : Fin cfg0.N) (r : Fin 256) :
    rmsRow (fun k => iblk m c 0 t (ix2 r k)) (fun k => iblk m c 1 t (ix2 (0 : Fin 1) k))
      = nrow (m ((c : Thread nD τ).loc main_arg0)) (m ((c : Thread nD τ).loc main_arg1)) (row t r) :=
  congrArg₂ rmsRow (funext fun k => blk0 m c t r k) (funext fun k => blk1 m c t k)

/-- A column of the projection inside the weights. -/
theorem col_in (t : Fin cfg0.N) (r : Fin 256) (j : Fin 4736) (h : j.val < 4656) :
    ∑ k : Fin 2048, rmsRow (fun k => iblk m c 0 t (ix2 r k)) (fun k => iblk m c 1 t (ix2 (0 : Fin 1) k)) k * iblk m c 2 t (ix2 k j)
      = ∑ k : Fin 2048, nrow (m ((c : Thread nD τ).loc main_arg0)) (m ((c : Thread nD τ).loc main_arg1)) (row t r) k
          * (m ((c : Thread nD τ).loc main_arg2) (ix2 k (⟨j.val, h⟩ : Fin 4656)) : EReal) := by
  refine Finset.sum_congr rfl fun k _ => ?_
  exact congrArg₂ _ (congrFun (nrow_arg m c t r) k) ((blk2 m c t k j).trans (dif_pos h))

/-- A column past the weights is zero. -/
theorem col_out (t : Fin cfg0.N) (r : Fin 256) (j : Fin 4736) (h : ¬ j.val < 4656) :
    ∑ k : Fin 2048, rmsRow (fun k => iblk m c 0 t (ix2 r k)) (fun k => iblk m c 1 t (ix2 (0 : Fin 1) k)) k * iblk m c 2 t (ix2 k j)
      = (0 : EReal) := by
  refine Finset.sum_eq_zero fun k _ => ?_
  exact (congrArg (HMul.hMul (α := EReal) (β := EReal) _) ((blk2 m c t k j).trans (dif_neg h))).trans (mul_zero _)

/-! ## The result arrays -/

theorem final3 : (dats m 0 c).arrAt 3 cfg0.N
    = val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  idx_vars y
  rw [emb3, after0_3]
  refine Eq.trans ?_ ((out3_at (iblk m c 0 t) (iblk m c 1 t) (iblk m c 2 t) y0 y1).trans ((col_in m c t y0 _ (by have := y1.isLt; show y1.val < 4656; omega)).trans
    (ref15_at (m ((c : Thread nD τ).loc main_arg0)) (m ((c : Thread nD τ).loc main_arg1)) (m ((c : Thread nD τ).loc main_arg2)) (row t y0) y1).symm))
  blk_simp

theorem final4 : (dats m 0 c).arrAt 4 cfg0.N
    = val_main_v21 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  idx_vars y
  rw [emb4, after0_4]
  refine Eq.trans ?_ ((out4_at (iblk m c 0 t) (iblk m c 1 t) (iblk m c 2 t) y0 y1).trans ((congrArg (fun s : EReal => s * _) (col_in m c t y0 _ (by have := y1.isLt; show 2048 + y1.val < 4656; omega))).trans
    (ref21_at (m ((c : Thread nD τ).loc main_arg0)) (m ((c : Thread nD τ).loc main_arg1)) (m ((c : Thread nD τ).loc main_arg2)) (row t y0) y1).symm))
  blk_simp

theorem final5 : (dats m 0 c).arrAt 5 cfg0.N
    = val_main_v22 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  idx_vars y
  rw [emb5, after0_5]
  refine Eq.trans ?_ ((out5_at (iblk m c 0 t) (iblk m c 1 t) (iblk m c 2 t) y0 y1).trans ((col_in m c t y0 _ (by have := y1.isLt; show 3072 + y1.val < 4656; omega)).trans
    (ref22_at (m ((c : Thread nD τ).loc main_arg0)) (m ((c : Thread nD τ).loc main_arg1)) (m ((c : Thread nD τ).loc main_arg2)) (row t y0) y1).symm))
  blk_simp

theorem gate_col (t : Fin cfg0.N) (r : Fin 256) (j : Fin 128) :
    ∑ k : Fin 2048, rmsRow (fun k => iblk m c 0 t (ix2 r k)) (fun k => iblk m c 1 t (ix2 (0 : Fin 1) k)) k
        * iblk m c 2 t (ix2 k (⟨4608 + j.val, by have := j.isLt; omega⟩ : Fin 4736))
      = if h : j.val < 48 then ∑ k : Fin 2048, nrow (m ((c : Thread nD τ).loc main_arg0)) (m ((c : Thread nD τ).loc main_arg1)) (row t r) k
          * (m ((c : Thread nD τ).loc main_arg2) (ix2 k (⟨4608 + j.val, by omega⟩ : Fin 4656)) : EReal) else 0 := by
  by_cases h : j.val < 48
  · rw [dif_pos h]
    exact col_in m c t r _ (by show 4608 + j.val < 4656; omega)
  · rw [dif_neg h]
    exact col_out m c t r _ (by show ¬ 4608 + j.val < 4656; omega)

theorem final6 : (dats m 0 c).arrAt 6 cfg0.N
    = val_main_v23 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  idx_vars y
  rw [emb6, after0_6]
  refine Eq.trans ?_ ((out6_at (iblk m c 0 t) (iblk m c 1 t) (iblk m c 2 t) y0 y1).trans ((gate_col m c t y0 y1).trans
    (ref23_at (m ((c : Thread nD τ).loc main_arg0)) (m ((c : Thread nD τ).loc main_arg1)) (m ((c : Thread nD τ).loc main_arg2)) (row t y0) y1).symm))
  blk_simp

end Cert.InprojIdeal.Value

end
-- ==== Proof.Memkv.lean ====
/- The memory's keys and values: both result arrays after the run are the reference's. -/
module

public import proofs.«01_k».proof.Proof.Spec
public import proofs.«01_k».proof.Proof.Gen.MemkvIdeal.Value
public import proofs.«01_k».proof.Proof.Gen.MemkvReferenceIdeal.Read
public import Idealize.ShloMosaic.Lib.Pipeline.ValueKit

@[expose] public section

set_option maxRecDepth 16384

noncomputable section

namespace Cert.Mkv

open Cert.MemkvIdeal Cert.MemkvIdeal.Gen Idealize.ShloMosaic Idealize.ShloMosaic.TcCoe Idealize.SL.Sem Cert.Mid
open Idealize.ShloMosaic.Pipeline (Dat)
open Cert.MemkvReferenceIdeal.Read

/-! ## What the body stores, from the blocks it reads -/

section
variable (x0 : Vec Ideal S256x2048 .f32) (x1 : Vec Ideal S1x2048 .f32) (x2 x3 : Vec Ideal S2048x512 .bf16)

theorem norm_at (r : Fin 256) (k : Fin 2048) :
    k0_pay1 x0 x1 (ix2 r k) = rmsRow (fun k => x0 (ix2 r k)) (fun k => x1 (ix2 0 k)) k := by
  unfold rmsRow rmsScale
  pointwise [k0_pay1]

theorem ld0 : View.ld x0 r0_0 = x0 := by
  funext i
  idx_vars i
  pointwise
theorem ld1 : View.ld x1 r0_1 = x1 := by
  funext i
  idx_vars i
  obtain rfl : i0 = 0 := Subsingleton.elim _ _
  pointwise

theorem out4_at (r : Fin 256) (j : Fin 512) :
    out0_4 x0 x1 x2 x3 (ix2 r j)
      = ∑ k : Fin 2048, rmsRow (fun k => x0 (ix2 r k)) (fun k => x1 (ix2 0 k)) k * x2 (ix2 k j) := by
  unfold out0_4
  rw [View.canon_unit_zero (by decide), ld0, ld1]
  simp only [← norm_at]
  pointwise [k0_pay2]

theorem out5_at (r : Fin 256) (j : Fin 512) :
    out0_5 x0 x1 x2 x3 (ix2 r j)
      = ∑ k : Fin 2048, rmsRow (fun k => x0 (ix2 r k)) (fun k => x1 (ix2 0 k)) k * x3 (ix2 k j) := by
  unfold out0_5
  rw [View.canon_unit_zero (by decide), ld0, ld1]
  simp only [← norm_at]
  pointwise [k0_pay3]

end

/-! ## The reference -/

section
variable (x0 : FVec Ideal S2x256x2048 .f32) (x1 : FVec Ideal S2048 .f32) (x2 x3 : FVec Ideal S2048x512 .f32)

/-- A memory slot's row, normalised. -/
def nrow (i : Fin 512) : Fin 2048 → EReal :=
  rmsRow (fun k => x0 (ix3 ⟨i.val / 256, by have := i.isLt; omega⟩ ⟨i.val % 256, by omega⟩ k)) (fun k => x1 (ix1 k))

theorem ref13_at (i : Fin 512) (k : Fin 2048) : val_main_v13 (F := Ideal) x0 x1 (ix2 i k) = nrow x0 x1 i k := by
  unfold nrow rmsRow rmsScale
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem ref15_at (i : Fin 512) (j : Fin 512) :
    val_main_v15 (F := Ideal) x0 x1 x2 (ix2 i j) = ∑ k : Fin 2048, nrow x0 x1 i k * x2 (ix2 k j) := by
  simp only [← ref13_at]
  pointwise [val_main_v15, val_main_v14]

theorem ref17_at (i : Fin 512) (j : Fin 512) :
    val_main_v17 (F := Ideal) x0 x1 x3 (ix2 i j) = ∑ k : Fin 2048, nrow x0 x1 i k * x3 (ix2 k j) := by
  simp only [← ref13_at]
  pointwise [val_main_v17, val_main_v16]

end

end Cert.Mkv

namespace Cert.MemkvIdeal.Value

open Cert.MemkvIdeal Cert.MemkvIdeal.Gen Idealize.ShloMosaic Idealize.ShloMosaic.TcCoe Idealize.SL.Sem Cert.Mid Cert.Mkv
open Idealize.ShloMosaic.Pipeline (Dat)
open Cert.MemkvReferenceIdeal.Read (val_main_v15 val_main_v17)

variable (m : (ℓ : Loc nD τ sig) → Buf (Elt Ideal) ℓ) (c : Dev nD)

/-! ## The blocks a grid point reads -/

theorem idx : ∀ t : Fin cfg0.N, t.val < 2 ∧ win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- The point's row of the whole array. -/
def row (t : Fin cfg0.N) (r : Fin 256) : Fin 512 := ⟨t.val * 256 + r.val, by have := (idx t).1; have := r.isLt; omega⟩

theorem emb0 (t : Fin cfg0.N) (r : Fin 256) (k : Fin 2048) : ((cfg0.win 0).blk t).view.emb (ix2 r k) = ix2 (row t r) k := by
  blk_ext [idx t, row]

theorem split_at (X : FVec Ideal S2x256x2048 .f32) (i : Fin 512) (k : Fin 2048) :
    shapeCast S512x2048 X shapeCasts_S2x256x2048_S512x2048 (ix2 i k)
      = X (ix3 ⟨i.val / 256, by have := i.isLt; omega⟩ ⟨i.val % 256, by omega⟩ k) := by
  pointwise

theorem entry0 : V m c main_v0 = shapeCast _ (m ((c : Thread nD τ).loc main_arg0)) shapeCasts_S2x256x2048_S512x2048 := by
  entry_read
  rfl

theorem blk0 (t : Fin cfg0.N) (r : Fin 256) (k : Fin 2048) :
    iblk m c 0 t (ix2 r k) = m ((c : Thread nD τ).loc main_arg0)
      (ix3 ⟨(row t r).val / 256, by have := (row t r).isLt; omega⟩ ⟨(row t r).val % 256, by omega⟩ k) := by
  refine Eq.trans ?_ (split_at (m ((c : Thread nD τ).loc main_arg0)) (row t r) k)
  rw [← emb0, ← entry0]
  rfl

theorem blk1 (t : Fin cfg0.N) (k : Fin 2048) :
    iblk m c 1 t (ix2 (0 : Fin 1) k) = m ((c : Thread nD τ).loc main_arg1) (ix1 k) := by
  blk_simp [iblk]
  have e : V m c main_v1 = shapeCast _ (m ((c : Thread nD τ).loc main_arg1)) shapeCasts_S2048_S1x2048 := by
    entry_read
    rfl
  rw [e]
  pointwise
  blk_ext [idx t]

theorem emb2 (t : Fin cfg0.N) (k : Fin 2048) (j : Fin 512) : ((cfg0.win 2).blk t).view.emb (ix2 k j) = ix2 k j := by
  blk_ext [idx t]
theorem emb3 (t : Fin cfg0.N) (k : Fin 2048) (j : Fin 512) : ((cfg0.win 3).blk t).view.emb (ix2 k j) = ix2 k j := by
  blk_ext [idx t]

theorem entry2 : V m c main_v2 = (truncf .bf16 (m ((c : Thread nD τ).loc main_arg2) : FVec Ideal S2048x512 .f32) bitsLt_bf16_f32 : FVec Ideal S2048x512 .bf16) := by
  entry_read
  rfl
theorem entry3 : V m c main_v3 = (truncf .bf16 (m ((c : Thread nD τ).loc main_arg3) : FVec Ideal S2048x512 .f32) bitsLt_bf16_f32 : FVec Ideal S2048x512 .bf16) := by
  entry_read
  rfl

theorem cast_at (X : FVec Ideal S2048x512 .f32) (k : Fin 2048) (j : Fin 512) :
    truncf .bf16 X bitsLt_bf16_f32 (ix2 k j) = X (ix2 k j) := by
  pointwise

theorem blk2 (t : Fin cfg0.N) (k : Fin 2048) (j : Fin 512) :
    iblk m c 2 t (ix2 k j) = m ((c : Thread nD τ).loc main_arg2) (ix2 k j) := by
  refine Eq.trans ?_ (cast_at (m ((c : Thread nD τ).loc main_arg2)) k j)
  rw [← entry2]
  exact congrArg (V m c main_v2) (emb2 t k j)
theorem blk3 (t : Fin cfg0.N) (k : Fin 2048) (j : Fin 512) :
    iblk m c 3 t (ix2 k j) = m ((c : Thread nD τ).loc main_arg3) (ix2 k j) := by
  refine Eq.trans ?_ (cast_at (m ((c : Thread nD τ).loc main_arg3)) k j)
  rw [← entry3]
  exact congrArg (V m c main_v3) (emb3 t k j)

theorem emb4 (t : Fin cfg0.N) (r : Fin 256) (k : Fin 512) : ((cfg0.win 4).blk t).view.emb (ix2 r k) = ix2 (row t r) k := by
  blk_ext [idx t, row]
theorem emb5 (t : Fin cfg0.N) (r : Fin 256) (k : Fin 512) : ((cfg0.win 5).blk t).view.emb (ix2 r k) = ix2 (row t r) k := by
  blk_ext [idx t, row]

/-- The normalised row of a point, in the argument arrays. -/
theorem nrow_arg (t : Fin cfg0.N) (r : Fin 256) :
    rmsRow (fun k => iblk m c 0 t (ix2 r k)) (fun k => iblk m c 1 t (ix2 (0 : Fin 1) k))
      = nrow (m ((c : Thread nD τ).loc main_arg0)) (m ((c : Thread nD τ).loc main_arg1)) (row t r) :=
  congrArg₂ rmsRow (funext fun k => blk0 m c t r k) (funext fun k => blk1 m c t k)

theorem col2 (t : Fin cfg0.N) (r : Fin 256) (j : Fin 512) :
    ∑ k : Fin 2048, rmsRow (fun k => iblk m c 0 t (ix2 r k)) (fun k => iblk m c 1 t (ix2 (0 : Fin 1) k)) k * iblk m c 2 t (ix2 k j)
      = ∑ k : Fin 2048, nrow (m ((c : Thread nD τ).loc main_arg0)) (m ((c : Thread nD τ).loc main_arg1)) (row t r) k
          * (m ((c : Thread nD τ).loc main_arg2) (ix2 k j) : EReal) :=
  Finset.sum_congr rfl fun k _ => congrArg₂ _ (congrFun (nrow_arg m c t r) k) (blk2 m c t k j)
theorem col3 (t : Fin cfg0.N) (r : Fin 256) (j : Fin 512) :
    ∑ k : Fin 2048, rmsRow (fun k => iblk m c 0 t (ix2 r k)) (fun k => iblk m c 1 t (ix2 (0 : Fin 1) k)) k * iblk m c 3 t (ix2 k j)
      = ∑ k : Fin 2048, nrow (m ((c : Thread nD τ).loc main_arg0)) (m ((c : Thread nD τ).loc main_arg1)) (row t r) k
          * (m ((c : Thread nD τ).loc main_arg3) (ix2 k j) : EReal) :=
  Finset.sum_congr rfl fun k _ => congrArg₂ _ (congrFun (nrow_arg m c t r) k) (blk3 m c t k j)

/-! ## The result arrays -/

theorem final4 : (dats m 0 c).arrAt 4 cfg0.N
    = val_main_v15 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  idx_vars y
  rw [emb4, after0_4]
  refine Eq.trans ?_ ((out4_at (iblk m c 0 t) (iblk m c 1 t) (iblk m c 2 t) (iblk m c 3 t) y0 y1).trans ((col2 m c t y0 y1).trans
    (ref15_at (m ((c : Thread nD τ).loc main_arg0)) (m ((c : Thread nD τ).loc main_arg1)) (m ((c : Thread nD τ).loc main_arg2)) (row t y0) y1).symm))
  blk_simp

theorem final5 : (dats m 0 c).arrAt 5 cfg0.N
    = val_main_v17 (F := Ideal) (m ((c : Thread nD τ).loc main_arg0)) (m ((c : Thread nD τ).loc main_arg1)) (m ((c : Thread nD τ).loc main_arg3)) := by
  refine (dats m 0 c).arrAt_eq_of_covers 5 _ (by decide +kernel) fun t _ y => ?_
  idx_vars y
  rw [emb5, after0_5]
  refine Eq.trans ?_ ((out5_at (iblk m c 0 t) (iblk m c 1 t) (iblk m c 2 t) (iblk m c 3 t) y0 y1).trans ((col3 m c t y0 y1).trans
    (ref17_at (m ((c : Thread nD τ).loc main_arg0)) (m ((c : Thread nD τ).loc main_arg1)) (m ((c : Thread nD τ).loc main_arg3)) (row t y0) y1).symm))
  blk_simp

end Cert.MemkvIdeal.Value

end
-- ==== Proof.Calls.lean ====
/- The claims about the input projection and about the memory's keys and values. -/
module

public import proofs.«01_k».proof.Defs
public import proofs.«01_k».proof.Proof.Inproj
public import proofs.«01_k».proof.Proof.Memkv
public import proofs.«01_k».proof.Proof.Gen.Inproj.Frame
public import proofs.«01_k».proof.Proof.Gen.InprojReferenceIdeal.Run
public import proofs.«01_k».proof.Proof.Gen.Memkv.Frame
public import proofs.«01_k».proof.Proof.Gen.MemkvReferenceIdeal.Run
public import Idealize.ShloMosaic.Lib.Quiescent

@[expose] public section

set_option maxRecDepth 16384

noncomputable section

open Idealize.ShloMosaic Idealize.ShloMosaic.TcCoe Idealize.SL.Sem Idealize.ShloMosaic.StableHlo

namespace Cert.Proof.InprojClaims

theorem frame_p : Cert.quiescent_Inproj := fun m ρ _ => Cert.Inproj.Gen.frame m ρ
theorem frame_pi : Cert.quiescent_InprojIdeal := fun m ρ _ => Cert.InprojIdeal.Gen.frame m ρ
theorem frame_ri : Cert.quiescent_InprojReferenceIdeal := fun m ρ _ =>
  (θ_run Cert.InprojReferenceIdeal.defs _ _).mono (fun r h => ⟨fun c => (h c).2.2.2.2,
      Idealize.ShloMosaic.sem_eq_zero_of_no_sems (by decide) r.2⟩)
    (Cert.InprojReferenceIdeal.Value.run (F := Ideal) m ρ)

theorem algebraic : Cert.algebraic_InprojIdeal_InprojReferenceIdeal := by
  intro m ρ m' ρ' _ hagree
  refine ⟨_, _, _, _, Cert.InprojIdeal.Value.run_blocks (F := Ideal) m ρ, ?_⟩
  refine (θ_run Cert.InprojReferenceIdeal.defs _ _).mono (fun _ h c => ?_) (Cert.InprojReferenceIdeal.Value.run (F := Ideal) m' ρ')
  obtain ⟨r0, r1, r2, r3, hk⟩ := h c
  obtain ⟨a0, a1, a2⟩ := hagree c
  refine ⟨r0.trans ?_, r1.trans ?_, r2.trans ?_, r3.trans ?_, hk⟩
  · rw [Cert.InprojIdeal.Value.final3 m c, ← a0, ← a1, ← a2]
    exact Cert.InprojReferenceIdeal.Read.val_main_v15_eq _ _ _
  · rw [Cert.InprojIdeal.Value.final4 m c, ← a0, ← a1, ← a2]
    exact Cert.InprojReferenceIdeal.Read.val_main_v21_eq _ _ _
  · rw [Cert.InprojIdeal.Value.final5 m c, ← a0, ← a1, ← a2]
    exact Cert.InprojReferenceIdeal.Read.val_main_v22_eq _ _ _
  · rw [Cert.InprojIdeal.Value.final6 m c, ← a0, ← a1, ← a2]
    exact Cert.InprojReferenceIdeal.Read.val_main_v23_eq _ _ _

end Cert.Proof.InprojClaims

namespace Cert.Proof.MemkvClaims

theorem frame_p : Cert.quiescent_Memkv := fun m ρ _ => Cert.Memkv.Gen.frame m ρ
theorem frame_pi : Cert.quiescent_MemkvIdeal := fun m ρ _ => Cert.MemkvIdeal.Gen.frame m ρ
theorem frame_ri : Cert.quiescent_MemkvReferenceIdeal := fun m ρ _ =>
  (θ_run Cert.MemkvReferenceIdeal.defs _ _).mono (fun r h => ⟨fun c => (h c).2.2,
      Idealize.ShloMosaic.sem_eq_zero_of_no_sems (by decide) r.2⟩)
    (Cert.MemkvReferenceIdeal.Value.run (F := Ideal) m ρ)

theorem algebraic : Cert.algebraic_MemkvIdeal_MemkvReferenceIdeal := by
  intro m ρ m' ρ' _ hagree
  refine ⟨_, _, Cert.MemkvIdeal.Value.run_blocks (F := Ideal) m ρ, ?_⟩
  refine (θ_run Cert.MemkvReferenceIdeal.defs _ _).mono (fun _ h c => ?_) (Cert.MemkvReferenceIdeal.Value.run (F := Ideal) m' ρ')
  obtain ⟨r0, r1, hk⟩ := h c
  obtain ⟨a0, a1, a2, a3⟩ := hagree c
  refine ⟨r0.trans ?_, r1.trans ?_, hk⟩
  · rw [Cert.MemkvIdeal.Value.final4 m c, ← a0, ← a1, ← a2]
    exact Cert.MemkvReferenceIdeal.Read.val_main_v15_eq _ _ _
  · rw [Cert.MemkvIdeal.Value.final5 m c, ← a0, ← a1, ← a3]
    exact Cert.MemkvReferenceIdeal.Read.val_main_v17_eq _ _ _

end Cert.Proof.MemkvClaims

end
-- ==== Proof.GmmSpec.lean ====
/- One entry of a tile of the grouped expert product, as plain sums over the extended reals. -/
module

public import Idealize.ShloMosaic.Lib.Pipeline.ValueKit

@[expose] public section

noncomputable section

namespace Cert.Gmx

open Idealize.ShloMosaic

abbrev c7 : EReal := Ideal.ofBits .f32 0x40E00000#32
abbrev cm7 : EReal := Ideal.ofBits .f32 0xC0E00000#32
abbrev ca : EReal := Ideal.ofBits .f32 0x3FD9DB23#32

/-- The clipped gate times its sigmoid. -/
def gateF (x : EReal) : EReal := min x c7 * Ideal.div 1 (1 + Ideal.exp (-(ca * min x c7)))
/-- The clipped linear part. -/
def linF (x : EReal) : EReal := min c7 (max cm7 x)
/-- The activation. -/
def actF (g l : EReal) : EReal := gateF g * (linF l + 1)

end Cert.Gmx

end
-- ==== Proof.GmmIdealBody.lean ====
module

public import proofs.«01_k».proof.Proof.Gen.GmmIdeal.Launch
public import proofs.«01_k».proof.Proof.Gen.GmmIdeal.Skeleton
public import proofs.«01_k».proof.Proof.Gen.GmmIdeal.Loops
public import Idealize.ShloMosaic.Lib.Pipeline.FrameBody
public import Idealize.ShloMosaic.Lib.Batch
public import Idealize.ShloMosaic.Lib.Ring
public import Idealize.ShloMosaic.Lib.Tactic
public import Idealize.ShloMosaic.Lib.Pipeline.ValueKit

/-! The rows of one tile: 512 one-row copies issued on one semaphore, then waited for one by one. -/

@[expose] public section

set_option maxRecDepth 16384

noncomputable section

namespace Cert.GmmIdeal.Body

open Cert.GmmIdeal Cert.GmmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

/-- The resources of the program's proof. -/
abbrev MM (F : FTy → Type) [FloatOps F] := MT nD τ sig Unit (Elt F) ℕ (UD sig nD τ) ℕ

/-- The contents of a memref's buffer on core `c`. -/
abbrev Bf (c : Dev nD) {sp : Space} {S : Shape} {e : EltTy} (M : Memref sig .tc sp S e) : Type := Buf (Elt F) (M.view.loc (c : Thread nD τ))
/-- A memref's buffer held whole. -/
abbrev pt (c : Dev nD) {sp : Space} {S : Shape} {e : EltTy} (M : Memref sig .tc sp S e) (f : Bf (F := F) c M) : sProp (MM F) :=
  M.view.loc (c : Thread nD τ) ↦{fullShare} f

theorem trips_eq : k0_t1_loop.trips = 512 := by decide +kernel
theorem trips2_eq : k0_t2_loop.trips = 512 := by decide +kernel

abbrev i0 : S1.Idx := Shape.Idx.first (s := S1) (numel1_S1.symm ▸ Nat.one_pos)

theorem off3_inb (b : BitVec 32) (hb : ∀ k : Fin k0_t1_loop.trips, ∀ a, k0_off3 b k a + S1.size a ≤ S65536.size a) (k : Fin k0_t1_loop.trips) :
    ∀ a, k0_off3 b k a + S1.size a ≤ S65536.size a := hb k

/-- The row number trip `k` reads from the table of rows. -/
abbrev wd {c : Dev nD} (f3 : Bf (F := F) c (Memref.whole main_arg3)) (b : BitVec 32)
    (hb : ∀ k : Fin k0_t1_loop.trips, ∀ a, k0_off3 b k a + S1.size a ≤ S65536.size a) (k : Fin k0_t1_loop.trips) : BitVec 32 :=
  (Memref.whole main_arg3).view.readAt (Elt F) (Rect.unit (s := S65536) (k0_off3 b k) S1.size (hb k)).toLoadRect f3 i0

theorem off5_inb (w : BitVec 32) (hw : w.toNat < 16384) : ∀ a, k0_off5 w a + S1x2048.size a ≤ S16384x2048.size a := by
  intro a; fin_cases a
  · show w.toNat + 1 ≤ 16384; omega
  · show 0 + 2048 ≤ 2048; omega
theorem off4_val (k : Fin k0_t1_loop.trips) : k0_off4 k = ![k.val, 0] := by
  have h : (Scf.iv 0#32 1#32 k).toNat = k.val := by
    have := lt_of_lt_of_eq k.isLt trips_eq
    simp [Scf.iv, BitVec.toNat_ofNat]; omega
  unfold k0_off4; simp only []; rw [h]
theorem off4_inb (k : Fin k0_t1_loop.trips) : ∀ a, k0_off4 k a + S1x2048.size a ≤ S512x2048.size a := by
  have hk := lt_of_lt_of_eq k.isLt trips_eq
  rw [off4_val]; intro a; fin_cases a
  · show k.val + 1 ≤ 512; omega
  · show 0 + 2048 ≤ 2048; omega

/-- Row `k` of the row buffer, as trip `k` spells its copy's destination. -/
def dstM (k : Fin k0_t1_loop.trips) : Memref sig .tc .vmem S1x2048 .f32 :=
  (Memref.whole cc0_scratch0).slice (Rect.unit (s := S512x2048) (k0_off4 k) S1x2048.size (off4_inb k)) (fun _ => rfl)
/-- Row `w` of the input, as a trip spells its copy's source. -/
def srcM (w : BitVec 32) (h : ∀ a, k0_off5 w a + S1x2048.size a ≤ S16384x2048.size a) : Memref sig .tc .hbm S1x2048 .f32 :=
  (Memref.whole main_arg4).slice (Rect.unit (s := S16384x2048) (k0_off5 w) S1x2048.size h) (fun _ => rfl)

/-- One row's amount on the semaphore. -/
abbrev NN : ℕ := 256
theorem amount_dst (k : Fin k0_t1_loop.trips) : (dstM k).view.amount (SemLoc.dma cc0_scratch3.sem) = NN := rfl

section Deliveries

variable (c : Dev nD) (f3 : Bf (F := F) c (Memref.whole main_arg3)) (b : BitVec 32)
  (hb : ∀ k : Fin k0_t1_loop.trips, ∀ a, k0_off3 b k a + S1.size a ≤ S65536.size a)
  (hw : ∀ k, (wd f3 b hb k).toNat < 16384)
  (f0 : Bf (F := F) c (Memref.whole cc0_scratch0)) (h : Bf (F := F) c (Memref.whole main_arg4))

abbrev srcK (k : Fin k0_t1_loop.trips) : Memref sig .tc .hbm S1x2048 .f32 := srcM (wd f3 b hb k) (off5_inb _ (hw k))
abbrev f0At (k : Fin k0_t1_loop.trips) : Buf (Elt F) ((dstM k).view.loc (c : Thread nD τ)) := f0
abbrev hAt (k : Fin k0_t1_loop.trips) : Buf (Elt F) ((srcK c f3 b hb hw k).view.loc (c : Thread nD τ)) := h

/-- Row `k` of the buffer once its copy has landed. -/
abbrev landed (k : Fin k0_t1_loop.trips) : Buf (Elt F) ((dstM k).view.loc (c : Thread nD τ)) :=
  (dstM k).view.writes (Elt F) (f0At c f0 k) [⟨Rect.whole S1x2048, ReadAs.same.apply ((srcK c f3 b hb hw k).view.read (Elt F) (hAt c f3 b hb hw h k))⟩]

/-- Row `k` of the source under its read share. -/
abbrev srcP (k : Fin k0_t1_loop.trips) : sProp (MM F) :=
  (srcK c f3 b hb hw k).view.loc (c : Thread nD τ) ↦[(srcK c f3 b hb hw k).view.set]{Transfers.shareTokN fullShare k.val} hAt c f3 b hb hw h k
abbrev dstP (k : Fin k0_t1_loop.trips) : sProp (MM F) :=
  (dstM k).view.loc (c : Thread nD τ) ↦[(dstM k).view.set]{fullShare} f0At c f0 k

/-- What copy `k` hands back. -/
abbrev D (k : Fin k0_t1_loop.trips) : sProp (MM F) :=
  iprop(((dstM k).view.loc (c : Thread nD τ) ↦[(dstM k).view.set]{fullShare} landed c f3 b hb hw f0 h k)
    ∗ srcP c f3 b hb hw h k)

instance D_storable (k : Fin k0_t1_loop.trips) : BI.Storable (upEmb : UEmb _ (MM F)) (D c f3 b hb hw f0 h k) := by
  unfold D; infer_instance

/-- The copies on the semaphore: `j` issued, `u` units waited for. -/
abbrev batch (j u : ℕ) : sProp (MM F) :=
  Transfers.Batch countersEmb (c : Thread nD τ) (.dma cc0_scratch3.sem) () NN (D c f3 b hb hw f0 h) j u

/-- The table of rows under the share the body holds. -/
abbrev tabP (q : PosShare TreeShare) : sProp (MM F) := (Memref.whole main_arg3).view.loc (c : Thread nD τ) ↦{q} f3

def issueAt (q : PosShare TreeShare) (k : ℕ) (_ : Unit) : sProp (MM F) :=
  iprop(batch c f3 b hb hw f0 h k 0
    ∗ bigSep (Ring.rangeSet k0_t1_loop.trips k k0_t1_loop.trips) (dstP c f0)
    ∗ bigSep (Ring.rangeSet k0_t1_loop.trips k k0_t1_loop.trips) (srcP c f3 b hb hw h)
    ∗ tabP c f3 q)

def drainAt (k : ℕ) (_ : Unit) : sProp (MM F) :=
  iprop((∃ W, owes (c : Thread nD τ) 0 W)
    ∗ (if k < k0_t1_loop.trips then batch c f3 b hb hw f0 h k0_t1_loop.trips (k * NN)
       else iprop(semVal ((c : Thread nD τ), SemLoc.dma cc0_scratch3.sem) 0 ∗ bigSep Finset.univ (D c f3 b hb hw f0 h))))

end Deliveries

section Steps

variable (c : Dev nD) (f3 : Bf (F := F) c (Memref.whole main_arg3)) (b : BitVec 32)
  (hb : ∀ k : Fin k0_t1_loop.trips, ∀ a, k0_off3 b k a + S1.size a ≤ S65536.size a)
  (hw : ∀ k, (wd f3 b hb k).toNat < 16384)
  (f0 : Bf (F := F) c (Memref.whole cc0_scratch0)) (h : Bf (F := F) c (Memref.whole main_arg4))
  (i : grid0.Coords) (arg8 : Memref sig .tc .vmem S1x2048x512 .bf16) (harg8 : arg8.IsWhole) (arg9 : Memref sig .tc .vmem S1x2048x512 .bf16) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x512x2048 .bf16) (harg12 : arg12.IsWhole) (arg13 : Memref sig .tc .vmem S1x1x2048 .f32) (harg13 : arg13.IsWhole) (arg14 : Memref sig .tc .vmem S512x2048 .f32) (harg14 : arg14.IsWhole)

abbrev body1 (a0 a1 : BitVec 32) (v0 : Elt F .i32) (k0_h1 : k0_cond1 i v0 = 1#1) (k0_h2 : k0_cond2 i = 1#1) (k0_hw1 : k0_chk1 i v0 b) :=
  k0_t1_body (F := F) i (Memref.whole main_arg0) (Memref.isWhole_whole _) (Memref.whole main_arg1) (Memref.isWhole_whole _) (Memref.whole main_arg2) (Memref.isWhole_whole _) (Memref.whole main_arg3) (Memref.isWhole_whole _) (Memref.whole main_v14) (Memref.isWhole_whole _) (Memref.whole main_arg4) (Memref.isWhole_whole _) arg8 harg8 arg9 harg9 arg10 harg10 arg11 harg11 arg12 harg12 arg13 harg13 arg14 harg14 (Memref.whole cc0_scratch0) (Memref.isWhole_whole _) (Memref.whole cc0_scratch1) (Memref.isWhole_whole _) (Memref.whole cc0_scratch2) (Memref.isWhole_whole _) cc0_scratch3 a0 a1 v0 k0_h1 k0_h2 b k0_hw1
abbrev body2 (a0 a1 : BitVec 32) (v0 : Elt F .i32) (k0_h1 : k0_cond1 i v0 = 1#1) (k0_h2 : k0_cond2 i = 1#1) :=
  k0_t2_body (F := F) i (Memref.whole main_arg0) (Memref.isWhole_whole _) (Memref.whole main_arg1) (Memref.isWhole_whole _) (Memref.whole main_arg2) (Memref.isWhole_whole _) (Memref.whole main_arg3) (Memref.isWhole_whole _) (Memref.whole main_v14) (Memref.isWhole_whole _) (Memref.whole main_arg4) (Memref.isWhole_whole _) arg8 harg8 arg9 harg9 arg10 harg10 arg11 harg11 arg12 harg12 arg13 harg13 arg14 harg14 (Memref.whole cc0_scratch0) (Memref.isWhole_whole _) (Memref.whole cc0_scratch1) (Memref.isWhole_whole _) (Memref.whole cc0_scratch2) (Memref.isWhole_whole _) cc0_scratch3 a0 a1 v0 k0_h1 k0_h2

theorem issue_step [∀ e, Nonempty (Elt F e)] (q : PosShare TreeShare) (a0 a1 : BitVec 32) (v0 : Elt F .i32)
    (k0_h1 : k0_cond1 i v0 = 1#1) (k0_h2 : k0_cond2 i = 1#1) (k0_hw1 : k0_chk1 i v0 b) (k : Fin k0_t1_loop.trips) (acc : Unit) :
    issueAt c f3 b hb hw f0 h q k acc
      ⊢ wp frame (wpE (defs₀ (F := F)) Variants.none c none) Set.univ
          (body1 b i arg8 harg8 arg9 harg9 arg10 harg10 arg11 harg11 arg12 harg12 arg13 harg13 arg14 harg14 a0 a1 v0 k0_h1 k0_h2 k0_hw1 k acc)
          (issueAt c f3 b hb hw f0 h q (k.val + 1)) := by
  have hk := k.isLt
  have hchk : k0_chk2 i v0 (wd f3 b hb k) := fun _ _ => off5_inb _ (hw k)
  unfold issueAt
  rw [Ring.bigSep_rangeSet_head (Φ := dstP c f0) hk k.isLt,
    Ring.bigSep_rangeSet_head (Φ := srcP c f3 b hb hw h) hk k.isLt]
  iintro ⟨HB, ⟨HP, HPs⟩, ⟨HS, HSs⟩, H0⟩
  dsimp only [body1, k0_t1_body]
  sl_exec (disch := exact hchk)
  sl_step
  isplitl [HB]; · iexact HB
  isplitl [HPs]; · iexact HPs
  isplitl [HSs]; · iexact HSs
  iexact H0

theorem drain_step [∀ e, Nonempty (Elt F e)] (a0 a1 : BitVec 32) (v0 : Elt F .i32)
    (k0_h1 : k0_cond1 i v0 = 1#1) (k0_h2 : k0_cond2 i = 1#1) (k : Fin k0_t2_loop.trips) (acc : Unit) :
    drainAt c f3 b hb hw f0 h k acc
      ⊢ wp frame (wpE (defs₀ (F := F)) Variants.none c none) Set.univ
          (body2 i arg8 harg8 arg9 harg9 arg10 harg10 arg11 harg11 arg12 harg12 arg13 harg13 arg14 harg14 a0 a1 v0 k0_h1 k0_h2 k acc)
          (drainAt c f3 b hb hw f0 h (k.val + 1)) := by
  have hk : k.val < k0_t1_loop.trips := k.isLt
  unfold drainAt
  simp only [if_pos hk]
  rcases Nat.lt_or_ge (k.val + 1) k0_t1_loop.trips with hk1 | hk1
  · simp only [if_pos hk1]
    iintro ⟨⟨%W, HO⟩, HB⟩
    dsimp only [body2, k0_t2_body]
    sl_exec (disch := first | (simp only [NN]; omega) | (show _ = _; simp only [NN]; omega))
    sl_step
    isplitl [HO]; · iexists _; iexact HO
    rw [show (k.val + 1) * NN = k.val * NN + NN from Nat.succ_mul _ _]
    iexact HB
  · have hlast : k.val + 1 = k0_t1_loop.trips := by omega
    simp only [if_neg (Nat.not_lt.mpr hk1)]
    iintro ⟨⟨%W, HO⟩, HB⟩
    dsimp only [body2, k0_t2_body]
    sl_exec (disch := first | (simp only [NN]; omega) | (show _ = _; simp only [NN]; omega))
    sl_step
    isplitl [HO]; · iexists _; iexact HO
    isplitl [HB]; · iexact HB
    iexact HB_all

end Steps

theorem swap3 (A B C : sProp (MM F)) : iprop(A ∗ B ∗ C) = iprop(B ∗ A ∗ C) :=
  BI.Entails.antisymm
    (show iprop(A ∗ B ∗ C) ⊢ iprop(B ∗ A ∗ C) from by
      iintro ⟨HA, HB, HC⟩; isplitl [HB]; · iexact HB
      isplitl [HA] <;> iassumption)
    (show iprop(B ∗ A ∗ C) ⊢ iprop(A ∗ B ∗ C) from by
      iintro ⟨HA, HB, HC⟩; isplitl [HB]; · iexact HB
      isplitl [HA] <;> iassumption)

section Rows

variable (c : Dev nD) (f3 : Bf (F := F) c (Memref.whole main_arg3)) (b : BitVec 32)
  (hb : ∀ k : Fin k0_t1_loop.trips, ∀ a, k0_off3 b k a + S1.size a ≤ S65536.size a)
  (hw : ∀ k, (wd f3 b hb k).toNat < 16384)
  (f0 : Bf (F := F) c (Memref.whole cc0_scratch0)) (h : Bf (F := F) c (Memref.whole main_arg4))

/-- The tile's rows gathered: row `r` is the input's row the table names. -/
def gath : Bf (F := F) c (Memref.whole cc0_scratch0) := fun y : S512x2048.Idx =>
  (h ((srcK c f3 b hb hw ((y 0).cast trips_eq.symm)).view.emb (ix2 (0 : Fin 1) (y 1))))

/-- Row `k`'s elements, and the place of its lane. -/
def dstSet (k : Fin k0_t1_loop.trips) : Finset S512x2048.Idx := (dstM k).view.set
def dstEmb (k : Fin k0_t1_loop.trips) (x : S1x2048.Idx) : S512x2048.Idx := (dstM k).view.emb x

theorem mem_dst (k : Fin k0_t1_loop.trips) (y : S512x2048.Idx) : y ∈ dstSet k ↔ (y 0).val = k.val := by
  unfold dstSet dstM; rw [show ((Memref.whole cc0_scratch0).slice (Rect.unit (s := S512x2048) (k0_off4 k) S1x2048.size (off4_inb k)) (fun _ => rfl)).view.set = (Rect.unit (s := S512x2048) (k0_off4 k) S1x2048.size (off4_inb k)).set from View.set_slice_whole _ _, Rect.mem_set_unit]
  rw [off4_val]
  have h1 : (y 1).val < 2048 := (y 1).isLt
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 2048; omega

theorem dstEmb_eq (k : Fin k0_t1_loop.trips) (x : S1x2048.Idx) : dstEmb k x = ix2 (k.cast trips_eq) (x 1) := by
  have h0 := (mem_dst k (dstEmb k x)).mp (Finset.mem_map.mpr ⟨x, Finset.mem_univ _, rfl⟩)
  funext a; fin_cases a
  · exact Fin.ext h0
  · apply Fin.ext
    show k0_off4 k 1 + 1 * (x 1).val = (x 1).val
    rw [off4_val]; simp

theorem landed_eq (k : Fin k0_t1_loop.trips) : ∀ y ∈ dstSet k, landed c f3 b hb hw f0 h k y = gath c f3 b hb hw h y := by
  intro y hy
  obtain ⟨x, -, hx⟩ := Finset.mem_map.mp (show y ∈ Finset.univ.map (dstM k).view.emb from hy)
  have hx' : dstEmb k x = y := hx
  have e := View.write_univ_eq_writes_whole (Val := Elt F) (dstM k).view (f0At c f0 k) [] (ReadAs.same.apply ((srcK c f3 b hb hw k).view.read (Elt F) (hAt c f3 b hb hw h k)))
  have e2 : x = ix2 (0 : Fin 1) (x 1) := by
    funext a; fin_cases a
    · exact Subsingleton.elim (α := Fin 1) _ _
    · rfl
  have e3 : landed c f3 b hb hw f0 h k (dstEmb k x) = h ((srcK c f3 b hb hw k).view.emb x) := by
    unfold landed
    rw [← e]
    exact View.write_emb_of_mem _ _ (Finset.mem_univ x)
  rw [← hx', e3, dstEmb_eq]
  unfold gath
  show _ = h ((srcK c f3 b hb hw ((k.cast trips_eq).cast trips_eq.symm)).view.emb (ix2 (0 : Fin 1) (x 1)))
  exact congrArg (fun z : S1x2048.Idx => h ((srcK c f3 b hb hw k).view.emb z)) e2

theorem dst_disjoint : ∀ k k' : Fin k0_t1_loop.trips, k ≠ k' → Disjoint (dstSet k) (dstSet k') := fun k k' hne => by
  rw [Finset.disjoint_left]; intro y hy hy'; rw [mem_dst] at hy hy'; exact hne (Fin.ext (hy.symm.trans hy'))
theorem dst_cover : Finset.univ.biUnion dstSet = Finset.univ := by
  ext y; simp only [Finset.mem_biUnion, Finset.mem_univ, true_and, iff_true]
  exact ⟨(y 0).cast trips_eq.symm, (mem_dst _ _).mpr rfl⟩

/-- The row buffer held whole is its rows. -/
theorem dst_split (f : Bf (F := F) c (Memref.whole cc0_scratch0)) :
    pt c (Memref.whole cc0_scratch0) f = bigSep Finset.univ (dstP c f) :=
  Ring.pointsTo_blocks (ℓ := (Memref.whole cc0_scratch0).view.loc (c : Thread nD τ)) (q := fullShare) dstSet dst_disjoint dst_cover f

/-- What is left of the input beside the rows lent. -/
def srcR : sProp (MM F) :=
  iprop(((Memref.whole main_arg4).view.loc (c : Thread nD τ) ↦{Transfers.shareDrop fullShare k0_t1_loop.trips} h)
    ∗ bigSep Finset.univ (fun k : Fin k0_t1_loop.trips =>
        ((Memref.whole main_arg4).view.loc (c : Thread nD τ) ↦[Finset.univ \ (srcK c f3 b hb hw k).view.set]{Transfers.shareTokN fullShare k.val} h)))

theorem src_split : pt c (Memref.whole main_arg4) h = iprop(bigSep Finset.univ (srcP c f3 b hb hw h) ∗ srcR c f3 b hb hw h) := by
  have e0 := Transfers.pointsTo_toks_range (ℓ := (Memref.whole main_arg4).view.loc (c : Thread nD τ)) (S := Finset.univ) (f := h) (Ix := Unit) (Name := ℕ) (U := UD sig nD τ) (Lvl := ℕ) fullShare k0_t1_loop.trips
  have e1 := BI.equiv_iff.mp ⟨e0.1, e0.2⟩
  have e2 := (Ring.bigSep_rangeSet_eq_range (M := MM F) (NB := k0_t1_loop.trips) (lo := 0) (hi := k0_t1_loop.trips)
    (Φ := fun k => ((Memref.whole main_arg4).view.loc (c : Thread nD τ) ↦{Transfers.shareTokN fullShare k.val} h)) le_rfl
    (fun k => ((Memref.whole main_arg4).view.loc (c : Thread nD τ) ↦{Transfers.shareTokN fullShare k} h)) (fun k hk => by simp only [Nat.zero_add]))
  rw [Nat.sub_zero, Ring.rangeSet_univ] at e2
  refine (e1.trans (congrArg _ e2.symm)).trans ?_
  rw [show bigSep Finset.univ (fun k : Fin k0_t1_loop.trips => ((Memref.whole main_arg4).view.loc (c : Thread nD τ) ↦{Transfers.shareTokN fullShare k.val} h : sProp (MM F)))
      = bigSep Finset.univ (fun k => iprop(srcP c f3 b hb hw h k ∗ ((Memref.whole main_arg4).view.loc (c : Thread nD τ) ↦[Finset.univ \ (srcK c f3 b hb hw k).view.set]{Transfers.shareTokN fullShare k.val} h)))
    from BI.bigSep_congr fun k _ => (fun hs => BI.equiv_iff.mp ⟨hs.1, hs.2⟩) (pointsTo_split_subset (Finset.subset_univ (srcK c f3 b hb hw k).view.set))]
  rw [show bigSep Finset.univ (fun k => iprop(srcP c f3 b hb hw h k ∗ ((Memref.whole main_arg4).view.loc (c : Thread nD τ) ↦[Finset.univ \ (srcK c f3 b hb hw k).view.set]{Transfers.shareTokN fullShare k.val} h))) = _ from BI.bigSep_sep _ _ _]
  unfold srcR
  exact swap3 _ _ _

/-- Every copy back: the row buffer whole at the gathered rows, and the rows lent. -/
theorem back : bigSep Finset.univ (D c f3 b hb hw f0 h)
    = iprop(pt c (Memref.whole cc0_scratch0) (gath c f3 b hb hw h) ∗ bigSep Finset.univ (srcP c f3 b hb hw h)) := by
  refine (BI.bigSep_sep _ _ _).trans ?_
  rw [dst_split]
  exact congrArg (fun X => iprop(X ∗ bigSep Finset.univ (srcP c f3 b hb hw h)))
    (BI.bigSep_congr fun k _ => pointsTo_congr (landed_eq c f3 b hb hw f0 h k))

end Rows

end Cert.GmmIdeal.Body
-- ==== Proof.GmmIdealRun.lean ====
module

public import proofs.«01_k».proof.Proof.GmmIdealBody

/-! The body at one grid point, case by case. -/

@[expose] public section

set_option maxRecDepth 16384

noncomputable section

namespace Cert.GmmIdeal.Body

open Cert.GmmIdeal Cert.GmmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F] [∀ e, Nonempty (Elt F e)]

/-- The number of tiles in use, as the body reads it. -/
abbrev nuW {c : Dev nD} (f2 : Bf (F := F) c (Memref.whole main_arg2)) : BitVec 32 :=
  (Memref.whole main_arg2).view.readAt (Elt F) (Rect.unit (s := S1) ![0] S1.size inb_S1_S1_0).toLoadRect f2 i0

/-- One step of the accumulation: a block of hidden units. -/
def accStep (g : Vec F S512x2048 .bf16) (x0 x1 : Vec F S1x2048x512 .bf16) (x2 x3 : Vec F S1x1x512 .f32) (x4 : Vec F S1x512x2048 .bf16)
    (a : Vec F S512x2048 .f32) : Vec F S512x2048 .f32 :=
  k0_pay1 (k0_pay6 g x1 x3) (k0_pay7 g x0 x2) a x4

theorem hz2 : (![0, 0] : Fin 2 → ℕ) = fun _ => 0 := by decide
theorem hz3 : (![0, 0, 0] : Fin 3 → ℕ) = fun _ => 0 := by decide

/-- A load of a whole block reads it. -/
theorem rd {S : Shape} {e : EltTy} {sp : Space} (v : View sig .tc sp S e) {off : Fin S.rank → ℕ} (h : off = fun _ => 0) (inb : ∀ a, off a + S.size a ≤ S.size a)
    (f : v.ty.Contents (Elt F)) : v.readAt (Elt F) (Rect.unit off S.size inb).toLoadRect f = v.read (Elt F) f :=
  View.ld_unit_zero h inb (v.read (Elt F) f)

/-- A store of a whole block, the last one, is what the memory then reads. -/
theorem wr {S : Shape} {e : EltTy} {sp : Space} (v : View sig .tc sp S e) {off : Fin S.rank → ℕ} (h : off = fun _ => 0) (inb : ∀ a, off a + S.size a ≤ S.size a)
    (f : v.ty.Contents (Elt F)) (w : Vec F S e) (L : List (View.Piece (Elt F) S e)) :
    v.read (Elt F) (v.writes (Elt F) f (⟨Rect.unit off S.size inb, w⟩ :: L)) = w := by
  refine (View.read_writes_eq_canon _ _ _ fun y => ⟨_, List.mem_cons_self, ?_⟩).trans (View.canon_cons_unit_zero h inb w L)
  subst h
  have : y ∈ (Rect.whole S).set := by rw [Rect.set_whole]; exact Finset.mem_univ y
  exact this

/-- A load of a whole block after a store of it reads what was stored. -/
theorem rc {S : Shape} {e : EltTy} {sp : Space} (v : View sig .tc sp S e) {off : Fin S.rank → ℕ} (h : off = fun _ => 0) (inb : ∀ a, off a + S.size a ≤ S.size a)
    (w : Vec F S e) : v.readCov [(⟨Rect.unit off S.size inb, w⟩ : View.Piece (Elt F) S e)] (Rect.unit off S.size inb).toLoadRect = w :=
  View.readCov_unit_zero v h inb w

section
variable (c : Dev nD) (i : grid0.Coords) (arg8 : Memref sig .tc .vmem S1x2048x512 .bf16) (harg8 : arg8.IsWhole) (arg9 : Memref sig .tc .vmem S1x2048x512 .bf16) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x512x2048 .bf16) (harg12 : arg12.IsWhole) (arg13 : Memref sig .tc .vmem S1x1x2048 .f32) (harg13 : arg13.IsWhole) (arg14 : Memref sig .tc .vmem S512x2048 .f32) (harg14 : arg14.IsWhole)

abbrev body : Prog (TpuEff nD τ sig (Elt F) Λ₀ .tc) PUnit :=
  cc0_moe_gmm (F := F) i (Memref.whole main_arg0) (Memref.isWhole_whole _) (Memref.whole main_arg1) (Memref.isWhole_whole _) (Memref.whole main_arg2) (Memref.isWhole_whole _) (Memref.whole main_arg3) (Memref.isWhole_whole _) (Memref.whole main_v14) (Memref.isWhole_whole _) (Memref.whole main_arg4) (Memref.isWhole_whole _) arg8 harg8 arg9 harg9 arg10 harg10 arg11 harg11 arg12 harg12 arg13 harg13 arg14 harg14 (Memref.whole cc0_scratch0) (Memref.isWhole_whole _) (Memref.whole cc0_scratch1) (Memref.isWhole_whole _) (Memref.whole cc0_scratch2) (Memref.isWhole_whole _) cc0_scratch3

abbrev nuP (q : PosShare TreeShare) (f2 : Bf (F := F) c (Memref.whole main_arg2)) : sProp (MM F) := (Memref.whole main_arg2).view.loc (c : Thread nD τ) ↦{q} f2

set_option maxHeartbeats 4000000 in
/-- A point of a used tile, neither its first nor its last. -/
theorem run_mid (q : PosShare TreeShare) (f2 : Bf (F := F) c (Memref.whole main_arg2))
    (x0 x1 : Vec F S1x2048x512 .bf16) (x2 x3 : Vec F S1x1x512 .f32) (x4 : Vec F S1x512x2048 .bf16)
    (g : Vec F S512x2048 .bf16) (a : Vec F S512x2048 .f32)
    (h1 : k0_cond1 i (nuW f2) = 1#1) (h2 : ¬ k0_cond2 i = 1#1) (h3 : ¬ k0_cond3 i = 1#1) (h4 : ¬ k0_cond4 i (nuW f2) = 1#1) (K : PUnit → sProp (MM F)) :
    iprop(nuP c q f2 ∗ owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare x4 ∗ owns (c : Thread nD τ) (Memref.whole cc0_scratch1) fullShare g ∗ owns (c : Thread nD τ) (Memref.whole cc0_scratch2) fullShare a
        ∗ (iprop(nuP c q f2 ∗ owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare x4 ∗ owns (c : Thread nD τ) (Memref.whole cc0_scratch1) fullShare g ∗ owns (c : Thread nD τ) (Memref.whole cc0_scratch2) fullShare (accStep g x0 x1 x2 x3 x4 a)) -∗ K ⟨⟩))
      ⊢ wp frame (wpE (defs₀ (F := F)) Variants.none c none) Set.univ (body i arg8 harg8 arg9 harg9 arg10 harg10 arg11 harg11 arg12 harg12 arg13 harg13 arg14 harg14) K := by
  unfold body
  simp only [cc0_moe_gmm_eq_skeleton, k0_part1_eq_skeleton]; unfold cc0_moe_gmm_skel
  unfold owns
  iintro ⟨Hn, ⟨%f8, %hf8, H8⟩, ⟨%f9, %hf9, H9⟩, ⟨%f10, %hf10, H10⟩, ⟨%f11, %hf11, H11⟩, ⟨%f12, %hf12, H12⟩, ⟨%fg, %hfg, Hg⟩, ⟨%fa, %hfa, Ha⟩, Hk⟩
  subst hf8 hf9 hf10 hf11 hf12 hfg hfa
  sl_exec (disch := first | exact h1 | exact h2 | exact h3 | exact h4)
  sl_step
  iapply Hk
  isplitl [Hn]; · iexact Hn
  isplitl [H8]
  · iexists f8; isplitr
    · ipureintro; rfl
    iexact H8
  isplitl [H9]
  · iexists f9; isplitr
    · ipureintro; rfl
    iexact H9
  isplitl [H10]
  · iexists f10; isplitr
    · ipureintro; rfl
    iexact H10
  isplitl [H11]
  · iexists f11; isplitr
    · ipureintro; rfl
    iexact H11
  isplitl [H12]
  · iexists f12; isplitr
    · ipureintro; rfl
    iexact H12
  isplitl [Hg]
  · iexists fg; isplitr
    · ipureintro; rfl
    iexact Hg
  iexists _; isplitr; swap
  · iexact Ha
  ipureintro
  refine (wr _ hz2 _ _ _ _).trans ?_
  unfold run_mid.sl.r_1 run_mid.sl.r_2 accStep
  rw [rd (S := S512x2048) (Memref.whole cc0_scratch1).view hz2, rd arg8.view hz3, rd arg9.view hz3, rd arg10.view hz3, rd arg11.view hz3, rd arg12.view hz3, rd (S := S512x2048) (Memref.whole cc0_scratch2).view hz2]

set_option maxHeartbeats 4000000 in
/-- The last point of a used tile: the tile is stored. -/
theorem run_last (q : PosShare TreeShare) (f2 : Bf (F := F) c (Memref.whole main_arg2))
    (x0 x1 : Vec F S1x2048x512 .bf16) (x2 x3 : Vec F S1x1x512 .f32) (x4 : Vec F S1x512x2048 .bf16) (x5 : Vec F S1x1x2048 .f32) (d : Vec F S512x2048 .f32)
    (g : Vec F S512x2048 .bf16) (a : Vec F S512x2048 .f32)
    (h1 : k0_cond1 i (nuW f2) = 1#1) (h2 : ¬ k0_cond2 i = 1#1) (h3 : k0_cond3 i = 1#1) (h4 : ¬ k0_cond4 i (nuW f2) = 1#1) (K : PUnit → sProp (MM F)) :
    iprop(nuP c q f2 ∗ owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare x4 ∗ owns (c : Thread nD τ) (Memref.whole cc0_scratch1) fullShare g ∗ owns (c : Thread nD τ) (Memref.whole cc0_scratch2) fullShare a ∗ owns (c : Thread nD τ) arg13 fullShare x5 ∗ owns (c : Thread nD τ) arg14 fullShare d
        ∗ (iprop(nuP c q f2 ∗ owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare x4 ∗ owns (c : Thread nD τ) (Memref.whole cc0_scratch1) fullShare g ∗ owns (c : Thread nD τ) (Memref.whole cc0_scratch2) fullShare (accStep g x0 x1 x2 x3 x4 a) ∗ owns (c : Thread nD τ) arg13 fullShare x5 ∗ owns (c : Thread nD τ) arg14 fullShare (k0_pay2 (accStep g x0 x1 x2 x3 x4 a) x5)) -∗ K ⟨⟩))
      ⊢ wp frame (wpE (defs₀ (F := F)) Variants.none c none) Set.univ (body i arg8 harg8 arg9 harg9 arg10 harg10 arg11 harg11 arg12 harg12 arg13 harg13 arg14 harg14) K := by
  unfold body
  simp only [cc0_moe_gmm_eq_skeleton, k0_part1_eq_skeleton]; unfold cc0_moe_gmm_skel
  unfold owns
  iintro ⟨Hn, ⟨%f8, %hf8, H8⟩, ⟨%f9, %hf9, H9⟩, ⟨%f10, %hf10, H10⟩, ⟨%f11, %hf11, H11⟩, ⟨%f12, %hf12, H12⟩, ⟨%fg, %hfg, Hg⟩, ⟨%fa, %hfa, Ha⟩, ⟨%f13, %hf13, H13⟩, ⟨%f14, %hf14, H14⟩, Hk⟩
  subst hf8 hf9 hf10 hf11 hf12 hfg hfa hf13 hf14
  sl_exec (disch := first | exact h1 | exact h2 | exact h3 | exact h4)
  sl_step
  iapply Hk
  isplitl [Hn]; · iexact Hn
  isplitl [H8]
  · iexists f8; isplitr
    · ipureintro; rfl
    iexact H8
  isplitl [H9]
  · iexists f9; isplitr
    · ipureintro; rfl
    iexact H9
  isplitl [H10]
  · iexists f10; isplitr
    · ipureintro; rfl
    iexact H10
  isplitl [H11]
  · iexists f11; isplitr
    · ipureintro; rfl
    iexact H11
  isplitl [H12]
  · iexists f12; isplitr
    · ipureintro; rfl
    iexact H12
  isplitl [Hg]
  · iexists fg; isplitr
    · ipureintro; rfl
    iexact Hg
  isplitl [Ha]
  · iexists _; isplitr; swap
    · iexact Ha
    ipureintro
    refine (wr _ hz2 _ _ _ _).trans ?_
    unfold run_last.sl.r_1 run_last.sl.r_2 accStep
    rw [rd (S := S512x2048) (Memref.whole cc0_scratch1).view hz2, rd arg8.view hz3, rd arg9.view hz3, rd arg10.view hz3, rd arg11.view hz3, rd arg12.view hz3, rd (S := S512x2048) (Memref.whole cc0_scratch2).view hz2]
  isplitl [H13]
  · iexists f13; isplitr
    · ipureintro; rfl
    iexact H13
  iexists _; isplitr; swap
  · iexact H14
  ipureintro
  refine (wr _ hz2 _ _ _ _).trans ?_
  unfold run_last.sl.v59 run_last.sl.Ha_1
  rw [rc (S := S512x2048) (Memref.whole cc0_scratch2).view hz2, rd arg13.view hz3]
  unfold run_last.sl.r_1 run_last.sl.r_2 accStep
  rw [rd (S := S512x2048) (Memref.whole cc0_scratch1).view hz2, rd arg8.view hz3, rd arg9.view hz3, rd arg10.view hz3, rd arg11.view hz3, rd arg12.view hz3, rd (S := S512x2048) (Memref.whole cc0_scratch2).view hz2]

set_option maxHeartbeats 4000000 in
/-- A point of an unused tile after its first: nothing is done. -/
theorem run_idle (q : PosShare TreeShare) (f2 : Bf (F := F) c (Memref.whole main_arg2))
    (h1 : ¬ k0_cond1 i (nuW f2) = 1#1) (h4 : ¬ k0_cond4 i (nuW f2) = 1#1) (K : PUnit → sProp (MM F)) :
    iprop(nuP c q f2
        ∗ (iprop(nuP c q f2) -∗ K ⟨⟩))
      ⊢ wp frame (wpE (defs₀ (F := F)) Variants.none c none) Set.univ (body i arg8 harg8 arg9 harg9 arg10 harg10 arg11 harg11 arg12 harg12 arg13 harg13 arg14 harg14) K := by
  unfold body
  simp only [cc0_moe_gmm_eq_skeleton, k0_part1_eq_skeleton]; unfold cc0_moe_gmm_skel
  iintro ⟨Hn, Hk⟩
  sl_exec (disch := first | exact h1 | exact h4)
  sl_step
  iapply Hk
  iexact Hn

set_option maxHeartbeats 4000000 in
/-- The first point of an unused tile: zeros are stored. -/
theorem run_zero (q : PosShare TreeShare) (f2 : Bf (F := F) c (Memref.whole main_arg2)) (d : Vec F S512x2048 .f32)
    (h1 : ¬ k0_cond1 i (nuW f2) = 1#1) (h4 : k0_cond4 i (nuW f2) = 1#1) (K : PUnit → sProp (MM F)) :
    iprop(nuP c q f2 ∗ owns (c : Thread nD τ) arg14 fullShare d
        ∗ (iprop(nuP c q f2 ∗ owns (c : Thread nD τ) arg14 fullShare (k0_pay3 (F := F))) -∗ K ⟨⟩))
      ⊢ wp frame (wpE (defs₀ (F := F)) Variants.none c none) Set.univ (body i arg8 harg8 arg9 harg9 arg10 harg10 arg11 harg11 arg12 harg12 arg13 harg13 arg14 harg14) K := by
  unfold body
  simp only [cc0_moe_gmm_eq_skeleton, k0_part1_eq_skeleton]; unfold cc0_moe_gmm_skel
  unfold owns
  iintro ⟨Hn, ⟨%f14, %hf14, H14⟩, Hk⟩
  sl_exec (disch := first | exact h1 | exact h4)
  sl_step
  iapply Hk
  isplitl [Hn]; · iexact Hn
  iexists _; isplitr; swap
  · iexact H14
  ipureintro
  exact wr _ hz2 _ _ _ _

end

/-- The first row of the tile, as the body reads it. -/
abbrev bsW {c : Dev nD} (i : grid0.Coords) (h2 : k0_cond2 i = 1#1) (f1 : Bf (F := F) c (Memref.whole main_arg1)) : BitVec 32 :=
  (Memref.whole main_arg1).view.readAt (Elt F) (Rect.unit (s := S160) (k0_off2 i) S1.size (k0_off2_inb i h2)).toLoadRect f1 i0

section
variable (c : Dev nD) (i : grid0.Coords) (arg8 : Memref sig .tc .vmem S1x2048x512 .bf16) (harg8 : arg8.IsWhole) (arg9 : Memref sig .tc .vmem S1x2048x512 .bf16) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x512x2048 .bf16) (harg12 : arg12.IsWhole) (arg13 : Memref sig .tc .vmem S1x1x2048 .f32) (harg13 : arg13.IsWhole) (arg14 : Memref sig .tc .vmem S512x2048 .f32) (harg14 : arg14.IsWhole)

set_option maxHeartbeats 4000000 in
/-- The first point of a used tile: its rows are copied in. -/
theorem run_first (q : PosShare TreeShare) (f2 : Bf (F := F) c (Memref.whole main_arg2))
    (x0 x1 : Vec F S1x2048x512 .bf16) (x2 x3 : Vec F S1x1x512 .f32) (x4 : Vec F S1x512x2048 .bf16)
    (f1 : Bf (F := F) c (Memref.whole main_arg1)) (f3 : Bf (F := F) c (Memref.whole main_arg3)) (f0 : Bf (F := F) c (Memref.whole cc0_scratch0)) (h : Bf (F := F) c (Memref.whole main_arg4))
    (g : Vec F S512x2048 .bf16) (a : Vec F S512x2048 .f32)
    (h1 : k0_cond1 i (nuW f2) = 1#1) (h2 : k0_cond2 i = 1#1) (h3 : ¬ k0_cond3 i = 1#1) (h4 : ¬ k0_cond4 i (nuW f2) = 1#1)
    (hb : ∀ k : Fin k0_t1_loop.trips, ∀ a, k0_off3 (bsW i h2 f1) k a + S1.size a ≤ S65536.size a)
    (hw : ∀ k, (wd f3 (bsW i h2 f1) hb k).toNat < 16384) (K : PUnit → sProp (MM F)) :
    iprop(nuP c q f2 ∗ owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare x4 ∗ owns (c : Thread nD τ) (Memref.whole cc0_scratch1) fullShare g ∗ owns (c : Thread nD τ) (Memref.whole cc0_scratch2) fullShare a ∗ ((Memref.whole main_arg1).view.loc (c : Thread nD τ) ↦{q} f1) ∗ tabP c f3 q ∗ pt c (Memref.whole cc0_scratch0) f0 ∗ pt c (Memref.whole main_arg4) h ∗ semVal ((c : Thread nD τ), SemLoc.dma cc0_scratch3.sem) 0 ∗ (∃ W, owes (c : Thread nD τ) 0 W)
        ∗ (iprop(nuP c q f2 ∗ owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare x4 ∗ owns (c : Thread nD τ) (Memref.whole cc0_scratch1) fullShare (k0_pay4 (gath c f3 (bsW i h2 f1) hb hw h)) ∗ owns (c : Thread nD τ) (Memref.whole cc0_scratch2) fullShare (accStep (k0_pay4 (gath c f3 (bsW i h2 f1) hb hw h)) x0 x1 x2 x3 x4 (k0_pay5 (F := F))) ∗ ((Memref.whole main_arg1).view.loc (c : Thread nD τ) ↦{q} f1) ∗ tabP c f3 q ∗ pt c (Memref.whole cc0_scratch0) (gath c f3 (bsW i h2 f1) hb hw h) ∗ pt c (Memref.whole main_arg4) h ∗ semVal ((c : Thread nD τ), SemLoc.dma cc0_scratch3.sem) 0 ∗ (∃ W, owes (c : Thread nD τ) 0 W)) -∗ K ⟨⟩))
      ⊢ wp frame (wpE (defs₀ (F := F)) Variants.none c none) Set.univ (body i arg8 harg8 arg9 harg9 arg10 harg10 arg11 harg11 arg12 harg12 arg13 harg13 arg14 harg14) K := by
  unfold body
  simp only [cc0_moe_gmm_eq_skeleton, k0_part1_eq_skeleton]; unfold cc0_moe_gmm_skel
  rw [dst_split c f0, src_split c f3 (bsW i h2 f1) hb hw h]
  unfold owns
  iintro ⟨Hn, ⟨%f8, %hf8, H8⟩, ⟨%f9, %hf9, H9⟩, ⟨%f10, %hf10, H10⟩, ⟨%f11, %hf11, H11⟩, ⟨%f12, %hf12, H12⟩, ⟨%fg, %hfg, Hg⟩, ⟨%fa, %hfa, Ha⟩, H1, H3, HvP, ⟨HsP, HsR⟩, Hc, ⟨%W, HO⟩, Hk⟩
  subst hf8 hf9 hf10 hf11 hf12 hfg hfa
  have hck : k0_chk1 i (nuW f2) (bsW i h2 f1) := fun k _ _ => hb k
  sl_exec (disch := first | exact h1 | exact h2 | exact h3 | exact h4 | exact hck)
  sl_step
  sl_exec (disch := first | exact h1 | exact h2 | exact h3 | exact h4 | exact hck)
  imod (Transfers.batch_alloc' (Lvl := ℕ) countersEmb (c : Thread nD τ) () NN (D c f3 (bsW i h2 f1) hb hw f0 h) (sm := .dma cc0_scratch3.sem) (E := Set.univ)) $$ Hc with HB
  sl_for (issueAt c f3 (bsW i h2 f1) hb hw f0 h q) $$ [HB HvP HsP H3]
  · intro k acc
    exact issue_step c f3 (bsW i h2 f1) hb hw f0 h i arg8 harg8 arg9 harg9 arg10 harg10 arg11 harg11 arg12 harg12 arg13 harg13 arg14 harg14 q _ _ (nuW f2) h1 h2 hck k acc
  · iapply (show iprop(batch c f3 (bsW i h2 f1) hb hw f0 h 0 0 ∗ bigSep Finset.univ (dstP c f0) ∗ bigSep Finset.univ (srcP c f3 (bsW i h2 f1) hb hw h) ∗ tabP c f3 q)
        ⊢ issueAt c f3 (bsW i h2 f1) hb hw f0 h q 0 () from by unfold issueAt; rw [Ring.rangeSet_univ])
    isplitl [HB]; · iexact HB
    isplitl [HvP]; · iexact HvP
    isplitl [HsP]; · iexact HsP
    iexact H3
  iintro %acc HL
  ihave HL' := (show issueAt c f3 (bsW i h2 f1) hb hw f0 h q k0_t1_loop.trips acc ⊢ iprop(batch c f3 (bsW i h2 f1) hb hw f0 h k0_t1_loop.trips 0 ∗ tabP c f3 q) from by
    unfold issueAt; simp only [Ring.bigSep_rangeSet_empty le_rfl]
    iintro ⟨A, -, -, B⟩; isplitl [A] <;> iassumption) $$ HL
  icases HL' with ⟨HB, H3⟩
  sl_exec
  sl_for (drainAt c f3 (bsW i h2 f1) hb hw f0 h) $$ [HB HO]
  · intro k acc
    exact drain_step c f3 (bsW i h2 f1) hb hw f0 h i arg8 harg8 arg9 harg9 arg10 harg10 arg11 harg11 arg12 harg12 arg13 harg13 arg14 harg14 _ _ (nuW f2) h1 h2 k acc
  · iapply (show iprop((∃ W, owes (c : Thread nD τ) 0 W) ∗ batch c f3 (bsW i h2 f1) hb hw f0 h k0_t1_loop.trips 0) ⊢ drainAt c f3 (bsW i h2 f1) hb hw f0 h 0 () from by
      unfold drainAt; rw [if_pos (by rw [trips_eq]; omega), Nat.zero_mul])
    isplitl [HO]; · iexists _; iexact HO
    iexact HB
  iintro %acc2 HL2
  ihave HL2' := (show drainAt c f3 (bsW i h2 f1) hb hw f0 h k0_t2_loop.trips acc2
      ⊢ iprop((∃ W, owes (c : Thread nD τ) 0 W) ∗ semVal ((c : Thread nD τ), SemLoc.dma cc0_scratch3.sem) 0
          ∗ pt c (Memref.whole cc0_scratch0) (gath c f3 (bsW i h2 f1) hb hw h) ∗ bigSep Finset.univ (srcP c f3 (bsW i h2 f1) hb hw h)) from by
    unfold drainAt; rw [if_neg (by exact (lt_irrefl k0_t1_loop.trips : ¬ k0_t2_loop.trips < k0_t1_loop.trips)), back]) $$ HL2
  icases HL2' with ⟨⟨%W', HO⟩, Hc, H0, HsP⟩
  sl_exec (disch := first | exact h1 | exact h2 | exact h3 | exact h4)
  sl_step
  iapply Hk
  isplitl [Hn]; · iexact Hn
  isplitl [H8]
  · iexists f8; isplitr
    · ipureintro; rfl
    iexact H8
  isplitl [H9]
  · iexists f9; isplitr
    · ipureintro; rfl
    iexact H9
  isplitl [H10]
  · iexists f10; isplitr
    · ipureintro; rfl
    iexact H10
  isplitl [H11]
  · iexists f11; isplitr
    · ipureintro; rfl
    iexact H11
  isplitl [H12]
  · iexists f12; isplitr
    · ipureintro; rfl
    iexact H12
  isplitl [Hg]
  · iexists _; isplitr; swap
    · iexact Hg
    ipureintro
    unfold run_first.sl.Hg_1
    refine (wr _ hz2 _ _ _ _).trans ?_
    rw [rd (S := S512x2048) (Memref.whole cc0_scratch0).view hz2]
    rfl
  isplitl [Ha]
  · iexists _; isplitr; swap
    · iexact Ha
    ipureintro
    refine (wr _ hz2 _ _ _ _).trans ?_
    unfold run_first.sl.r_2 run_first.sl.r_3 run_first.sl.v47 run_first.sl.Ha_1 run_first.sl.v13 run_first.sl.Hg_1 accStep
    rw [rc (S := S512x2048) (Memref.whole cc0_scratch2).view hz2, rc (S := S512x2048) (Memref.whole cc0_scratch1).view hz2, rd (S := S512x2048) (Memref.whole cc0_scratch0).view hz2, rd arg8.view hz3, rd arg9.view hz3, rd arg10.view hz3, rd arg11.view hz3, rd arg12.view hz3]
    rfl
  isplitl [H1]; · iexact H1
  isplitl [H3]; · iexact H3
  isplitl [H0]; · iexact H0
  isplitl [HsP HsR]
  · isplitl [HsP]; · iexact HsP
    iexact HsR
  isplitl [Hc]; · iexact Hc
  iexists _; iexact HO

end

end Cert.GmmIdeal.Body
-- ==== Proof.GmmIdealTab.lean ====
module

public import proofs.«01_k».proof.Proof.GmmIdealRun

/-! The prefetched tables, what they must hold, and the grid's points. -/

@[expose] public section

set_option maxRecDepth 16384

noncomputable section

namespace Cert.GmmIdeal.Body

open Cert.GmmIdeal Cert.GmmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD Dat)

variable {F : FTy → Type} [FloatOps F] [∀ e, Nonempty (Elt F e)]
variable (m : (ℓ : Loc nD τ sig) → Buf (Elt F) ℓ)

/-- What an array holds when the pipeline is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The tables the pipeline is entered with. -/
def tbl : pre0.Contents (Elt F) := fun j => V m (0 : Dev nD) (pre0.ref j)
theorem V_pre (c : Dev nD) (j : Fin 5) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The integer arguments, as tables of words. -/
abbrev teT : IVec S160 32 := m ((0 : Dev nD).tc.loc main_arg0)
abbrev tbT : IVec S160 32 := m ((0 : Dev nD).tc.loc main_arg1)
abbrev nuT : IVec S1 32 := m ((0 : Dev nD).tc.loc main_arg2)
abbrev stT : IVec S65536 32 := m ((0 : Dev nD).tc.loc main_arg3)

/-- The ranges of the integer tables. -/
structure Rng : Prop where
  te : ∀ j, (teT m j).toNat < 32
  tb : ∀ j, (tbT m j).toNat ≤ 81920
  st : ∀ j, (stT m j).toNat < 16384

theorem tbl0 : tbl m 0 = teT m := V_main_arg0 m 0
theorem tbl1 : tbl m 1 = tbT m := V_main_arg1 m 0
theorem tbl2 : tbl m 2 = nuT m := V_main_arg2 m 0
theorem tbl3 : tbl m 3 = stT m := V_main_arg3 m 0

theorem tbl4 (h : Rng m) (j) : (tbl m 4 j : BitVec 32).toNat < 32 := by
  have e : tbl m 4 j = V m 0 main_v14 j := rfl
  rw [e]
  entry_read
  exact h.te _

theorem pts : ∀ t : Fin grid0.N, (grid0.coords t 0).val = t.val / 4 ∧ (grid0.coords t 1).val = t.val % 4 := by
  decide +kernel
theorem c2_iff (i : grid0.Coords) : k0_cond2 i = 1#1 ↔ (i 1).val = 0 := by
  have : ∀ f : Fin 4, (Scalar.cmpi .ne (Scalar.extui (Scalar.cmpi .eq (BitVec.ofNat 32 f.val) 0#32) : BitVec 32) 0#32 = 1#1) ↔ f.val = 0 := by decide
  exact this (i 1)
theorem c3_iff (i : grid0.Coords) : k0_cond3 i = 1#1 ↔ (i 1).val = 3 := by
  have : ∀ f : Fin 4, (Scalar.cmpi .ne (Scalar.extui (Scalar.cmpi .eq (BitVec.ofNat 32 f.val) 3#32) : BitVec 32) 0#32 = 1#1) ↔ f.val = 3 := by decide
  exact this (i 1)
theorem c1_iff (i : grid0.Coords) (w : BitVec 32) : k0_cond1 i w = 1#1 ↔ (BitVec.ofNat 32 (i 0).val).slt w = true := by
  have e : ∀ b : Bool, (Scalar.cmpi .ne (Scalar.extui (BitVec.ofBool b) : BitVec 32) 0#32 = 1#1) ↔ b = true := by decide
  exact e _
theorem c4_iff (i : grid0.Coords) (w : BitVec 32) : k0_cond4 i w = 1#1 ↔ ¬ k0_cond1 i w = 1#1 ∧ k0_cond2 i = 1#1 := by
  rw [c1_iff, c2_iff]
  have e : ∀ f : Fin 4, (Scalar.cmpi .eq (BitVec.ofNat 32 f.val) 0#32 = 1#1) ↔ f.val = 0 := by decide
  have e2 : ∀ b c : Bool, (Scalar.cmpi .ne (Scalar.extui (Scalar.andi (BitVec.ofBool b) (BitVec.ofBool c)) : BitVec 32) 0#32 = 1#1) ↔ b = true ∧ c = true := by decide
  have e3 : k0_cond4 i w = 1#1 ↔ w.sle (BitVec.ofNat 32 (i 0).val) = true ∧ ((BitVec.ofNat 32 (i 1).val) == 0#32) = true := e2 _ _
  rw [e3, BitVec.sle_eq_not_slt]
  have e4 : ∀ f : Fin 4, ((BitVec.ofNat 32 f.val) == 0#32) = true ↔ f.val = 0 := by decide
  rw [e4 (i 1)]
  simp

theorem selB (b : BitVec 1) (x y : BitVec 32) (n : ℕ) (hx : x.toNat < n) (hy : y.toNat < n) : (Scalar.select b x y).toNat < n := by
  unfold Scalar.select; split <;> assumption

/-- The expert and the block of hidden units a point's windows are on. -/
def xsel (pf : pre0.Contents (Elt F)) (i : grid0.Coords) : BitVec 32 :=
  Scalar.select (Scalar.cmpi .slt (BitVec.ofNat 32 (i 0).val) (pf.at 2 (Rect.unit (s := S1) ![0] S1.size inb_S1_S1_0) numel1_S1))
    (pf.at 0 (Rect.unit (s := S160) (k0_off1 i) S1.size (k0_off1_inb i)) numel1_S1)
    (pf.at 4 (Rect.unit (s := S1) ![0] S1.size inb_S1_S1_0) numel1_S1)
def fsel (pf : pre0.Contents (Elt F)) (i : grid0.Coords) : BitVec 32 :=
  Scalar.select (Scalar.cmpi .slt (BitVec.ofNat 32 (i 0).val) (pf.at 2 (Rect.unit (s := S1) ![0] S1.size inb_S1_S1_0) numel1_S1))
    (BitVec.ofNat 32 (i 1).val) 3#32

theorem xf1 (pf : pre0.Contents (Elt F)) (i : grid0.Coords) : cc0_transform_1 inb_S1_S1_0 numel1_S1 k0_off1_inb pf i = ![(xsel pf i).toNat, 0, (fsel pf i).toNat] := by
  unfold xsel fsel cc0_transform_1 k0_off1; rfl
theorem xf2 (pf : pre0.Contents (Elt F)) (i : grid0.Coords) : cc0_transform_2 inb_S1_S1_0 numel1_S1 k0_off1_inb pf i = ![(xsel pf i).toNat, 0, (4#32 + fsel pf i).toNat] := by
  unfold xsel fsel cc0_transform_2 k0_off1; rfl
theorem xf3 (pf : pre0.Contents (Elt F)) (i : grid0.Coords) : cc0_transform_3 inb_S1_S1_0 numel1_S1 k0_off1_inb pf i = ![(xsel pf i).toNat, 0, (fsel pf i).toNat] := by
  unfold xsel fsel cc0_transform_3 k0_off1; rfl
theorem xf4 (pf : pre0.Contents (Elt F)) (i : grid0.Coords) : cc0_transform_4 inb_S1_S1_0 numel1_S1 k0_off1_inb pf i = ![(xsel pf i).toNat, 0, (4#32 + fsel pf i).toNat] := by
  unfold xsel fsel cc0_transform_4 k0_off1; rfl
theorem xf5 (pf : pre0.Contents (Elt F)) (i : grid0.Coords) : cc0_transform_5 inb_S1_S1_0 numel1_S1 k0_off1_inb pf i = ![(xsel pf i).toNat, (fsel pf i).toNat, 0] := by
  unfold xsel fsel cc0_transform_5 k0_off1; rfl
theorem xf6 (pf : pre0.Contents (Elt F)) (i : grid0.Coords) : cc0_transform_6 inb_S1_S1_0 numel1_S1 k0_off1_inb pf i = ![(xsel pf i).toNat, 0, 0] := by
  unfold xsel cc0_transform_6 k0_off1; rfl

theorem xsel_lt (h : Rng m) (i) : (xsel (tbl m) i).toNat < 32 := by
  unfold xsel
  exact selB _ _ _ 32 (by show (tbl m 0 _ : BitVec 32).toNat < 32; rw [tbl0]; exact h.te _) (tbl4 m h _)
theorem fsel_lt (i) : (fsel (tbl m) i).toNat < 4 := by
  have a1 : (i 1).val < 4 := (i 1).isLt
  unfold fsel
  exact selB _ _ _ 4 (by rw [BitVec.toNat_ofNat]; omega) (by decide)
theorem fsel4 (i) : (4#32 + fsel (tbl m) i).toNat = 4 + (fsel (tbl m) i).toNat := by
  have := fsel_lt m i
  rw [BitVec.toNat_add]; simp; omega

theorem okA (x f : ℕ) (hx : x < 32) (hf : f < 8) : ∃ h : (∀ a, ((![x, 0, f] : Fin 3 → ℕ) a + 1) * S1x2048x512.size a ≤ S32x2048x4096.size a),
    EltTy.bits .bf16 = 32 ∨ (Rect.block (s := S32x2048x4096) S1x2048x512.size ![x, 0, f] h).WholeWords (EltTy.packing .bf16) :=
  ⟨fun a => match a with
    | 0 => (by omega : (x + 1) * 1 ≤ 32)
    | 1 => (by decide : (0 + 1) * 2048 ≤ 2048)
    | 2 => (by omega : (f + 1) * 512 ≤ 4096), .inr (.inr ⟨by decide, rfl, Nat.zero_mul _, rfl⟩)⟩
theorem okB (x f : ℕ) (hx : x < 32) (hf : f < 8) : ∃ h : (∀ a, ((![x, 0, f] : Fin 3 → ℕ) a + 1) * S1x1x512.size a ≤ S32x1x4096.size a),
    EltTy.bits .f32 = 32 ∨ (Rect.block (s := S32x1x4096) S1x1x512.size ![x, 0, f] h).WholeWords (EltTy.packing .f32) :=
  ⟨fun a => match a with
    | 0 => (by omega : (x + 1) * 1 ≤ 32)
    | 1 => (by decide : (0 + 1) * 1 ≤ 1)
    | 2 => (by omega : (f + 1) * 512 ≤ 4096), .inl rfl⟩
theorem okC (x f : ℕ) (hx : x < 32) (hf : f < 4) : ∃ h : (∀ a, ((![x, f, 0] : Fin 3 → ℕ) a + 1) * S1x512x2048.size a ≤ S32x2048x2048.size a),
    EltTy.bits .bf16 = 32 ∨ (Rect.block (s := S32x2048x2048) S1x512x2048.size ![x, f, 0] h).WholeWords (EltTy.packing .bf16) :=
  ⟨fun a => match a with
    | 0 => (by omega : (x + 1) * 1 ≤ 32)
    | 1 => (by omega : (f + 1) * 512 ≤ 2048)
    | 2 => (by decide : (0 + 1) * 2048 ≤ 2048), .inr (.inl (.inr ⟨by decide, rfl, .inl ⟨by show 2 ∣ f * 512; omega, by show 2 ∣ 512; decide⟩⟩))⟩
theorem okD (x f : ℕ) (hx : x < 32) : ∃ h : (∀ a, ((![x, 0, 0] : Fin 3 → ℕ) a + 1) * S1x1x2048.size a ≤ S32x1x2048.size a),
    EltTy.bits .f32 = 32 ∨ (Rect.block (s := S32x1x2048) S1x1x2048.size ![x, 0, 0] h).WholeWords (EltTy.packing .f32) :=
  ⟨fun a => match a with
    | 0 => (by omega : (x + 1) * 1 ≤ 32)
    | 1 => (by decide : (0 + 1) * 1 ≤ 1)
    | 2 => (by decide : (0 + 1) * 2048 ≤ 2048), .inl rfl⟩

theorem ok_of (h : Rng m) : Ok m := by
  have hx := xsel_lt m h
  have hf := fsel_lt m
  have h4 := fsel4 m
  exact ⟨fun i => by rw [xf1]; exact okA _ _ (hx i) (lt_trans (hf i) (by decide)),
    fun i => by rw [xf2]; exact okA _ _ (hx i) (by have := hf i; have := h4 i; omega),
    fun i => by rw [xf3]; exact okB _ _ (hx i) (lt_trans (hf i) (by decide)),
    fun i => by rw [xf4]; exact okB _ _ (hx i) (by have := hf i; have := h4 i; omega),
    fun i => by rw [xf5]; exact okC _ _ (hx i) (hf i),
    fun i => by rw [xf6]; exact okD _ 0 (hx i)⟩

end Cert.GmmIdeal.Body
-- ==== Proof.GmmIdealDat.lean ====
module

public import proofs.«01_k».proof.Proof.GmmIdealTab
public import Idealize.ShloMosaic.Lib.StableHlo.Predicate
public import Idealize.ShloMosaic.Lib.WordArith

/-! What the pipeline's buffers hold at each point, and the body at a point. -/

@[expose] public section

set_option maxRecDepth 16384

noncomputable section

namespace Cert.GmmIdeal.Body

open Cert.GmmIdeal Cert.GmmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD Dat BodyObligation)

variable {F : FTy → Type} [FloatOps F] [∀ e, Nonempty (Elt F e)]
variable (m : (ℓ : Loc nD τ sig) → Buf (Elt F) ℓ)

theorem off3_val (b : BitVec 32) (hb : b.toNat ≤ 81920) (k : Fin k0_t1_loop.trips) : k0_off3 b k = ![min (b.toNat + k.val) 65535] := by
  have hk : k.val < 512 := lt_of_lt_of_eq k.isLt trips_eq
  have e1 : (Scf.iv 0#32 1#32 k.val : BitVec 32).toNat = k.val := by
    show (0#32 + BitVec.ofNat 32 k.val * 1#32).toNat = k.val
    simp; omega
  have e2 : (b + Scf.iv 0#32 1#32 k.val : BitVec 32).toNat = b.toNat + k.val := by
    rw [BitVec.toNat_add, e1]; omega
  have e3 : (Scalar.minsi (b + Scf.iv 0#32 1#32 k.val) 65535#32 : BitVec 32).toNat = min (b.toNat + k.val) 65535 := by
    rw [show ∀ x y : BitVec 32, Scalar.minsi x y = IntOp.minsi x y from fun _ _ => rfl, WordArith.toNat_minsi_of_lt _ _ (by omega) (by decide), e2]; rfl
  show ![_] = _
  exact congrArg (fun n : ℕ => ![n]) e3

section
variable (hr : Rng m)

abbrev CF : Pipeline.Cfg sig Λ₀ := cfgM m (ok_of m hr)

include hr in
theorem hb_of (c : Dev nD) (i : grid0.Coords) (h2 : k0_cond2 i = 1#1) (k : Fin k0_t1_loop.trips) :
    ∀ a, k0_off3 (bsW (c := c) i h2 (V m c main_arg1)) k a + S1.size a ≤ S65536.size a := by
  have hb : (bsW (c := c) i h2 (V m c main_arg1)).toNat ≤ 81920 := by
    obtain rfl : c = 0 := Subsingleton.elim _ _
    rw [V_main_arg1]; exact hr.tb _
  intro a
  rw [off3_val _ hb]
  match a with
  | 0 => exact (by omega : min (_ + k.val) 65535 + 1 ≤ 65536)

include hr in
theorem hw_of (c : Dev nD) (i : grid0.Coords) (h2 : k0_cond2 i = 1#1) (k : Fin k0_t1_loop.trips) :
    (wd (c := c) (V m c main_arg3) (bsW (c := c) i h2 (V m c main_arg1)) (hb_of m hr c i h2) k).toNat < 16384 := by
  obtain rfl : c = 0 := Subsingleton.elim _ _
  unfold wd
  rw [V_main_arg3 m 0]
  exact hr.st _

/-- The hidden rows of the tile whose first point is `i`. -/
def hidI (c : Dev nD) (i : grid0.Coords) (h2 : k0_cond2 i = 1#1) : Vec F S512x2048 .bf16 :=
  k0_pay4 (gath c (V m c main_arg3) (bsW (c := c) i h2 (V m c main_arg1)) (hb_of m hr c i h2) (hw_of m hr c i h2) (V m c main_arg4))

def pN (n : ℕ) : Fin grid0.N := ⟨n % 640, lt_of_lt_of_eq (Nat.mod_lt _ (by decide)) N_0.symm⟩
def p4 (t : Fin grid0.N) : Fin grid0.N := ⟨t.val - t.val % 4, lt_of_le_of_lt (Nat.sub_le _ _) t.isLt⟩
theorem c2_p4 (t : Fin grid0.N) : k0_cond2 (grid0.coords (p4 t)) = 1#1 := by
  rw [c2_iff, (pts _).2]; show (t.val - t.val % 4) % 4 = 0; omega

def hid (c : Dev nD) (t : Fin grid0.N) : Vec F S512x2048 .bf16 := hidI m hr c (grid0.coords (p4 t)) (c2_p4 t)

/-- A window's block at a point. -/
def iblk (c : Dev nD) (w : Fin (CF m hr).W) (t : Fin (CF m hr).N) : (((CF m hr).win w).xblock ((CF m hr).grid.coords t)).Idx → Elt F ((CF m hr).win w).elt :=
  (((CF m hr).win w).blk t).view.read (Elt F) (V m c (Pipeline.arrRef spec0 w))

abbrev b0 (c : Dev nD) (t : Fin grid0.N) : Vec F S1x2048x512 .bf16 := iblk m hr c 0 t
abbrev b1 (c : Dev nD) (t : Fin grid0.N) : Vec F S1x2048x512 .bf16 := iblk m hr c 1 t
abbrev b2 (c : Dev nD) (t : Fin grid0.N) : Vec F S1x1x512 .f32 := iblk m hr c 2 t
abbrev b3 (c : Dev nD) (t : Fin grid0.N) : Vec F S1x1x512 .f32 := iblk m hr c 3 t
abbrev b4 (c : Dev nD) (t : Fin grid0.N) : Vec F S1x512x2048 .bf16 := iblk m hr c 4 t
abbrev b5 (c : Dev nD) (t : Fin grid0.N) : Vec F S1x1x2048 .f32 := iblk m hr c 5 t

/-- One step of the accumulation at a point. -/
def stp (c : Dev nD) (t : Fin grid0.N) (a : Vec F S512x2048 .f32) : Vec F S512x2048 .f32 :=
  accStep (hid m hr c t) (b0 m hr c t) (b1 m hr c t) (b2 m hr c t) (b3 m hr c t) (b4 m hr c t) a

/-- The accumulator after point `n`. -/
def acc (c : Dev nD) : ℕ → Vec F S512x2048 .f32
  | 0 => stp m hr c (pN 0) (k0_pay5 (F := F))
  | n + 1 => stp m hr c (pN (n + 1)) (if (n + 1) % 4 = 0 then k0_pay5 (F := F) else acc c n)

theorem pN_val (t : Fin grid0.N) : pN t.val = t := Fin.ext (Nat.mod_eq_of_lt (lt_of_lt_of_eq t.isLt N_0))

theorem acc_first (c : Dev nD) (t : Fin grid0.N) (h : t.val % 4 = 0) : acc m hr c t.val = stp m hr c t (k0_pay5 (F := F)) := by
  obtain ⟨n, hn⟩ : ∃ n, n = t.val := ⟨_, rfl⟩
  have e := pN_val t
  rw [← hn] at e h ⊢
  cases n with
  | zero => unfold acc; rw [e]
  | succ n => unfold acc; rw [e, if_pos h]
theorem acc_next (c : Dev nD) (t : Fin grid0.N) (h : t.val % 4 ≠ 0) : acc m hr c t.val = stp m hr c t (acc m hr c (t.val - 1)) := by
  obtain ⟨n, hn⟩ : ∃ n, n = t.val := ⟨_, rfl⟩
  have e := pN_val t
  rw [← hn] at e h ⊢
  cases n with
  | zero => exact absurd rfl h
  | succ n => rw [acc, e, if_neg h]; rfl

/-- The word the body reads as the number of tiles in use, and whether a point's tile is in use. -/
abbrev nw (c : Dev nD) : BitVec 32 := nuW (c := c) (V m c main_arg2)
abbrev Live (c : Dev nD) (t : Fin grid0.N) : Prop := k0_cond1 (grid0.coords t) (nw m c) = 1#1

theorem live_congr (c : Dev nD) (t t' : Fin grid0.N) (h : t.val / 4 = t'.val / 4) : Live m c t ↔ Live m c t' := by
  unfold Live; rw [c1_iff, c1_iff, (pts t).1, (pts t').1, h]
theorem hid_congr (c : Dev nD) (t t' : Fin grid0.N) (h : t.val / 4 = t'.val / 4) : hid m hr c t = hid m hr c t' := by
  have : p4 t = p4 t' := Fin.ext (show t.val - t.val % 4 = t'.val - t'.val % 4 by omega)
  unfold hid; congr 2

/-- The last window's block after a point. -/
def aft (c : Dev nD) (t : Fin grid0.N) : Vec F S512x2048 .f32 :=
  if Live m c t then k0_pay2 (acc m hr c t.val) (b5 m hr c t) else k0_pay3 (F := F)

/-- What the body keeps before point `n`. -/
def PhiS (c : Dev nD) (n : ℕ) (_ : n ≤ (CF m hr).N) : sProp (MM F) :=
  iprop(((Memref.whole main_arg2).view.loc (c : Thread nD τ) ↦{fullShare.right} V m c main_arg2)
    ∗ ((Memref.whole main_arg1).view.loc (c : Thread nD τ) ↦{fullShare.right} V m c main_arg1)
    ∗ tabP c (V m c main_arg3) fullShare.right
    ∗ ((Memref.whole main_arg0).view.loc (c : Thread nD τ) ↦{fullShare.right} V m c main_arg0)
    ∗ ((Memref.whole main_v14).view.loc (c : Thread nD τ) ↦{fullShare.right} V m c main_v14)
    ∗ (∃ r, prngReg c r)
    ∗ semVal ((c : Thread nD τ), SemLoc.dma cc0_scratch3.sem) 0
    ∗ pt c (Memref.whole main_arg4) (V m c main_arg4)
    ∗ (∃ f0, pt c (Memref.whole cc0_scratch0) f0)
    ∗ (∃ g : Vec F S512x2048 .bf16, ∃ a : Vec F S512x2048 .f32, ⌜n % 4 ≠ 0 → Live m c (pN n) → g = hid m hr c (pN n) ∧ a = acc m hr c (n - 1)⌝
        ∗ owns (c : Thread nD τ) (Memref.whole cc0_scratch1) fullShare g ∗ owns (c : Thread nD τ) (Memref.whole cc0_scratch2) fullShare a))

def dats (p : Fin 1) (c : Dev nD) : Dat τ (Elt F) Unit ℕ (UD sig nD τ) ℕ (Pipeline.pin (pcfgs (F := F)) (fun _ => adm m (ok_of m hr)) p) c :=
  match p with
  | 0 =>
    { A := fun w => V m c (Pipeline.arrRef spec0 w)
      after := fun w t => match w with
        | 0 => iblk m hr c 0 t
        | 1 => iblk m hr c 1 t
        | 2 => iblk m hr c 2 t
        | 3 => iblk m hr c 3 t
        | 4 => iblk m hr c 4 t
        | 5 => iblk m hr c 5 t
        | 6 => aft m hr c t
        | ⟨_ + 7, h⟩ => absurd h (Nat.not_lt.2 (Nat.le_add_left _ _))
      Φ := fun t => PhiS m hr c t.val (Nat.le_of_lt_succ t.isLt)
      q := fun w => Pipeline.shareOf spec0 w
      owed := fun _ => 0 }
  | ⟨_ + 1, h⟩ => absurd h (Nat.not_lt.2 (Nat.le_add_left _ _))

theorem A_eq (c : Dev nD) (w : Fin (CF m hr).W) : (dats m hr 0 c).A w = V m c (Pipeline.arrRef spec0 w) := by dsimp only [dats]
theorem after0_0 (c : Dev nD) (t : Fin (CF m hr).N) : (dats m hr 0 c).after 0 t = iblk m hr c 0 t := by dsimp only [dats]; rfl
theorem before0_0 (c : Dev nD) (t : Fin (CF m hr).N) (d) : (dats m hr 0 c).before 0 t d = iblk m hr c 0 t :=
  ((dats m hr 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin (CF m hr).N) : (dats m hr 0 c).after 1 t = iblk m hr c 1 t := by dsimp only [dats]; rfl
theorem before0_1 (c : Dev nD) (t : Fin (CF m hr).N) (d) : (dats m hr 0 c).before 1 t d = iblk m hr c 1 t :=
  ((dats m hr 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin (CF m hr).N) : (dats m hr 0 c).after 2 t = iblk m hr c 2 t := by dsimp only [dats]; rfl
theorem before0_2 (c : Dev nD) (t : Fin (CF m hr).N) (d) : (dats m hr 0 c).before 2 t d = iblk m hr c 2 t :=
  ((dats m hr 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin (CF m hr).N) : (dats m hr 0 c).after 3 t = iblk m hr c 3 t := by dsimp only [dats]; rfl
theorem before0_3 (c : Dev nD) (t : Fin (CF m hr).N) (d) : (dats m hr 0 c).before 3 t d = iblk m hr c 3 t :=
  ((dats m hr 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin (CF m hr).N) : (dats m hr 0 c).after 4 t = iblk m hr c 4 t := by dsimp only [dats]; rfl
theorem before0_4 (c : Dev nD) (t : Fin (CF m hr).N) (d) : (dats m hr 0 c).before 4 t d = iblk m hr c 4 t :=
  ((dats m hr 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin (CF m hr).N) : (dats m hr 0 c).after 5 t = iblk m hr c 5 t := by dsimp only [dats]; rfl
theorem before0_5 (c : Dev nD) (t : Fin (CF m hr).N) (d) : (dats m hr 0 c).before 5 t d = iblk m hr c 5 t :=
  ((dats m hr 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin (CF m hr).N) : (dats m hr 0 c).after 6 t = aft m hr c t := by dsimp only [dats]; rfl
theorem Phi_castSucc (c : Dev nD) (t : Fin (CF m hr).N) : (dats m hr 0 c).Φ t.castSucc = PhiS m hr c t.val (Nat.le_of_lt t.isLt) := by
  dsimp only [dats]; exact Dat.Φ_castSucc (PhiS m hr c) t
theorem Phi_succ (c : Dev nD) (t : Fin (CF m hr).N) : (dats m hr 0 c).Φ t.succ = PhiS m hr c (t.val + 1) t.isLt := by
  dsimp only [dats]; rfl

end
end Cert.GmmIdeal.Body
-- ==== Proof.GmmIdealFrame.lean ====
module

public import proofs.«01_k».proof.Proof.GmmIdealDat

/-! The body at every point, and the launch. -/

@[expose] public section

set_option maxRecDepth 16384

noncomputable section

namespace Cert.GmmIdeal.Body

open Cert.GmmIdeal Cert.GmmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD Dat)

variable {F : FTy → Type} [FloatOps F] [∀ e, Nonempty (Elt F e)]
variable (m : (ℓ : Loc nD τ sig) → Buf (Elt F) ℓ)

theorem flushes : ∀ t : Fin grid0.N, Pipeline.Window.flushOf grid0 true cc0_transform_7 t = decide (t.val % 4 = 3) := by
  decide +kernel

section
variable (hr : Rng m)

theorem flush6 (t : Fin (CF m hr).N) : ((CF m hr).win 6).flush t = decide (t.val % 4 = 3) := flushes t
theorem fetch6 (t : Fin (CF m hr).N) : ((CF m hr).win 6).fetch t = false := rfl

theorem word_eq (c : Dev nD) : (tbl m).atD 2 ![0] = nw m c := by
  obtain rfl : c = 0 := Subsingleton.elim _ _
  unfold Pipeline.Prefetch.Contents.atD
  rw [dif_pos (by decide)]
  refine congrArg (V m 0 main_arg2) (funext fun a => ?_)
  have ha : a = (⟨0, by decide⟩ : Fin S1.rank) := Fin.ext (Nat.lt_one_iff.mp a.isLt)
  subst ha
  exact Subsingleton.elim (α := Fin 1) _ _

theorem idle_cfg (a : (pcfg0 (F := F)).Adm) (t : Fin (cfg0 a).N) : (cfg0 a).idle 6 ((cfg0 a).grid.coords t)
    = (!(k0_cond1 (grid0.coords t) (a.1.atD 2 ![0]) == 1#1 && k0_cond3 (grid0.coords t) == 1#1) && !(k0_cond4 (grid0.coords t) (a.1.atD 2 ![0]) == 1#1)) := (rfl)
theorem idle_of (a : (pcfg0 (F := F)).Adm) (w : BitVec 32) (h : a.1.atD 2 ![0] = w) (t : Fin (cfg0 a).N) : (cfg0 a).idle 6 ((cfg0 a).grid.coords t)
    = (!(k0_cond1 (grid0.coords t) w == 1#1 && k0_cond3 (grid0.coords t) == 1#1) && !(k0_cond4 (grid0.coords t) w == 1#1)) := by
  rw [idle_cfg, h]
set_option maxHeartbeats 1000000 in
theorem idle6 (c : Dev nD) (t : Fin (CF m hr).N) : (CF m hr).idle 6 ((CF m hr).grid.coords t)
    = (!(k0_cond1 (grid0.coords t) (nw m c) == 1#1 && k0_cond3 (grid0.coords t) == 1#1) && !(k0_cond4 (grid0.coords t) (nw m c) == 1#1)) :=
  idle_of (adm m (ok_of m hr)) (nw m c) (word_eq m c) t

theorem idle_live (c : Dev nD) (t : Fin (CF m hr).N) (h : Live m c t) : (CF m hr).idle 6 ((CF m hr).grid.coords t) = !decide (t.val % 4 = 3) := by
  rw [idle6 m hr c, h]
  have h4 : ¬ k0_cond4 (grid0.coords t) (nw m c) = 1#1 := fun h' => ((c4_iff _ _).mp h').1 h
  have h3 := (c3_iff (grid0.coords t)).trans (by rw [(pts t).2])
  by_cases h' : t.val % 4 = 3
  · rw [h3.mpr h']; simp [h']
  · have : ¬ k0_cond3 (grid0.coords t) = 1#1 := fun hh => h' (h3.mp hh)
    simp [h', h4, this]
theorem idle_dead (c : Dev nD) (t : Fin (CF m hr).N) (h : ¬ Live m c t) : (CF m hr).idle 6 ((CF m hr).grid.coords t) = !decide (t.val % 4 = 0) := by
  rw [idle6 m hr c]
  have h4 : k0_cond4 (grid0.coords t) (nw m c) = 1#1 ↔ t.val % 4 = 0 := by
    rw [c4_iff, c2_iff, (pts t).2]; exact and_iff_right h
  have h1 : (k0_cond1 (grid0.coords t) (nw m c) == 1#1) = false := by simpa using h
  rw [h1]
  by_cases h' : t.val % 4 = 0
  · rw [h4.mpr h']; simp [h']
  · have : ¬ k0_cond4 (grid0.coords t) (nw m c) = 1#1 := fun hh => h' (h4.mp hh)
    simp [h', this]

/-- A tile past the used ones: once its first point has stored zeros, they stay. -/
theorem before_dead (c : Dev nD) : ∀ (n : ℕ) (t : Fin (CF m hr).N), t.val % 4 = n → n ≠ 0 → ¬ Live m c t → ∀ d, (dats m hr 0 c).before 6 t d = k0_pay3 (F := F) := by
  intro n
  induction n with
  | zero => intro t _ h; exact absurd rfl h
  | succ n ih =>
    intro t ht _ hd d
    have hlt : t.val - 1 < (CF m hr).N := Nat.lt_of_le_of_lt (Nat.sub_le _ _) t.isLt
    have hd' : ¬ Live m c (⟨t.val - 1, hlt⟩ : Fin grid0.N) := fun h => hd ((live_congr m c _ t (show (t.val - 1) / 4 = t.val / 4 by omega)).mp h)
    have hm : (t.val - 1) % 4 = n := by omega
    rw [(dats m hr 0 c).before_of_pos 6 t (by intro h; rw [h] at ht; omega) (fetch6 m hr t) d, flush6 m hr]
    rw [if_neg (by simp; show ¬ (t.val - 1) % 4 = 3; omega)]
    unfold Dat.left
    rw [idle_dead m hr c _ hd']
    by_cases h0 : n = 0
    · rw [show (!decide ((t.val - 1) % 4 = 0)) = false by simp; omega]
      show (dats m hr 0 c).after 6 ⟨t.val - 1, hlt⟩ = _
      rw [after0_6]; unfold aft; rw [if_neg hd']
    · rw [show (!decide ((t.val - 1) % 4 = 0)) = true by simp; omega]
      exact ih ⟨t.val - 1, hlt⟩ hm h0 hd' d

/-- A window's current buffer at a point. -/
abbrev st (t : Fin (CF m hr).N) (w : Fin (CF m hr).W) := ((CF m hr).win w).stage ((CF m hr).slots t w)

abbrev bodyAt (t : Fin (CF m hr).N) : Prog (TpuEff nD τ sig (Elt F) Λ₀ .tc) PUnit :=
  body (grid0.coords t) (st m hr t 0) (hstage0_0 (((CF m hr).slots t 0).cast nbuf0_0)) (st m hr t 1) (hstage0_1 (((CF m hr).slots t 1).cast nbuf0_1)) (st m hr t 2) (hstage0_2 (((CF m hr).slots t 2).cast nbuf0_2)) (st m hr t 3) (hstage0_3 (((CF m hr).slots t 3).cast nbuf0_3)) (st m hr t 4) (hstage0_4 (((CF m hr).slots t 4).cast nbuf0_4)) (st m hr t 5) (hstage0_5 (((CF m hr).slots t 5).cast nbuf0_5)) (st m hr t 6) (hstage0_6 (((CF m hr).slots t 6).cast nbuf0_6))

/-- What the last window's buffer holds when the body is done. -/
def last6 (c : Dev nD) (t : Fin (CF m hr).N) : sProp (MM F) :=
  match (CF m hr).idle 6 ((CF m hr).grid.coords t) with
  | true =>
    match ((CF m hr).win 6).flush t with
    | false => iprop(∃ d, owns (c : Thread nD τ) (st m hr t 6) fullShare ((dats m hr 0 c).before 6 t d))
    | true => owns (c : Thread nD τ) (st m hr t 6) fullShare ((dats m hr 0 c).after 6 t)
  | false => owns (c : Thread nD τ) (st m hr t 6) fullShare ((dats m hr 0 c).after 6 t)

theorem last_keep (c : Dev nD) (t : Fin (CF m hr).N) (h1 : (CF m hr).idle 6 ((CF m hr).grid.coords t) = true) (h2 : t.val % 4 ≠ 3) :
    last6 m hr c t = iprop(∃ d, owns (c : Thread nD τ) (st m hr t 6) fullShare ((dats m hr 0 c).before 6 t d)) := by
  unfold last6; rw [h1, flush6, decide_eq_false h2]
theorem last_flush (c : Dev nD) (t : Fin (CF m hr).N) (h1 : (CF m hr).idle 6 ((CF m hr).grid.coords t) = true) (h2 : t.val % 4 = 3) :
    last6 m hr c t = owns (c : Thread nD τ) (st m hr t 6) fullShare (aft m hr c t) := by
  unfold last6; rw [h1, flush6, decide_eq_true h2, after0_6]
theorem last_set (c : Dev nD) (t : Fin (CF m hr).N) (h1 : (CF m hr).idle 6 ((CF m hr).grid.coords t) = false) :
    last6 m hr c t = owns (c : Thread nD τ) (st m hr t 6) fullShare (aft m hr c t) := by
  unfold last6; rw [h1, after0_6]

def bodyPre (c : Dev nD) (t : Fin (CF m hr).N) : sProp (MM F) :=
  iprop((dats m hr 0 c).Φ t.castSucc ∗ (dats m hr 0 c).owesAt () t.castSucc
    ∗ (∃ d, owns (c : Thread nD τ) (st m hr t 0) fullShare ((dats m hr 0 c).before 0 t d))
    ∗ (∃ d, owns (c : Thread nD τ) (st m hr t 1) fullShare ((dats m hr 0 c).before 1 t d))
    ∗ (∃ d, owns (c : Thread nD τ) (st m hr t 2) fullShare ((dats m hr 0 c).before 2 t d))
    ∗ (∃ d, owns (c : Thread nD τ) (st m hr t 3) fullShare ((dats m hr 0 c).before 3 t d))
    ∗ (∃ d, owns (c : Thread nD τ) (st m hr t 4) fullShare ((dats m hr 0 c).before 4 t d))
    ∗ (∃ d, owns (c : Thread nD τ) (st m hr t 5) fullShare ((dats m hr 0 c).before 5 t d))
    ∗ (∃ d, owns (c : Thread nD τ) (st m hr t 6) fullShare ((dats m hr 0 c).before 6 t d)))

def bodyPost (c : Dev nD) (t : Fin (CF m hr).N) : sProp (MM F) :=
  iprop((dats m hr 0 c).Φ t.succ ∗ (dats m hr 0 c).owesAt () t.succ
    ∗ owns (c : Thread nD τ) (st m hr t 0) fullShare ((dats m hr 0 c).after 0 t)
    ∗ owns (c : Thread nD τ) (st m hr t 1) fullShare ((dats m hr 0 c).after 1 t)
    ∗ owns (c : Thread nD τ) (st m hr t 2) fullShare ((dats m hr 0 c).after 2 t)
    ∗ owns (c : Thread nD τ) (st m hr t 3) fullShare ((dats m hr 0 c).after 3 t)
    ∗ owns (c : Thread nD τ) (st m hr t 4) fullShare ((dats m hr 0 c).after 4 t)
    ∗ owns (c : Thread nD τ) (st m hr t 5) fullShare ((dats m hr 0 c).after 5 t)
    ∗ last6 m hr c t)

theorem owes_out (c : Dev nD) (t : Fin ((CF m hr).N + 1)) : (dats m hr 0 c).owesAt () t ⊢ (iprop(∃ W, owes (c : Thread nD τ) 0 W) : sProp (MM F)) := by
  iintro ⟨%W, -, H⟩; iexists W; iexact H
theorem owes_in (c : Dev nD) (t : Fin ((CF m hr).N + 1)) : (iprop(∃ W, owes (c : Thread nD τ) 0 W) : sProp (MM F)) ⊢ (dats m hr 0 c).owesAt () t := by
  iintro ⟨%W, H⟩; iexists W
  isplitr
  · ipureintro; exact fun x _ => Or.inl trivial
  · iexact H

end
end Cert.GmmIdeal.Body
-- ==== Proof.GmmIdealSound.lean ====
module

public import proofs.«01_k».proof.Proof.GmmIdealFrame

/-! The body at every point, and the launch. -/

@[expose] public section

set_option maxRecDepth 16384

noncomputable section

namespace Cert.GmmIdeal.Body

open Cert.GmmIdeal Cert.GmmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD Dat)

variable {F : FTy → Type} [FloatOps F] [∀ e, Nonempty (Elt F e)]
variable (m : (ℓ : Loc nD τ sig) → Buf (Elt F) ℓ)

section
variable (hr : Rng m)

set_option maxHeartbeats 4000000 in
theorem sound_body (c : Dev nD) (t : Fin (CF m hr).N) :
    bodyPre m hr c t ⊢ wp frame (wpE (defs₀ (F := F)) Variants.none c none) Set.univ (bodyAt m hr t) (fun _ => bodyPost m hr c t) := by
  unfold bodyPre bodyPost
  simp only [before0_0, before0_1, before0_2, before0_3, before0_4, before0_5]
  rw [Phi_castSucc, Phi_succ, after0_0, after0_1, after0_2, after0_3, after0_4, after0_5,
    show (dats m hr 0 c).owesAt () t.succ = (dats m hr 0 c).owesAt () t.castSucc from rfl]
  unfold PhiS
  have hN : t.val < 640 := lt_of_lt_of_eq t.isLt N_0
  have ht : pN t.val = t := pN_val t
  have hp (h : (t.val + 1) % 4 ≠ 0) : (pN (t.val + 1)).val / 4 = t.val / 4 := by
    show ((t.val + 1) % 640) / 4 = t.val / 4
    rw [Nat.mod_eq_of_lt (by omega)]; omega
  have hh (h : (t.val + 1) % 4 ≠ 0) : hid m hr c (pN (t.val + 1)) = hid m hr c t := hid_congr m hr c _ _ (hp h)
  have hl (h : (t.val + 1) % 4 ≠ 0) : Live m c (pN (t.val + 1)) ↔ Live m c t := live_congr m c _ _ (hp h)
  rw [ht]
  iintro ⟨⟨T2, T1, T3, T0, T4, HR, Hc, H4m, ⟨%f0, Hs0⟩, ⟨%g, %a, %hga, Hs1, Hs2⟩⟩, Ho, ⟨%d0, H0⟩, ⟨%d1, H1⟩, ⟨%d2, H2⟩, ⟨%d3, H3⟩, ⟨%d4, H4⟩, ⟨%d5, H5⟩, ⟨%d6, H6⟩⟩
  have e2 := (c2_iff (grid0.coords t)).trans (by rw [(pts t).2])
  have e3 := (c3_iff (grid0.coords t)).trans (by rw [(pts t).2])
  by_cases hL : Live m c t
  · have n4 : ¬ k0_cond4 (grid0.coords t) (nw m c) = 1#1 := fun h' => ((c4_iff _ _).mp h').1 hL
    by_cases hf0 : t.val % 4 = 0
    · rw [last_keep m hr c t (by rw [idle_live m hr c t hL]; simp; omega) (by omega)]
      have hg : k0_pay4 (gath c (V m c main_arg3) (bsW (c := c) (grid0.coords t) (e2.mpr hf0) (V m c main_arg1)) (hb_of m hr c _ (e2.mpr hf0)) (hw_of m hr c _ (e2.mpr hf0)) (V m c main_arg4)) = hid m hr c t := by
        have h4 : p4 t = t := Fin.ext (show t.val - t.val % 4 = t.val by omega)
        change hidI m hr c (grid0.coords t) (e2.mpr hf0) = _
        unfold hid; congr 1; rw [h4]
      have ha : accStep (hid m hr c t) (iblk m hr c 0 t) (iblk m hr c 1 t) (iblk m hr c 2 t) (iblk m hr c 3 t) (iblk m hr c 4 t) (k0_pay5 (F := F)) = acc m hr c t.val := by
        rw [acc_first m hr c t hf0]; rfl
      ihave Ho' := (owes_out m hr c t.castSucc) $$ Ho
      iapply (run_first c (grid0.coords t) (st m hr t 0) (hstage0_0 (((CF m hr).slots t 0).cast nbuf0_0)) (st m hr t 1) (hstage0_1 (((CF m hr).slots t 1).cast nbuf0_1)) (st m hr t 2) (hstage0_2 (((CF m hr).slots t 2).cast nbuf0_2)) (st m hr t 3) (hstage0_3 (((CF m hr).slots t 3).cast nbuf0_3)) (st m hr t 4) (hstage0_4 (((CF m hr).slots t 4).cast nbuf0_4)) (st m hr t 5) (hstage0_5 (((CF m hr).slots t 5).cast nbuf0_5)) (st m hr t 6) (hstage0_6 (((CF m hr).slots t 6).cast nbuf0_6)) fullShare.right (V m c main_arg2) (iblk m hr c 0 t) (iblk m hr c 1 t) (iblk m hr c 2 t) (iblk m hr c 3 t) (iblk m hr c 4 t)
        (V m c main_arg1) (V m c main_arg3) f0 (V m c main_arg4) g a hL (e2.mpr hf0) (fun h => by have := e3.mp h; omega) n4 (hb_of m hr c _ (e2.mpr hf0)) (hw_of m hr c _ (e2.mpr hf0)) _)
      isplitl [T2]; · iexact T2
      isplitl [H0]; · iexact H0
      isplitl [H1]; · iexact H1
      isplitl [H2]; · iexact H2
      isplitl [H3]; · iexact H3
      isplitl [H4]; · iexact H4
      isplitl [Hs1]; · iexact Hs1
      isplitl [Hs2]; · iexact Hs2
      isplitl [T1]; · iexact T1
      isplitl [T3]; · iexact T3
      isplitl [Hs0]; · iexact Hs0
      isplitl [H4m]; · iexact H4m
      isplitl [Hc]; · iexact Hc
      isplitl [Ho']; · iexact Ho'
      rw [hg, ha]
      iintro ⟨T2, H0, H1, H2, H3, H4, Hs1, Hs2, T1, T3, Hs0, H4m, Hc, Ho⟩
      isplitl [T2 T1 T3 T0 T4 HR Hc H4m Hs0 Hs1 Hs2]
      · isplitl [T2]; · iexact T2
        isplitl [T1]; · iexact T1
        isplitl [T3]; · iexact T3
        isplitl [T0]; · iexact T0
        isplitl [T4]; · iexact T4
        isplitl [HR]; · iexact HR
        isplitl [Hc]; · iexact Hc
        isplitl [H4m]; · iexact H4m
        isplitl [Hs0]; · iexists _; iexact Hs0
        iexists (hid m hr c t); iexists (acc m hr c t.val)
        isplitr
        · ipureintro
          intro hne _
          exact ⟨(hh hne).symm, by rw [Nat.add_sub_cancel]⟩
        isplitl [Hs1]; · iexact Hs1
        iexact Hs2
      isplitl [Ho]; · iapply (owes_in m hr c t.castSucc); iexact Ho
      isplitl [H0]; · iexact H0
      isplitl [H1]; · iexact H1
      isplitl [H2]; · iexact H2
      isplitl [H3]; · iexact H3
      isplitl [H4]; · iexact H4
      isplitl [H5]; · iexact H5
      iexists _; iexact H6
    · obtain ⟨rfl, rfl⟩ := hga hf0 hL
      have ha : accStep (hid m hr c t) (iblk m hr c 0 t) (iblk m hr c 1 t) (iblk m hr c 2 t) (iblk m hr c 3 t) (iblk m hr c 4 t) (acc m hr c (t.val - 1)) = acc m hr c t.val := by
        rw [acc_next m hr c t hf0]; rfl
      by_cases hf3 : t.val % 4 = 3
      · rw [last_set m hr c t (by rw [idle_live m hr c t hL]; simp; omega)]
        iapply (run_last c (grid0.coords t) (st m hr t 0) (hstage0_0 (((CF m hr).slots t 0).cast nbuf0_0)) (st m hr t 1) (hstage0_1 (((CF m hr).slots t 1).cast nbuf0_1)) (st m hr t 2) (hstage0_2 (((CF m hr).slots t 2).cast nbuf0_2)) (st m hr t 3) (hstage0_3 (((CF m hr).slots t 3).cast nbuf0_3)) (st m hr t 4) (hstage0_4 (((CF m hr).slots t 4).cast nbuf0_4)) (st m hr t 5) (hstage0_5 (((CF m hr).slots t 5).cast nbuf0_5)) (st m hr t 6) (hstage0_6 (((CF m hr).slots t 6).cast nbuf0_6)) fullShare.right (V m c main_arg2) (iblk m hr c 0 t) (iblk m hr c 1 t) (iblk m hr c 2 t) (iblk m hr c 3 t) (iblk m hr c 4 t) (iblk m hr c 5 t) _ (hid m hr c t) (acc m hr c (t.val - 1)) hL (fun h => by have := e2.mp h; omega) (e3.mpr hf3) n4 _)
        isplitl [T2]; · iexact T2
        isplitl [H0]; · iexact H0
        isplitl [H1]; · iexact H1
        isplitl [H2]; · iexact H2
        isplitl [H3]; · iexact H3
        isplitl [H4]; · iexact H4
        isplitl [Hs1]; · iexact Hs1
        isplitl [Hs2]; · iexact Hs2
        isplitl [H5]; · iexact H5
        isplitl [H6]; · iexact H6
        rw [ha]
        iintro ⟨T2, H0, H1, H2, H3, H4, Hs1, Hs2, H5, H6⟩
        isplitl [T2 T1 T3 T0 T4 HR Hc H4m Hs0 Hs1 Hs2]
        · isplitl [T2]; · iexact T2
          isplitl [T1]; · iexact T1
          isplitl [T3]; · iexact T3
          isplitl [T0]; · iexact T0
          isplitl [T4]; · iexact T4
          isplitl [HR]; · iexact HR
          isplitl [Hc]; · iexact Hc
          isplitl [H4m]; · iexact H4m
          isplitl [Hs0]; · iexists _; iexact Hs0
          iexists (hid m hr c t); iexists (acc m hr c t.val)
          isplitr
          · ipureintro
            intro hne; exact absurd (by omega) hne
          isplitl [Hs1]; · iexact Hs1
          iexact Hs2
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold aft; rw [if_pos hL]; iexact H6
      · rw [last_keep m hr c t (by rw [idle_live m hr c t hL]; simp; omega) hf3]
        iapply (run_mid c (grid0.coords t) (st m hr t 0) (hstage0_0 (((CF m hr).slots t 0).cast nbuf0_0)) (st m hr t 1) (hstage0_1 (((CF m hr).slots t 1).cast nbuf0_1)) (st m hr t 2) (hstage0_2 (((CF m hr).slots t 2).cast nbuf0_2)) (st m hr t 3) (hstage0_3 (((CF m hr).slots t 3).cast nbuf0_3)) (st m hr t 4) (hstage0_4 (((CF m hr).slots t 4).cast nbuf0_4)) (st m hr t 5) (hstage0_5 (((CF m hr).slots t 5).cast nbuf0_5)) (st m hr t 6) (hstage0_6 (((CF m hr).slots t 6).cast nbuf0_6)) fullShare.right (V m c main_arg2) (iblk m hr c 0 t) (iblk m hr c 1 t) (iblk m hr c 2 t) (iblk m hr c 3 t) (iblk m hr c 4 t) (hid m hr c t) (acc m hr c (t.val - 1)) hL (fun h => by have := e2.mp h; omega) (fun h => hf3 (e3.mp h)) n4 _)
        isplitl [T2]; · iexact T2
        isplitl [H0]; · iexact H0
        isplitl [H1]; · iexact H1
        isplitl [H2]; · iexact H2
        isplitl [H3]; · iexact H3
        isplitl [H4]; · iexact H4
        isplitl [Hs1]; · iexact Hs1
        isplitl [Hs2]; · iexact Hs2
        rw [ha]
        iintro ⟨T2, H0, H1, H2, H3, H4, Hs1, Hs2⟩
        isplitl [T2 T1 T3 T0 T4 HR Hc H4m Hs0 Hs1 Hs2]
        · isplitl [T2]; · iexact T2
          isplitl [T1]; · iexact T1
          isplitl [T3]; · iexact T3
          isplitl [T0]; · iexact T0
          isplitl [T4]; · iexact T4
          isplitl [HR]; · iexact HR
          isplitl [Hc]; · iexact Hc
          isplitl [H4m]; · iexact H4m
          isplitl [Hs0]; · iexists _; iexact Hs0
          iexists (hid m hr c t); iexists (acc m hr c t.val)
          isplitr
          · ipureintro
            intro hne _; exact ⟨(hh hne).symm, by rw [Nat.add_sub_cancel]⟩
          isplitl [Hs1]; · iexact Hs1
          iexact Hs2
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases hf0 : t.val % 4 = 0
    · rw [last_set m hr c t (by rw [idle_dead m hr c t hL]; simp; omega)]
      iapply (run_zero c (grid0.coords t) (st m hr t 0) (hstage0_0 (((CF m hr).slots t 0).cast nbuf0_0)) (st m hr t 1) (hstage0_1 (((CF m hr).slots t 1).cast nbuf0_1)) (st m hr t 2) (hstage0_2 (((CF m hr).slots t 2).cast nbuf0_2)) (st m hr t 3) (hstage0_3 (((CF m hr).slots t 3).cast nbuf0_3)) (st m hr t 4) (hstage0_4 (((CF m hr).slots t 4).cast nbuf0_4)) (st m hr t 5) (hstage0_5 (((CF m hr).slots t 5).cast nbuf0_5)) (st m hr t 6) (hstage0_6 (((CF m hr).slots t 6).cast nbuf0_6)) fullShare.right (V m c main_arg2) _ hL ((c4_iff _ _).mpr ⟨hL, e2.mpr hf0⟩) _)
      isplitl [T2]; · iexact T2
      isplitl [H6]; · iexact H6
      iintro ⟨T2, H6⟩
      isplitl [T2 T1 T3 T0 T4 HR Hc H4m Hs0 Hs1 Hs2]
      · isplitl [T2]; · iexact T2
        isplitl [T1]; · iexact T1
        isplitl [T3]; · iexact T3
        isplitl [T0]; · iexact T0
        isplitl [T4]; · iexact T4
        isplitl [HR]; · iexact HR
        isplitl [Hc]; · iexact Hc
        isplitl [H4m]; · iexact H4m
        isplitl [Hs0]; · iexists _; iexact Hs0
        iexists g; iexists a
        isplitr
        · ipureintro
          intro hne h; exact absurd ((hl hne).mp h) hL
        isplitl [Hs1]; · iexact Hs1
        iexact Hs2
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold aft; rw [if_neg hL]; iexact H6
    · iapply (run_idle c (grid0.coords t) (st m hr t 0) (hstage0_0 (((CF m hr).slots t 0).cast nbuf0_0)) (st m hr t 1) (hstage0_1 (((CF m hr).slots t 1).cast nbuf0_1)) (st m hr t 2) (hstage0_2 (((CF m hr).slots t 2).cast nbuf0_2)) (st m hr t 3) (hstage0_3 (((CF m hr).slots t 3).cast nbuf0_3)) (st m hr t 4) (hstage0_4 (((CF m hr).slots t 4).cast nbuf0_4)) (st m hr t 5) (hstage0_5 (((CF m hr).slots t 5).cast nbuf0_5)) (st m hr t 6) (hstage0_6 (((CF m hr).slots t 6).cast nbuf0_6)) fullShare.right (V m c main_arg2) hL (fun h => hf0 (e2.mp ((c4_iff _ _).mp h).2)) _)
      isplitl [T2]; · iexact T2
      iintro T2
      isplitl [T2 T1 T3 T0 T4 HR Hc H4m Hs0 Hs1 Hs2]
      · isplitl [T2]; · iexact T2
        isplitl [T1]; · iexact T1
        isplitl [T3]; · iexact T3
        isplitl [T0]; · iexact T0
        isplitl [T4]; · iexact T4
        isplitl [HR]; · iexact HR
        isplitl [Hc]; · iexact Hc
        isplitl [H4m]; · iexact H4m
        isplitl [Hs0]; · iexists _; iexact Hs0
        iexists g; iexists a
        isplitr
        · ipureintro
          intro hne h; exact absurd ((hl hne).mp h) hL
        isplitl [Hs1]; · iexact Hs1
        iexact Hs2
      isplitl [Ho]; · iexact Ho
      isplitl [H0]; · iexact H0
      isplitl [H1]; · iexact H1
      isplitl [H2]; · iexact H2
      isplitl [H3]; · iexact H3
      isplitl [H4]; · iexact H4
      isplitl [H5]; · iexact H5
      by_cases hf3 : t.val % 4 = 3
      · rw [last_flush m hr c t (by rw [idle_dead m hr c t hL]; simp; omega) hf3, before_dead m hr c (t.val % 4) t rfl hf0 hL d6]
        unfold aft; rw [if_neg hL]; iexact H6
      · rw [last_keep m hr c t (by rw [idle_dead m hr c t hL]; simp; omega) hf3]
        iexists _; iexact H6

end
end Cert.GmmIdeal.Body
-- ==== Proof.GmmIdealOb.lean ====
module

public import proofs.«01_k».proof.Proof.GmmIdealSound

/-! The body at every point, and the launch. -/

@[expose] public section

set_option maxRecDepth 16384

noncomputable section

namespace Cert.GmmIdeal.Body

open Cert.GmmIdeal Cert.GmmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD Dat)

variable {F : FTy → Type} [FloatOps F] [∀ e, Nonempty (Elt F e)]
variable (m : (ℓ : Loc nD τ sig) → Buf (Elt F) ℓ)

section
variable (hr : Rng m)

theorem defs₀_row (t : Fin (CF m hr).N) :
    defs₀ (F := F) .tc (CF m hr).body ((CF m hr).bodyArgs t ((CF m hr).slots t)) = bodyAt m hr t := by
  unfold defs₀; rw [Defs.onTc_tc]; rfl

include hr in
theorem body_obligation (c : Dev nD) : Pipeline.BodyObligation (dats (F := F) m hr 0 c) (defs₀ (F := F)) Variants.none () Set.univ := fun t => by
  rw [bigSep_W0, bigSep_W0, defs₀_row m hr]
  refine triple_restated (sound_body m hr c t) rfl .rfl fun _ => ?_
  unfold bodyPost
  refine sep_mono .rfl (sep_mono .rfl (sep_mono .rfl (sep_mono .rfl (sep_mono .rfl (sep_mono .rfl (sep_mono .rfl (sep_mono .rfl ?_)))))))
  split
  next h => exact absurd h Bool.false_ne_true
  next =>
    split
    next h =>
      split
      next h2 => exact Entails.of_eq (by unfold last6; rw [show (CF m hr).idle 6 ((CF m hr).grid.coords t) = true from h, show ((CF m hr).win 6).flush t = false from h2]; rfl)
      next h2 => exact Entails.of_eq (by unfold last6; rw [show (CF m hr).idle 6 ((CF m hr).grid.coords t) = true from h, show ((CF m hr).win 6).flush t = true from h2]; rfl)
    next h => exact Entails.of_eq (by unfold last6; rw [show (CF m hr).idle 6 ((CF m hr).grid.coords t) = false from h]; rfl)

end
end Cert.GmmIdeal.Body
-- ==== Proof.GmmIdealLaunch.lean ====
module

public import proofs.«01_k».proof.Proof.GmmIdealOb

/-! The body at every point, and the launch. -/

@[expose] public section

set_option maxRecDepth 16384

noncomputable section

namespace Cert.GmmIdeal.Body

open Cert.GmmIdeal Cert.GmmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD Dat)

variable {F : FTy → Type} [FloatOps F] [∀ e, Nonempty (Elt F e)]
variable (m : (ℓ : Loc nD τ sig) → Buf (Elt F) ℓ)

abbrev osem0 : Unit → SemLoc sig := fun _ => SemLoc.dma cc0_scratch3.sem
theorem ownSemFacts0 : Pipeline.OwnSemFacts spec0 osem0 := by decide
abbrev H0 : Finset (Ref sig .tc) := {main_arg4}
theorem H0_sub : H0 ⊆ Pipeline.restRefsP sig pre0 spec0 := by decide

theorem own_in (c : Dev nD) (b : Ref sig .tc) (f : Buf (Elt F) ((c : Thread nD τ).loc b)) :
    (iprop((((c : Thread nD τ).loc b) ↦{fullShare} f)) : sProp (MM F)) ⊢ owns (c : Thread nD τ) (Memref.whole b) fullShare ((Memref.whole b).view.read (Elt F) f) := by
  unfold owns
  iintro H
  iexists f
  isplitr
  · ipureintro; rfl
  · rw [show (Memref.whole b).view.set = Finset.univ from View.set_whole b]; iexact H
theorem own_out (c : Dev nD) (b : Ref sig .tc) (X : b.ty.shape.Idx → Elt F b.ty.elt) :
    (owns (c : Thread nD τ) (Memref.whole b) fullShare X : sProp (MM F)) ⊢ iprop(∃ f : Buf (Elt F) ((c : Thread nD τ).loc b), (((c : Thread nD τ).loc b) ↦{fullShare} f)) := by
  unfold owns
  iintro ⟨%f, -, H⟩
  iexists f
  rw [show (Memref.whole b).view.set = Finset.univ from View.set_whole b]; iexact H

theorem own0_eq (c : Dev nD) : (Pipeline.ownSems0 (Ix := Unit) (Name := ℕ) (U := UD sig nD τ) (Lvl := ℕ) (Val := Elt F) (τ := τ) osem0 c : sProp (MM F))
    = semVal ((c : Thread nD τ), SemLoc.dma cc0_scratch3.sem) 0 := by
  unfold Pipeline.ownSems0
  rw [show (Finset.univ : Finset Unit) = {()} from rfl, bigSep_singleton]
theorem mem_arg0 : main_arg0 ∈ Pipeline.restRefs sig spec0 := Pipeline.mem_restRefs_of _ rfl (by decide)
theorem mem_arg1 : main_arg1 ∈ Pipeline.restRefs sig spec0 := Pipeline.mem_restRefs_of _ rfl (by decide)
theorem mem_arg2 : main_arg2 ∈ Pipeline.restRefs sig spec0 := Pipeline.mem_restRefs_of _ rfl (by decide)
theorem mem_arg3 : main_arg3 ∈ Pipeline.restRefs sig spec0 := Pipeline.mem_restRefs_of _ rfl (by decide)
theorem mem_arg4 : main_arg4 ∈ Pipeline.restRefs sig spec0 := Pipeline.mem_restRefs_of _ rfl (by decide)
theorem mem_arg5 : main_arg5 ∈ Pipeline.restRefs sig spec0 := Pipeline.mem_restRefs_of _ rfl (by decide)
theorem mem_arg6 : main_arg6 ∈ Pipeline.restRefs sig spec0 := Pipeline.mem_restRefs_of _ rfl (by decide)
theorem mem_arg7 : main_arg7 ∈ Pipeline.restRefs sig spec0 := Pipeline.mem_restRefs_of _ rfl (by decide)
theorem mem_arg8 : main_arg8 ∈ Pipeline.restRefs sig spec0 := Pipeline.mem_restRefs_of _ rfl (by decide)

theorem PhiT0_eq (c : Dev nD) : (Pipeline.ΦT pre0 (tbl m) c : sProp (MM F))
    = iprop((((c : Thread nD τ).loc main_arg0) ↦{fullShare.right} V m 0 main_arg0) ∗ (((c : Thread nD τ).loc main_arg1) ↦{fullShare.right} V m 0 main_arg1)
      ∗ (((c : Thread nD τ).loc main_arg2) ↦{fullShare.right} V m 0 main_arg2) ∗ (((c : Thread nD τ).loc main_arg3) ↦{fullShare.right} V m 0 main_arg3)
      ∗ (((c : Thread nD τ).loc main_v14) ↦{fullShare.right} V m 0 main_v14)) := by
  unfold Pipeline.ΦT Pipeline.prefHeld
  rw [show (Finset.univ : Finset (Fin 5)) = insert (0 : Fin 5) (insert 1 (insert 2 (insert 3 {4}))) from by decide,
    bigSep_insert (by decide), bigSep_insert (by decide), bigSep_insert (by decide), bigSep_insert (by decide), bigSep_singleton]
  rfl

section
variable (hr : Rng m)

theorem hin (c : Dev nD) : iprop(Pipeline.ΦD osem0 spec0 H0 (V m) c ∗ Pipeline.ΦT pre0 (tbl m) c) ⊢ (dats m hr 0 c).Φ 0 := by
  have e : (dats m hr 0 c).Φ 0 = PhiS m hr c 0 (Nat.zero_le _) := by dsimp only [dats]; rfl
  obtain rfl : c = 0 := Subsingleton.elim _ _
  rw [e, Pipeline.ΦD_eq, scopedRest0_eq, PhiT0_eq, own0_eq, bigSep_singleton]
  unfold PhiS
  iintro ⟨⟨⟨⟨%f0, S0⟩, ⟨%f1, S1⟩, ⟨%f2, S2⟩⟩, HR, Hc, H4⟩, T0, T1, T2, T3, T4⟩
  isplitl [T2]; · iexact T2
  isplitl [T1]; · iexact T1
  isplitl [T3]; · iexact T3
  isplitl [T0]; · iexact T0
  isplitl [T4]; · iexact T4
  isplitl [HR]; · iexact HR
  isplitl [Hc]; · iexact Hc
  isplitl [H4]; · iexact H4
  isplitl [S0]; · iexists f0; iexact S0
  iexists ((Memref.whole cc0_scratch1).view.read (Elt F) f1); iexists ((Memref.whole cc0_scratch2).view.read (Elt F) f2)
  isplitr
  · ipureintro; intro h; exact absurd rfl h
  isplitl [S1]
  · iapply (own_in (F := F) 0 cc0_scratch1 f1); iexact S1
  · iapply (own_in (F := F) 0 cc0_scratch2 f2); iexact S2

theorem hout (c : Dev nD) : (dats m hr 0 c).Φ (Fin.last (CF m hr).N) ⊢ Pipeline.ΦD osem0 spec0 H0 (V m) c := by
  have e : (dats m hr 0 c).Φ (Fin.last (CF m hr).N) = PhiS m hr c (CF m hr).N le_rfl := by dsimp only [dats]; rfl
  obtain rfl : c = 0 := Subsingleton.elim _ _
  rw [e, Pipeline.ΦD_eq, scopedRest0_eq, own0_eq, bigSep_singleton]
  unfold PhiS
  iintro ⟨-, -, -, -, -, HR, Hc, H4, ⟨%f0, S0⟩, ⟨%g, %a, -, S1, S2⟩⟩
  isplitl [S0 S1 S2]
  · isplitl [S0]; · iexists f0; iexact S0
    isplitl [S1]
    · iapply (own_out (F := F) 0 cc0_scratch1 g); iexact S1
    · iapply (own_out (F := F) 0 cc0_scratch2 a); iexact S2
  isplitl [HR]; · iexact HR
  isplitl [Hc]; · iexact Hc
  iexact H4

variable (ρ : Dev nD → PrngReg)

set_option backward.isDefEq.respectTransparency.types false in
set_option maxHeartbeats 1600000 in
theorem run_main : θ_run defs (onTc (τ := τ) (main (F := F))) ⟨m, fun _ => 0, ρ⟩ (fun r =>
    Pipeline.FramePost (Pipeline.pin (pcfgs (F := F)) fun _ => adm m (ok_of m hr)) (dats m hr) 0 (V m) r ∧ r.2.sem = fun _ => 0) :=
  Pipeline.θ_run_frameP_dma_shared (Q' := _) pcfgs (fun _ => adm m (ok_of m hr)) (dats m hr) (0 : Fin 1) launch₀0 osem0 defs₀ Variants.none ownSemFacts0 H0 H0_sub m ρ main
    (hbody := fun c => (body_obligation m hr c).loose) (hq := fun _ _ _ => rfl) (howed := fun _ _ => rfl) (V := V m)
    (hmain := Pipeline.hmainP_prefix pcfgs 0 defs₀ Variants.none m main hostOps0 hostOps0_sub hostOps0_fresh main_chain)
    (hA := A_eq m hr) (hpf := V_pre m) (hin := hin m hr) (hout := hout m hr) (hQ' := fun _ h => h)

include hr in
/-- Every execution of the call ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨((h.1 c).2 main_arg0 mem_arg0).trans (V_main_arg0 m c),
    ((h.1 c).2 main_arg1 mem_arg1).trans (V_main_arg1 m c),
    ((h.1 c).2 main_arg2 mem_arg2).trans (V_main_arg2 m c),
    ((h.1 c).2 main_arg3 mem_arg3).trans (V_main_arg3 m c),
    ((h.1 c).2 main_arg4 mem_arg4).trans (V_main_arg4 m c),
    ((h.1 c).2 main_arg5 mem_arg5).trans (V_main_arg5 m c),
    ((h.1 c).2 main_arg6 mem_arg6).trans (V_main_arg6 m c),
    ((h.1 c).2 main_arg7 mem_arg7).trans (V_main_arg7 m c),
    ((h.1 c).2 main_arg8 mem_arg8).trans (V_main_arg8 m c)⟩, h.2⟩) (run_main m hr ρ)

end
end Cert.GmmIdeal.Body
-- ==== Proof.GmmPay.lean ====
/- What one step of a tile adds to its accumulator, entry by entry. -/
module

public import proofs.«01_k».proof.Proof.GmmSpec
public import proofs.«01_k».proof.Proof.GmmIdealLaunch

@[expose] public section

set_option maxRecDepth 16384

noncomputable section

namespace Cert.Gmx

open Cert.GmmIdeal Cert.GmmIdeal.Gen Cert.GmmIdeal.Body Idealize.ShloMosaic Idealize.ShloMosaic.TcCoe Idealize.SL.Sem

section
variable (g : Vec Ideal S512x2048 .bf16) (x0 x1 : Vec Ideal S1x2048x512 .bf16) (x2 x3 : Vec Ideal S1x1x512 .f32)
  (x4 : Vec Ideal S1x512x2048 .bf16) (x5 : Vec Ideal S1x1x2048 .f32)

theorem pay7_at (r k : Fin 512) :
    k0_pay7 g x0 x2 (ix2 r k) = gateF (∑ d : Fin 2048, g (ix2 r d) * x0 (ix3 0 d k) + x2 (ix3 0 0 k)) := by
  unfold gateF
  pointwise [k0_pay7]
  rw [zero_sub]

theorem pay6_at (r k : Fin 512) :
    k0_pay6 g x1 x3 (ix2 r k) = linF (∑ d : Fin 2048, g (ix2 r d) * x1 (ix3 0 d k) + x3 (ix3 0 0 k)) := by
  unfold linF
  pointwise [k0_pay6]

theorem step_at (a : Vec Ideal S512x2048 .f32) (r : Fin 512) (j : Fin 2048) :
    accStep g x0 x1 x2 x3 x4 a (ix2 r j)
      = a (ix2 r j) + ∑ k : Fin 512, actF (∑ d : Fin 2048, g (ix2 r d) * x0 (ix3 0 d k) + x2 (ix3 0 0 k))
          (∑ d : Fin 2048, g (ix2 r d) * x1 (ix3 0 d k) + x3 (ix3 0 0 k)) * x4 (ix3 0 k j) := by
  unfold actF accStep
  simp only [← pay7_at g x0 x2, ← pay6_at g x1 x3]
  generalize k0_pay7 g x0 x2 = p7
  generalize k0_pay6 g x1 x3 = p6
  pointwise [k0_pay1]

theorem pay5_at (r : Fin 512) (j : Fin 2048) : (k0_pay5 (F := Ideal)) (ix2 r j) = 0 := by
  pointwise [k0_pay5]
theorem pay3_at (r : Fin 512) (j : Fin 2048) : (k0_pay3 (F := Ideal)) (ix2 r j) = 0 := by
  pointwise [k0_pay3]
theorem pay2_at (a : Vec Ideal S512x2048 .f32) (r : Fin 512) (j : Fin 2048) :
    k0_pay2 a x5 (ix2 r j) = a (ix2 r j) + x5 (ix3 0 0 j) := by
  pointwise [k0_pay2]
theorem pay4_at (f : Vec Ideal S512x2048 .f32) (r : Fin 512) (j : Fin 2048) : k0_pay4 f (ix2 r j) = f (ix2 r j) := by
  pointwise [k0_pay4]
end

end Cert.Gmx

end
-- ==== Proof.GmmTake.lean ====
/- Rows taken by a table: what a gather reads when every word of the table is in range. -/
module

public import Idealize.ShloMosaic.Lib.Pipeline.ValueKit
public import Idealize.ShloMosaic.Lib.ValueIdxCore
public import Idealize.ShloMosaic.Lib.StableHlo.Predicate
public import Idealize.ShloMosaic.Lib.WordArith

@[expose] public section

noncomputable section

namespace Cert.Gmx

open Idealize.ShloMosaic

variable {α : Type}

/-- A word not below zero is not moved by the wrap of negative indices. -/
theorem wrap_id (w n : BitVec 32) (h : w.toNat < 2 ^ 31) :
    Scalar.select (IntOp.cmpi .slt w 0#32) (IntOp.addi w n) w = w := by
  have : w.slt 0#32 = false := by
    rw [BitVec.slt_zero_eq_msb, BitVec.msb_eq_false_iff_two_mul_lt]; omega
  have e : IntOp.cmpi .slt w 0#32 = 0#1 := by
    show BitVec.ofBool (w.slt 0#32) = 0#1
    rw [this]; rfl
  rw [e]; rfl

theorem clamp_id (w : BitVec 32) (n : ℕ) (hn : n < 2 ^ 31) (h : w.toNat ≤ n) : min w.toInt.toNat n = w.toNat := by
  rw [BitVec.toInt_eq_toNat_of_lt (by omega)]; omega

/-- Whole slabs `[A, B]` of an operand `[N, A, B]`, one per word of a table `[R]`. -/
theorem take_slab {N A B R : ℕ}
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ 32) (t : Fin R) (a : Fin A) (b : Fin B)
    (hN : N ≤ 2 ^ 31) (hi : (idx (ix2 t 0)).toNat < N) :
    Host.gather (⟨[1, 2], [0], [], [], [0], 1, ![1, A, B], wf⟩ : GatherDims ⟨3, ![N, A, B]⟩ ⟨2, ![R, 1]⟩ ⟨3, ![R, A, B]⟩) x idx (ix3 t a b)
      = x (ix3 ⟨(idx (ix2 t 0)).toNat, hi⟩ a b) := by
  set gd : GatherDims ⟨3, ![N, A, B]⟩ ⟨2, ![R, 1]⟩ ⟨3, ![R, A, B]⟩ := ⟨[1, 2], [0], [], [], [0], 1, ![1, A, B], wf⟩ with hgd
  unfold Host.gather
  congr 1
  funext d
  refine Fin.ext ?_
  show gd.start (ix3 t a b) idx d + gd.batchCoord (ix3 t a b) d + gd.offCoord (ix3 t a b) d = _
  rw [GatherDims.batchCoord_eq_zero _ _ _ List.not_mem_nil, Nat.add_zero]
  have hd : d = 0 ∨ d = 1 ∨ d = 2 := by
    match d with
    | ⟨0, _⟩ => exact Or.inl rfl
    | ⟨1, _⟩ => exact Or.inr (Or.inl rfl)
    | ⟨2, _⟩ => exact Or.inr (Or.inr (rfl))
  rcases hd with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gd.startIndexMap from List.mem_singleton.mpr rfl)]
    have hsi : gd.siIdx (ix3 t a b) ⟨List.idxOf (0 : Fin 3) gd.startIndexMap, List.idxOf_lt_length_iff.2 (List.mem_singleton.mpr rfl)⟩ = ix2 t 0 := by
      funext c; refine Fin.ext ?_
      match c with
      | ⟨0, _⟩ => rfl
      | ⟨1, _⟩ => rfl
    refine Eq.trans ?_ (clamp_id (idx (ix2 t 0)) (N - 1) (by omega) (by omega))
    rw [← hsi]
    rfl
  · unfold GatherDims.start
    rw [dif_neg (show (1 : Fin 3) ∉ gd.startIndexMap from by rw [hgd]; exact (by decide : (1 : Fin 3) ∉ [(0 : Fin 3)])), Nat.zero_add]
    rfl
  · unfold GatherDims.start
    rw [dif_neg (show (2 : Fin 3) ∉ gd.startIndexMap from by rw [hgd]; exact (by decide : (2 : Fin 3) ∉ [(0 : Fin 3)])), Nat.zero_add]
    rfl

/-- Whole rows of an operand `[N, B]`, one per word of a table `[R]`. -/
theorem take_row {N B R : ℕ}
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ 32) (t : Fin R) (b : Fin B)
    (hN : N ≤ 2 ^ 31) (hi : (idx (ix2 t 0)).toNat < N) :
    Host.gather (⟨[1], [0], [], [], [0], 1, ![1, B], wf⟩ : GatherDims ⟨2, ![N, B]⟩ ⟨2, ![R, 1]⟩ ⟨2, ![R, B]⟩) x idx (ix2 t b)
      = x (ix2 ⟨(idx (ix2 t 0)).toNat, hi⟩ b) := by
  set gd : GatherDims ⟨2, ![N, B]⟩ ⟨2, ![R, 1]⟩ ⟨2, ![R, B]⟩ := ⟨[1], [0], [], [], [0], 1, ![1, B], wf⟩ with hgd
  unfold Host.gather
  congr 1
  funext d
  refine Fin.ext ?_
  show gd.start (ix2 t b) idx d + gd.batchCoord (ix2 t b) d + gd.offCoord (ix2 t b) d = _
  rw [GatherDims.batchCoord_eq_zero _ _ _ List.not_mem_nil, Nat.add_zero]
  have hd : d = 0 ∨ d = 1 := by
    match d with
    | ⟨0, _⟩ => exact Or.inl rfl
    | ⟨1, _⟩ => exact Or.inr (rfl)
  rcases hd with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gd.startIndexMap from List.mem_singleton.mpr rfl)]
    have hsi : gd.siIdx (ix2 t b) ⟨List.idxOf (0 : Fin 2) gd.startIndexMap, List.idxOf_lt_length_iff.2 (List.mem_singleton.mpr rfl)⟩ = ix2 t 0 := by
      funext c; refine Fin.ext ?_
      match c with
      | ⟨0, _⟩ => rfl
      | ⟨1, _⟩ => rfl
    refine Eq.trans ?_ (clamp_id (idx (ix2 t 0)) (N - 1) (by omega) (by omega))
    rw [← hsi]
    rfl
  · unfold GatherDims.start
    rw [dif_neg (show (1 : Fin 2) ∉ gd.startIndexMap from by rw [hgd]; exact (by decide : (1 : Fin 2) ∉ [(0 : Fin 2)])), Nat.zero_add]
    rfl

/-- Whole rows of an operand `[N, B]`, one per word of a table `[R, C]`. -/
theorem take_rows {N B R C : ℕ}
    (wf : GatherDims.WF ⟨2, ![N, B]⟩ ⟨3, ![R, C, 1]⟩ ⟨3, ![R, C, B]⟩ [2] [0] [] [0] [] 2 ![1, B])
    (x : (⟨2, ![N, B]⟩ : Shape).Idx → α) (idx : IVec ⟨3, ![R, C, 1]⟩ 32) (t : Fin R) (r : Fin C) (b : Fin B)
    (hN : N ≤ 2 ^ 31) (hi : (idx (ix3 t r 0)).toNat < N) :
    Host.gather (⟨[2], [0], [], [], [0], 2, ![1, B], wf⟩ : GatherDims ⟨2, ![N, B]⟩ ⟨3, ![R, C, 1]⟩ ⟨3, ![R, C, B]⟩) x idx (ix3 t r b)
      = x (ix2 ⟨(idx (ix3 t r 0)).toNat, hi⟩ b) := by
  set gd : GatherDims ⟨2, ![N, B]⟩ ⟨3, ![R, C, 1]⟩ ⟨3, ![R, C, B]⟩ := ⟨[2], [0], [], [], [0], 2, ![1, B], wf⟩ with hgd
  unfold Host.gather
  congr 1
  funext d
  refine Fin.ext ?_
  show gd.start (ix3 t r b) idx d + gd.batchCoord (ix3 t r b) d + gd.offCoord (ix3 t r b) d = _
  rw [GatherDims.batchCoord_eq_zero _ _ _ List.not_mem_nil, Nat.add_zero]
  have hd : d = 0 ∨ d = 1 := by
    match d with
    | ⟨0, _⟩ => exact Or.inl rfl
    | ⟨1, _⟩ => exact Or.inr (rfl)
  rcases hd with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gd.startIndexMap from List.mem_singleton.mpr rfl)]
    have hsi : gd.siIdx (ix3 t r b) ⟨List.idxOf (0 : Fin 2) gd.startIndexMap, List.idxOf_lt_length_iff.2 (List.mem_singleton.mpr rfl)⟩ = ix3 t r 0 := by
      funext c; refine Fin.ext ?_
      match c with
      | ⟨0, _⟩ => rfl
      | ⟨1, _⟩ => rfl
      | ⟨2, _⟩ => rfl
    refine Eq.trans ?_ (clamp_id (idx (ix3 t r 0)) (N - 1) (by omega) (by omega))
    rw [← hsi]
    rfl
  · unfold GatherDims.start
    rw [dif_neg (show (1 : Fin 2) ∉ gd.startIndexMap from by rw [hgd]; exact (by decide : (1 : Fin 2) ∉ [(0 : Fin 2)])), Nat.zero_add]
    rfl

/-- One entry of an operand `[N]` per word of a table `[R, C]`. -/
theorem take_one {N R C : ℕ}
    (wf : GatherDims.WF ⟨1, ![N]⟩ ⟨3, ![R, C, 1]⟩ ⟨2, ![R, C]⟩ [] [0] [] [0] [] 2 ![1])
    (x : (⟨1, ![N]⟩ : Shape).Idx → α) (idx : IVec ⟨3, ![R, C, 1]⟩ 32) (t : Fin R) (r : Fin C)
    (hN : N ≤ 2 ^ 31) (hi : (idx (ix3 t r 0)).toNat < N) :
    Host.gather (⟨[], [0], [], [], [0], 2, ![1], wf⟩ : GatherDims ⟨1, ![N]⟩ ⟨3, ![R, C, 1]⟩ ⟨2, ![R, C]⟩) x idx (ix2 t r)
      = x (ix1 ⟨(idx (ix3 t r 0)).toNat, hi⟩) := by
  have e : ValueIdx.takeIdx (ix2 t r) = ix3 t r 0 := by
    funext c; refine Fin.ext ?_
    match c with
    | ⟨0, _⟩ => rfl
    | ⟨1, _⟩ => rfl
    | ⟨2, _⟩ => rfl
  refine (ValueIdx.gather_take_apply (by omega) wf x idx (ix2 t r)).trans ?_
  congr 1
  funext d
  obtain rfl : d = 0 := Subsingleton.elim _ _
  refine Fin.ext ?_
  show min (idx (ValueIdx.takeIdx (ix2 t r))).toInt.toNat (N - 1) = _
  rw [e]
  exact clamp_id _ _ (by omega) (by omega)

end Cert.Gmx

end
-- ==== Proof.GmmRef.lean ====
/- The reference of the grouped expert product, entry by entry. -/
module

public import proofs.«01_k».proof.Proof.GmmSpec
public import proofs.«01_k».proof.Proof.GmmTake
public import proofs.«01_k».proof.Proof.Gen.GmmReferenceIdeal.Read

@[expose] public section

set_option maxRecDepth 16384

noncomputable section

namespace Cert.Gmx

open Cert.GmmReferenceIdeal Cert.GmmReferenceIdeal.Gen Cert.GmmReferenceIdeal.Read Idealize.ShloMosaic Idealize.ShloMosaic.TcCoe Idealize.SL.Sem

section
variable (x0 x1 : IVec S160 32) (x2 : IVec S1 32) (x3 : IVec S65536 32) (x4 : FVec Ideal S16384x2048 .f32)
  (x5 : FVec Ideal S32x2048x4096 .f32) (x6 : FVec Ideal S32x4096 .f32) (x7 : FVec Ideal S32x2048x2048 .f32) (x8 : FVec Ideal S32x2048 .f32)
  (he : ∀ i, (x0 i).toNat < 32) (hb : ∀ i, (x1 i).toNat ≤ 81920) (hs : ∀ i, (x3 i).toNat < 16384)

/-- A tile's expert, an entry's place in the table of tokens, and its token. -/
def expert (t : Fin 160) : Fin 32 := ⟨(x0 (ix1 t)).toNat, he _⟩
def slot (t : Fin 160) (r : Fin 512) : Fin 65536 := ⟨min ((x1 (ix1 t)).toNat + r.val) 65535, by omega⟩
def token (t : Fin 160) (r : Fin 512) : Fin 16384 := ⟨(x3 (ix1 (slot x1 t r))).toNat, hs _⟩

theorem v7_word (t : Fin 160) (r : Fin 512) :
    val_main_v7 (F := Ideal) x1 (ix2 t r) = IntOp.minsi (IntOp.addi (x1 (ix1 t)) (BitVec.ofNat 32 r.val)) 65535#32 := by
  pointwise [val_main_v7, val_main_v6, val_main_c, val_main_v5, val_main_v4, val_main_v3, val_main_v2, val_main_v1, val_main_v0]

include hb in
theorem v7_at (t : Fin 160) (r : Fin 512) : (val_main_v7 (F := Ideal) x1 (ix2 t r)).toNat = (slot x1 t r).val := by
  have h1 := hb (ix1 t)
  have h2 := r.isLt
  have e : (IntOp.addi (x1 (ix1 t)) (BitVec.ofNat 32 r.val)).toNat = (x1 (ix1 t)).toNat + r.val := by
    show (x1 (ix1 t) + BitVec.ofNat 32 r.val).toNat = _
    rw [BitVec.toNat_add, BitVec.toNat_ofNat]; omega
  rw [v7_word, WordArith.toNat_minsi_of_lt _ _ (by omega) (by decide), e]
  rfl

theorem v13_word (t : Fin 160) (r : Fin 512) :
    val_main_v13 (F := Ideal) x1 (ix3 t r 0) = Scalar.select (IntOp.cmpi .slt (val_main_v7 (F := Ideal) x1 (ix2 t r)) 0#32)
      (IntOp.addi (val_main_v7 (F := Ideal) x1 (ix2 t r)) 65536#32) (val_main_v7 (F := Ideal) x1 (ix2 t r)) := by
  generalize hv : val_main_v7 (F := Ideal) x1 = v
  pointwise [val_main_v13, val_main_v12, val_main_v11, val_main_v10, val_main_v9, val_main_v8, val_main_c_0, val_main_c_1]
  rw [hv]

include hb in
theorem v14_at (t : Fin 160) (r : Fin 512) : val_main_v14 (F := Ideal) x1 x3 (ix2 t r) = x3 (ix1 (slot x1 t r)) := by
  have e := v7_at x1 hb t r
  have hlt := (slot x1 t r).isLt
  have w : val_main_v13 (F := Ideal) x1 (ix3 t r 0) = val_main_v7 (F := Ideal) x1 (ix2 t r) := by
    rw [v13_word]; exact wrap_id _ _ (by omega)
  have hi : (val_main_v13 (F := Ideal) x1 (ix3 t r 0)).toNat < 65536 := by rw [w, e]; exact hlt
  unfold val_main_v14
  refine (take_one _ x3 (val_main_v13 (F := Ideal) x1) t r (by decide) hi).trans ?_
  congr 2
  refine Fin.ext ?_
  show (val_main_v13 (F := Ideal) x1 (ix3 t r 0)).toNat = _
  rw [w, e]

theorem v20_word (t : Fin 160) (r : Fin 512) :
    val_main_v20 (F := Ideal) x1 x3 (ix3 t r 0) = Scalar.select (IntOp.cmpi .slt (val_main_v14 (F := Ideal) x1 x3 (ix2 t r)) 0#32)
      (IntOp.addi (val_main_v14 (F := Ideal) x1 x3 (ix2 t r)) 16384#32) (val_main_v14 (F := Ideal) x1 x3 (ix2 t r)) := by
  generalize hv : val_main_v14 (F := Ideal) x1 x3 = v
  pointwise [val_main_v20, val_main_v19, val_main_v18, val_main_v17, val_main_v16, val_main_v15, val_main_c_2, val_main_c_3]
  rw [hv]

include hb in
theorem v21_at (t : Fin 160) (r : Fin 512) (d : Fin 2048) :
    val_main_v21 (F := Ideal) x1 x3 x4 (ix3 t r d) = x4 (ix2 (token x1 x3 hs t r) d) := by
  have w : val_main_v20 (F := Ideal) x1 x3 (ix3 t r 0) = x3 (ix1 (slot x1 t r)) := by
    rw [v20_word, v14_at x1 x3 hb]; exact wrap_id _ _ (lt_trans (hs _) (by decide))
  have hi : (val_main_v20 (F := Ideal) x1 x3 (ix3 t r 0)).toNat < 16384 := by rw [w]; exact hs _
  unfold val_main_v21
  refine (take_rows _ x4 (val_main_v20 (F := Ideal) x1 x3) t r d (by decide) hi).trans ?_
  congr 2
  refine Fin.ext ?_
  show (val_main_v20 (F := Ideal) x1 x3 (ix3 t r 0)).toNat = _
  rw [w]; rfl

include he in
theorem v27_at (t : Fin 160) : val_main_v27 (F := Ideal) x0 (ix2 t 0) = x0 (ix1 t) := by
  refine Eq.trans ?_ (wrap_id (x0 (ix1 t)) 32#32 (lt_trans (he _) (by decide)))
  pointwise [val_main_v27, val_main_v26, val_main_v25, val_main_v24, val_main_v23, val_main_v22, val_main_c_4, val_main_c_5]
include he in
theorem v35_at (t : Fin 160) : val_main_v35 (F := Ideal) x0 (ix2 t 0) = x0 (ix1 t) := by
  refine Eq.trans ?_ (wrap_id (x0 (ix1 t)) 32#32 (lt_trans (he _) (by decide)))
  pointwise [val_main_v35, val_main_v34, val_main_v33, val_main_v32, val_main_v31, val_main_v30, val_main_c_6, val_main_c_7]
include he in
theorem v62_at (t : Fin 160) : val_main_v62 (F := Ideal) x0 (ix2 t 0) = x0 (ix1 t) := by
  refine Eq.trans ?_ (wrap_id (x0 (ix1 t)) 32#32 (lt_trans (he _) (by decide)))
  pointwise [val_main_v62, val_main_v61, val_main_v60, val_main_v59, val_main_v58, val_main_v57, val_main_c_14, val_main_c_15]
include he in
theorem v70_at (t : Fin 160) : val_main_v70 (F := Ideal) x0 (ix2 t 0) = x0 (ix1 t) := by
  refine Eq.trans ?_ (wrap_id (x0 (ix1 t)) 32#32 (lt_trans (he _) (by decide)))
  pointwise [val_main_v70, val_main_v69, val_main_v68, val_main_v67, val_main_v66, val_main_v65, val_main_c_16, val_main_c_17]

theorem v28_at (t : Fin 160) (d : Fin 2048) (j : Fin 4096) :
    val_main_v28 (F := Ideal) x0 x5 (ix3 t d j) = x5 (ix3 (expert x0 he t) d j) := by
  have w := v27_at x0 he t
  have hi : (val_main_v27 (F := Ideal) x0 (ix2 t 0)).toNat < 32 := by rw [w]; exact he _
  unfold val_main_v28
  refine (take_slab _ x5 (val_main_v27 (F := Ideal) x0) t d j (by decide) hi).trans ?_
  congr 2
  refine Fin.ext ?_
  show (val_main_v27 (F := Ideal) x0 (ix2 t 0)).toNat = _
  rw [w]; rfl
theorem v63_at (t : Fin 160) (d j : Fin 2048) :
    val_main_v63 (F := Ideal) x0 x7 (ix3 t d j) = x7 (ix3 (expert x0 he t) d j) := by
  have w := v62_at x0 he t
  have hi : (val_main_v62 (F := Ideal) x0 (ix2 t 0)).toNat < 32 := by rw [w]; exact he _
  unfold val_main_v63
  refine (take_slab _ x7 (val_main_v62 (F := Ideal) x0) t d j (by decide) hi).trans ?_
  congr 2
  refine Fin.ext ?_
  show (val_main_v62 (F := Ideal) x0 (ix2 t 0)).toNat = _
  rw [w]; rfl
theorem v36_at (t : Fin 160) (j : Fin 4096) :
    val_main_v36 (F := Ideal) x0 x6 (ix2 t j) = x6 (ix2 (expert x0 he t) j) := by
  have w := v35_at x0 he t
  have hi : (val_main_v35 (F := Ideal) x0 (ix2 t 0)).toNat < 32 := by rw [w]; exact he _
  unfold val_main_v36
  refine (take_row _ x6 (val_main_v35 (F := Ideal) x0) t j (by decide) hi).trans ?_
  congr 2
  refine Fin.ext ?_
  show (val_main_v35 (F := Ideal) x0 (ix2 t 0)).toNat = _
  rw [w]; rfl
theorem v71_at (t : Fin 160) (j : Fin 2048) :
    val_main_v71 (F := Ideal) x0 x8 (ix2 t j) = x8 (ix2 (expert x0 he t) j) := by
  have w := v70_at x0 he t
  have hi : (val_main_v70 (F := Ideal) x0 (ix2 t 0)).toNat < 32 := by rw [w]; exact he _
  unfold val_main_v71
  refine (take_row _ x8 (val_main_v70 (F := Ideal) x0) t j (by decide) hi).trans ?_
  congr 2
  refine Fin.ext ?_
  show (val_main_v70 (F := Ideal) x0 (ix2 t 0)).toNat = _
  rw [w]; rfl

/-- The hidden units of one row: gate columns first, linear columns 2048 further. -/
def preR (h : Fin 2048 → EReal) (w : Fin 2048 → Fin 4096 → EReal) (b : Fin 4096 → EReal) (j : Fin 4096) : EReal :=
  ∑ d, h d * w d j + b j
def hidR (h : Fin 2048 → EReal) (w : Fin 2048 → Fin 4096 → EReal) (b : Fin 4096 → EReal) (k : Fin 2048) : EReal :=
  actF (preR h w b ⟨k.val, by omega⟩) (preR h w b ⟨2048 + k.val, by omega⟩)

include hb in
theorem v39_at (t : Fin 160) (r : Fin 512) (j : Fin 4096) :
    val_main_v39 (F := Ideal) x0 x1 x3 x4 x5 x6 (ix3 t r j)
      = preR (fun d => x4 (ix2 (token x1 x3 hs t r) d)) (fun d j => x5 (ix3 (expert x0 he t) d j)) (fun j => x6 (ix2 (expert x0 he t) j)) j := by
  unfold preR
  simp only [← v21_at x1 x3 x4 hb hs t r, ← v28_at x0 x5 he t, ← v36_at x0 x6 he t]
  generalize h21 : val_main_v21 (F := Ideal) x1 x3 x4 = v21
  generalize h28 : val_main_v28 (F := Ideal) x0 x5 = v28
  generalize h36 : val_main_v36 (F := Ideal) x0 x6 = v36
  pointwise [val_main_v39, val_main_v38, val_main_v37, val_main_v29]
  rw [h21, h28, h36]

include hb in
theorem v56_at (t : Fin 160) (r : Fin 512) (k : Fin 2048) :
    val_main_v56 (F := Ideal) x0 x1 x3 x4 x5 x6 (ix3 t r k)
      = hidR (fun d => x4 (ix2 (token x1 x3 hs t r) d)) (fun d j => x5 (ix3 (expert x0 he t) d j)) (fun j => x6 (ix2 (expert x0 he t) j)) k := by
  unfold hidR
  rw [← v39_at x0 x1 x3 x4 x5 x6 he hb hs, ← v39_at x0 x1 x3 x4 x5 x6 he hb hs]
  generalize h39 : val_main_v39 (F := Ideal) x0 x1 x3 x4 x5 x6 = v39
  unfold actF gateF linF
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_call0_v0, val_main_call0_v1, val_main_call0_v2, val_main_call0_v3, val_main_call0_v4, val_main_cst, val_main_cst_8, val_main_cst_9, val_main_cst_10, val_main_cst_11, val_main_cst_12, val_main_cst_13]
  rw [h39]
  rfl

include hb in
theorem v74_at (t : Fin 160) (r : Fin 512) (j : Fin 2048) :
    val_main_v74 (F := Ideal) x0 x1 x3 x4 x5 x6 x7 x8 (ix3 t r j)
      = ∑ k : Fin 2048, hidR (fun d => x4 (ix2 (token x1 x3 hs t r) d)) (fun d j => x5 (ix3 (expert x0 he t) d j)) (fun j => x6 (ix2 (expert x0 he t) j)) k
          * x7 (ix3 (expert x0 he t) k j) + x8 (ix2 (expert x0 he t) j) := by
  simp only [← v56_at x0 x1 x3 x4 x5 x6 he hb hs t r, ← v63_at x0 x7 he t, ← v71_at x0 x8 he t]
  generalize h56 : val_main_v56 (F := Ideal) x0 x1 x3 x4 x5 x6 = v56
  generalize h63 : val_main_v63 (F := Ideal) x0 x7 = v63
  generalize h71 : val_main_v71 (F := Ideal) x0 x8 = v71
  pointwise [val_main_v74, val_main_v73, val_main_v72, val_main_v64]
  rw [h56, h63, h71]

theorem v80_at (t : Fin 160) (r : Fin 512) (j : Fin 2048) :
    val_main_v80 (F := Ideal) x0 x1 x2 x3 x4 x5 x6 x7 x8 (ix3 t r j)
      = if (BitVec.ofNat 32 t.val).slt (x2 (ix1 0)) = true then val_main_v74 (F := Ideal) x0 x1 x3 x4 x5 x6 x7 x8 (ix3 t r j) else 0 := by
  generalize h74 : val_main_v74 (F := Ideal) x0 x1 x3 x4 x5 x6 x7 x8 = v74
  pointwise [val_main_v80, val_main_v79, val_main_v78, val_main_v77, val_main_v76, val_main_v75, val_main_call1_v0, val_main_call1_v1, val_main_call1_v2, val_main_cst_18]
  rw [h74]
  show Scalar.select _ _ (Ideal.ofBits .f32 0#32) = _
  rw [show Ideal.ofBits .f32 0#32 = 0 from Ideal.ofBits_zero .f32]
  show (if BitVec.ofBool ((BitVec.ofNat 32 t.val).slt (x2 (ix1 0))) = 1#1 then _ else _) = _
  cases (BitVec.ofNat 32 t.val).slt (x2 (ix1 0)) <;> rfl

theorem v81_at (R : Fin 81920) (j : Fin 2048) :
    val_main_v81 (F := Ideal) x0 x1 x2 x3 x4 x5 x6 x7 x8 (ix2 R j)
      = val_main_v80 (F := Ideal) x0 x1 x2 x3 x4 x5 x6 x7 x8 (ix3 ⟨R.val / 512, by omega⟩ ⟨R.val % 512, by omega⟩ j) := by
  generalize h80 : val_main_v80 (F := Ideal) x0 x1 x2 x3 x4 x5 x6 x7 x8 = v80
  pointwise [val_main_v81]
  rw [h80]

end

end Cert.Gmx

end
-- ==== Proof.GmmBlk.lean ====
/- The blocks a grid point in use reads, in the argument arrays. -/
module

public import proofs.«01_k».proof.Proof.GmmPay
public import proofs.«01_k».proof.Proof.GmmRef

@[expose] public section

set_option maxRecDepth 16384

noncomputable section

namespace Cert.Gmx

open Cert.GmmIdeal Cert.GmmIdeal.Gen Cert.GmmIdeal.Body Idealize.ShloMosaic Idealize.ShloMosaic.TcCoe Idealize.SL.Sem
open Idealize.ShloMosaic.Pipeline (Dat)

variable (m : (ℓ : Loc nD τ sig) → Buf (Elt Ideal) ℓ) (hr : Rng m) (c : Dev nD)

theorem lt640 (t : Fin grid0.N) : t.val < 640 := lt_of_lt_of_eq t.isLt N_0
/-- A point's tile, and the tile's expert. -/
def til (t : Fin grid0.N) : Fin 160 := ⟨t.val / 4, by have := lt640 t; omega⟩
def exq (t : Fin grid0.N) : Fin 32 := expert (teT m) hr.te (til t)

theorem xsel_live (t : Fin grid0.N) (hL : Live m c t) : xsel (tbl m) (grid0.coords t) = teT m (ix1 (til t)) := by
  obtain rfl : c = 0 := Subsingleton.elim _ _
  have h := (c1_iff _ _).mp hL
  unfold xsel
  refine Eq.trans (show _ = if BitVec.ofBool ((BitVec.ofNat 32 (grid0.coords t 0).val).slt (nw m 0)) = 1#1 then _ else _ from rfl) ?_
  refine Eq.trans (if_pos (by rw [h]; decide)) (Eq.trans ?_ (congrFun (tbl0 m) _))
  show tbl m 0 _ = _
  refine congrArg (tbl m 0) (funext fun a => ?_)
  have ha : a = (⟨0, by decide⟩ : Fin S160.rank) := Fin.ext (Nat.lt_one_iff.mp a.isLt)
  subst ha
  refine Fin.ext ?_
  have e := (pts t).1
  have hl := lt640 t
  show k0_off1 (grid0.coords t) 0 + 0 * 1 = t.val / 4
  show (BitVec.ofNat 32 (grid0.coords t 0).val).toNat + 0 * 1 = t.val / 4
  rw [BitVec.toNat_ofNat, e]; omega

theorem fsel_live (t : Fin grid0.N) (hL : Live m c t) : (fsel (tbl m) (grid0.coords t)).toNat = t.val % 4 := by
  obtain rfl : c = 0 := Subsingleton.elim _ _
  have h := (c1_iff _ _).mp hL
  unfold fsel
  refine Eq.trans (congrArg BitVec.toNat (show _ = if BitVec.ofBool ((BitVec.ofNat 32 (grid0.coords t 0).val).slt (nw m 0)) = 1#1 then _ else _ from rfl)) ?_
  rw [h, if_pos (by decide), BitVec.toNat_ofNat, (pts t).2]; omega

theorem ix0 (t : Fin (CF m hr).N) (hL : Live m c t) : ((CF m hr).win 0).index t = ![(exq m hr t).val, 0, t.val % 4] := by
  show cc0_transform_1 inb_S1_S1_0 numel1_S1 k0_off1_inb (tbl m) (grid0.coords t) = _
  rw [xf1, xsel_live m c t hL, fsel_live m c t hL]; rfl
theorem ix1' (t : Fin (CF m hr).N) (hL : Live m c t) : ((CF m hr).win 1).index t = ![(exq m hr t).val, 0, 4 + t.val % 4] := by
  show cc0_transform_2 inb_S1_S1_0 numel1_S1 k0_off1_inb (tbl m) (grid0.coords t) = _
  rw [xf2, fsel4, xsel_live m c t hL, fsel_live m c t hL]; rfl
theorem ix2' (t : Fin (CF m hr).N) (hL : Live m c t) : ((CF m hr).win 2).index t = ![(exq m hr t).val, 0, t.val % 4] := by
  show cc0_transform_3 inb_S1_S1_0 numel1_S1 k0_off1_inb (tbl m) (grid0.coords t) = _
  rw [xf3, xsel_live m c t hL, fsel_live m c t hL]; rfl
theorem ix3' (t : Fin (CF m hr).N) (hL : Live m c t) : ((CF m hr).win 3).index t = ![(exq m hr t).val, 0, 4 + t.val % 4] := by
  show cc0_transform_4 inb_S1_S1_0 numel1_S1 k0_off1_inb (tbl m) (grid0.coords t) = _
  rw [xf4, fsel4, xsel_live m c t hL, fsel_live m c t hL]; rfl
theorem ix4 (t : Fin (CF m hr).N) (hL : Live m c t) : ((CF m hr).win 4).index t = ![(exq m hr t).val, t.val % 4, 0] := by
  show cc0_transform_5 inb_S1_S1_0 numel1_S1 k0_off1_inb (tbl m) (grid0.coords t) = _
  rw [xf5, xsel_live m c t hL, fsel_live m c t hL]; rfl
theorem ix5 (t : Fin (CF m hr).N) (hL : Live m c t) : ((CF m hr).win 5).index t = ![(exq m hr t).val, 0, 0] := by
  show cc0_transform_6 inb_S1_S1_0 numel1_S1 k0_off1_inb (tbl m) (grid0.coords t) = _
  rw [xf6, xsel_live m c t hL]; rfl
theorem ix6 (t : Fin (CF m hr).N) : ((CF m hr).win 6).index t = ![t.val / 4, 0] := by
  have e : ∀ t : Fin grid0.N, cc0_transform_7 (grid0.coords t) = ![t.val / 4, 0] := by decide +kernel
  exact e t

/-- Column `k` of the point's block of hidden units. -/
def gcol (t : Fin grid0.N) (k : Fin 512) : Fin 2048 := ⟨t.val % 4 * 512 + k.val, by omega⟩

theorem emb0 (t : Fin (CF m hr).N) (hL : Live m c t) (d : Fin 2048) (k : Fin 512) :
    (((CF m hr).win 0).blk t).view.emb (ix3 (0 : Fin 1) d k) = ix3 (exq m hr t) d (⟨(gcol t k).val, by omega⟩ : Fin 4096) := by
  blk_ext [ix0 m hr c t hL, gcol]
theorem emb1 (t : Fin (CF m hr).N) (hL : Live m c t) (d : Fin 2048) (k : Fin 512) :
    (((CF m hr).win 1).blk t).view.emb (ix3 (0 : Fin 1) d k) = ix3 (exq m hr t) d (⟨2048 + (gcol t k).val, by omega⟩ : Fin 4096) := by
  blk_ext [ix1' m hr c t hL, gcol]
theorem emb2 (t : Fin (CF m hr).N) (hL : Live m c t) (k : Fin 512) :
    (((CF m hr).win 2).blk t).view.emb (ix3 (0 : Fin 1) (0 : Fin 1) k) = ix3 (exq m hr t) (0 : Fin 1) (⟨(gcol t k).val, by omega⟩ : Fin 4096) := by
  blk_ext [ix2' m hr c t hL, gcol]
theorem emb3 (t : Fin (CF m hr).N) (hL : Live m c t) (k : Fin 512) :
    (((CF m hr).win 3).blk t).view.emb (ix3 (0 : Fin 1) (0 : Fin 1) k) = ix3 (exq m hr t) (0 : Fin 1) (⟨2048 + (gcol t k).val, by omega⟩ : Fin 4096) := by
  blk_ext [ix3' m hr c t hL, gcol]
theorem emb4 (t : Fin (CF m hr).N) (hL : Live m c t) (k : Fin 512) (j : Fin 2048) :
    (((CF m hr).win 4).blk t).view.emb (ix3 (0 : Fin 1) k j) = ix3 (exq m hr t) (gcol t k) j := by
  blk_ext [ix4 m hr c t hL, gcol]
theorem emb5 (t : Fin (CF m hr).N) (hL : Live m c t) (j : Fin 2048) :
    (((CF m hr).win 5).blk t).view.emb (ix3 (0 : Fin 1) (0 : Fin 1) j) = ix3 (exq m hr t) (0 : Fin 1) j := by
  blk_ext [ix5 m hr c t hL]
/-- A row of the result. -/
def rowo (t : Fin grid0.N) (r : Fin 512) : Fin 81920 := ⟨t.val / 4 * 512 + r.val, by have := lt640 t; omega⟩
theorem emb6 (t : Fin (CF m hr).N) (r : Fin 512) (j : Fin 2048) :
    (((CF m hr).win 6).blk t).view.emb (ix2 r j) = ix2 (rowo t r) j := by
  blk_ext [ix6 m hr t, rowo]

abbrev A4 : FVec Ideal S16384x2048 .f32 := m ((0 : Dev nD).tc.loc main_arg4)
abbrev A5 : FVec Ideal S32x2048x4096 .f32 := m ((0 : Dev nD).tc.loc main_arg5)
abbrev A6 : FVec Ideal S32x4096 .f32 := m ((0 : Dev nD).tc.loc main_arg6)
abbrev A7 : FVec Ideal S32x2048x2048 .f32 := m ((0 : Dev nD).tc.loc main_arg7)
abbrev A8 : FVec Ideal S32x2048 .f32 := m ((0 : Dev nD).tc.loc main_arg8)

theorem entry0 : V m 0 main_v0 = (truncf .bf16 (A5 m) bitsLt_bf16_f32 : FVec Ideal S32x2048x4096 .bf16) := by
  entry_read
  rfl
theorem entry1 : V m 0 main_v1 = shapeCast _ (A6 m) shapeCasts_S32x4096_S32x1x4096 := by
  entry_read
  rfl
theorem entry2 : V m 0 main_v2 = (truncf .bf16 (A7 m) bitsLt_bf16_f32 : FVec Ideal S32x2048x2048 .bf16) := by
  entry_read
  rfl
theorem entry3 : V m 0 main_v3 = shapeCast _ (A8 m) shapeCasts_S32x2048_S32x1x2048 := by
  entry_read
  rfl

theorem cast5 (X : FVec Ideal S32x2048x4096 .f32) (e : Fin 32) (d : Fin 2048) (j : Fin 4096) : truncf .bf16 X bitsLt_bf16_f32 (ix3 e d j) = X (ix3 e d j) := by
  pointwise
theorem cast7 (X : FVec Ideal S32x2048x2048 .f32) (e : Fin 32) (d j : Fin 2048) : truncf .bf16 X bitsLt_bf16_f32 (ix3 e d j) = X (ix3 e d j) := by
  pointwise
theorem cast6 (X : FVec Ideal S32x4096 .f32) (e : Fin 32) (j : Fin 4096) : shapeCast S32x1x4096 X shapeCasts_S32x4096_S32x1x4096 (ix3 e (0 : Fin 1) j) = X (ix2 e j) := by
  pointwise
theorem cast8 (X : FVec Ideal S32x2048 .f32) (e : Fin 32) (j : Fin 2048) : shapeCast S32x1x2048 X shapeCasts_S32x2048_S32x1x2048 (ix3 e (0 : Fin 1) j) = X (ix2 e j) := by
  pointwise

theorem b0_at (t : Fin grid0.N) (hL : Live m 0 t) (d : Fin 2048) (k : Fin 512) :
    b0 m hr 0 t (ix3 0 d k) = A5 m (ix3 (exq m hr t) d ⟨(gcol t k).val, by omega⟩) := by
  refine Eq.trans ?_ (cast5 (A5 m) _ _ _)
  rw [← entry0]
  exact congrArg (V m 0 main_v0) (emb0 m hr 0 t hL d k)
theorem b1_at (t : Fin grid0.N) (hL : Live m 0 t) (d : Fin 2048) (k : Fin 512) :
    b1 m hr 0 t (ix3 0 d k) = A5 m (ix3 (exq m hr t) d ⟨2048 + (gcol t k).val, by omega⟩) := by
  refine Eq.trans ?_ (cast5 (A5 m) _ _ _)
  rw [← entry0]
  exact congrArg (V m 0 main_v0) (emb1 m hr 0 t hL d k)
theorem b2_at (t : Fin grid0.N) (hL : Live m 0 t) (k : Fin 512) :
    b2 m hr 0 t (ix3 0 0 k) = A6 m (ix2 (exq m hr t) ⟨(gcol t k).val, by omega⟩) := by
  refine Eq.trans ?_ (cast6 (A6 m) _ _)
  rw [← entry1]
  exact congrArg (V m 0 main_v1) (emb2 m hr 0 t hL k)
theorem b3_at (t : Fin grid0.N) (hL : Live m 0 t) (k : Fin 512) :
    b3 m hr 0 t (ix3 0 0 k) = A6 m (ix2 (exq m hr t) ⟨2048 + (gcol t k).val, by omega⟩) := by
  refine Eq.trans ?_ (cast6 (A6 m) _ _)
  rw [← entry1]
  exact congrArg (V m 0 main_v1) (emb3 m hr 0 t hL k)
theorem b4_at (t : Fin grid0.N) (hL : Live m 0 t) (k : Fin 512) (j : Fin 2048) :
    b4 m hr 0 t (ix3 0 k j) = A7 m (ix3 (exq m hr t) (gcol t k) j) := by
  refine Eq.trans ?_ (cast7 (A7 m) _ _ _)
  rw [← entry2]
  exact congrArg (V m 0 main_v2) (emb4 m hr 0 t hL k j)
theorem b5_at (t : Fin grid0.N) (hL : Live m 0 t) (j : Fin 2048) :
    b5 m hr 0 t (ix3 0 0 j) = A8 m (ix2 (exq m hr t) j) := by
  refine Eq.trans ?_ (cast8 (A8 m) _ _)
  rw [← entry3]
  exact congrArg (V m 0 main_v3) (emb5 m hr 0 t hL j)

/-! ## The tile's rows -/

theorem base_at (i : grid0.Coords) (h2 : k0_cond2 i = 1#1) (t : Fin 160) (ht : (i 0).val = t.val) :
    bsW (c := (0 : Dev nD)) i h2 (V m 0 main_arg1) = tbT m (ix1 t) := by
  rw [V_main_arg1]
  refine congrArg (tbT m) (funext fun a => ?_)
  have ha : a = (⟨0, by decide⟩ : Fin S160.rank) := Fin.ext (Nat.lt_one_iff.mp a.isLt)
  subst ha
  refine Fin.ext ?_
  have hl := t.isLt
  show (BitVec.ofNat 32 (i 0).val).toNat + 0 * 1 = t.val
  rw [BitVec.toNat_ofNat, ht]; omega

theorem src_col (w : BitVec 32) (h : ∀ a, k0_off5 w a + S1x2048.size a ≤ S16384x2048.size a) (d : Fin 2048) :
    ((show S16384x2048.Idx from (srcM w h).view.emb (ix2 (0 : Fin 1) d)) 1).val = d.val := by
  unfold srcM
  show k0_off5 w 1 + 1 * d.val = d.val
  show 0 + 1 * d.val = d.val
  omega

theorem hid_at (t : Fin grid0.N) (r : Fin 512) (d : Fin 2048) :
    hid m hr 0 t (ix2 r d) = A4 m (ix2 (token (tbT m) (stT m) hr.st (til t) r) d) := by
  unfold hid hidI
  rw [pay4_at]
  unfold gath
  rw [V_main_arg4]
  have hb := base_at m (grid0.coords (p4 t)) (c2_p4 t) (til t) (by rw [(pts _).1]; show (t.val - t.val % 4) / 4 = t.val / 4; omega)
  refine congrArg (A4 m) (funext fun a => ?_)
  have hw : (wd (c := (0 : Dev nD)) (V m 0 main_arg3) (bsW (c := (0 : Dev nD)) (grid0.coords (p4 t)) (c2_p4 t) (V m 0 main_arg1)) (hb_of m hr 0 _ (c2_p4 t)) (r.cast trips_eq.symm)).toNat
      = (token (tbT m) (stT m) hr.st (til t) r).val := by
    show _ = (stT m (ix1 (slot (tbT m) (til t) r))).toNat
    unfold wd
    rw [V_main_arg3 m 0]
    refine congrArg (fun z => (stT m z).toNat) (funext fun a => ?_)
    have ha : a = (⟨0, by decide⟩ : Fin S65536.rank) := Fin.ext (Nat.lt_one_iff.mp a.isLt)
    subst ha
    refine Fin.ext ?_
    show k0_off3 _ _ 0 + 0 * 1 = min ((tbT m (ix1 (til t))).toNat + r.val) 65535
    rw [off3_val _ (by rw [hb]; exact hr.tb _), hb]
    show min ((tbT m (ix1 (til t))).toNat + r.val) 65535 + 0 * 1 = _
    omega
  have ha : a = (0 : Fin 2) ∨ a = (1 : Fin 2) := by
    rcases a with ⟨a, h⟩
    have h' : a < 2 := h
    rcases a with _ | _ | a
    · exact .inl rfl
    · exact .inr rfl
    · omega
  rcases ha with rfl | rfl
  · refine Fin.ext ?_
    refine Eq.trans ?_ hw
    rfl
  · refine Fin.ext ?_
    exact src_col _ _ d

end Cert.Gmx

end
-- ==== Proof.GmmAcc.lean ====
/- The accumulator of a tile in use after its last block of hidden units. -/
module

public import proofs.«01_k».proof.Proof.GmmBlk

@[expose] public section

set_option maxRecDepth 16384

noncomputable section

namespace Cert.Gmx

open Cert.GmmIdeal Cert.GmmIdeal.Gen Cert.GmmIdeal.Body Idealize.ShloMosaic Idealize.ShloMosaic.TcCoe Idealize.SL.Sem
open Idealize.ShloMosaic.Pipeline (Dat)

variable (m : (ℓ : Loc nD τ sig) → Buf (Elt Ideal) ℓ) (hr : Rng m)

/-- One hidden unit's part of an entry of the result. -/
def term (T : Fin 160) (r : Fin 512) (j : Fin 2048) (k : Fin 2048) : EReal :=
  hidR (fun d => A4 m (ix2 (token (tbT m) (stT m) hr.st T r) d)) (fun d j => A5 m (ix3 (expert (teT m) hr.te T) d j))
    (fun j => A6 m (ix2 (expert (teT m) hr.te T) j)) k * A7 m (ix3 (expert (teT m) hr.te T) k j)

theorem stp_at (t : Fin grid0.N) (hL : Live m 0 t) (a : Vec Ideal S512x2048 .f32) (r : Fin 512) (j : Fin 2048) :
    stp m hr 0 t a (ix2 r j) = a (ix2 r j) + ∑ k : Fin 512, term m hr (til t) r j (gcol t k) := by
  unfold stp
  rw [step_at]
  refine congrArg (a (ix2 r j) + ·) (Finset.sum_congr rfl fun k _ => ?_)
  unfold term hidR preR
  refine congrArg₂ (· * ·) (congrArg₂ actF (congrArg₂ (· + ·) (Finset.sum_congr rfl fun d _ => congrArg₂ (· * ·) ?_ ?_) ?_) (congrArg₂ (· + ·) (Finset.sum_congr rfl fun d _ => congrArg₂ (· * ·) ?_ ?_) ?_)) ?_
  · exact hid_at m hr t r d
  · exact b0_at m hr t hL d k
  · exact b2_at m hr t hL k
  · exact hid_at m hr t r d
  · exact b1_at m hr t hL d k
  · exact b3_at m hr t hL k
  · exact b4_at m hr t hL k j

/-- Four blocks of 512 make the 2048 hidden units. -/
theorem sum4 (g : Fin 2048 → EReal) :
    ∑ f : Fin 4, ∑ k : Fin 512, g ⟨f.val * 512 + k.val, by omega⟩ = ∑ k : Fin 2048, g k := by
  rw [← Fintype.sum_prod_type']
  refine Fintype.sum_equiv (finProdFinEquiv : Fin 4 × Fin 512 ≃ Fin (4 * 512)) _ _ fun x => ?_
  refine congrArg g (Fin.ext ?_)
  show x.1.val * 512 + x.2.val = x.2.val + 512 * x.1.val
  omega

def ptN (T : Fin 160) (f : Fin 4) : Fin grid0.N := ⟨T.val * 4 + f.val, lt_of_lt_of_eq (by omega : T.val * 4 + f.val < 640) N_0.symm⟩
theorem til_ptN (T : Fin 160) (f : Fin 4) : til (ptN T f) = T := Fin.ext (show (T.val * 4 + f.val) / 4 = T.val by omega)
theorem gcol_ptN (T : Fin 160) (f : Fin 4) (k : Fin 512) : gcol (ptN T f) k = ⟨f.val * 512 + k.val, by omega⟩ :=
  Fin.ext (show (T.val * 4 + f.val) % 4 * 512 + k.val = f.val * 512 + k.val by omega)

theorem stpN_at (T : Fin 160) (f : Fin 4) (hL : Live m 0 (ptN T f)) (a : Vec Ideal S512x2048 .f32) (r : Fin 512) (j : Fin 2048) :
    stp m hr 0 (ptN T f) a (ix2 r j) = a (ix2 r j) + ∑ k : Fin 512, term m hr T r j ⟨f.val * 512 + k.val, by omega⟩ := by
  rw [stp_at m hr _ hL, til_ptN]
  refine congrArg (a (ix2 r j) + ·) (Finset.sum_congr rfl fun k _ => ?_)
  rw [gcol_ptN]

theorem acc_at (T : Fin 160) (hL : Live m 0 (ptN T 3)) (r : Fin 512) (j : Fin 2048) :
    acc m hr 0 (ptN T 3).val (ix2 r j) = ∑ k : Fin 2048, term m hr T r j k := by
  have hl : ∀ f : Fin 4, Live m 0 (ptN T f) := fun f => (live_congr m 0 _ (ptN T 3) (show (T.val * 4 + f.val) / 4 = (T.val * 4 + 3) / 4 by omega)).mpr hL
  have e0 := acc_first m hr 0 (ptN T 0) (show (T.val * 4 + 0) % 4 = 0 by omega)
  have e1 := acc_next m hr 0 (ptN T 1) (show (T.val * 4 + 1) % 4 ≠ 0 by omega)
  have e2 := acc_next m hr 0 (ptN T 2) (show (T.val * 4 + 2) % 4 ≠ 0 by omega)
  have e3 := acc_next m hr 0 (ptN T 3) (show (T.val * 4 + 3) % 4 ≠ 0 by omega)
  rw [show (ptN T 1).val - 1 = (ptN T 0).val from rfl] at e1
  rw [show (ptN T 2).val - 1 = (ptN T 1).val from rfl] at e2
  rw [show (ptN T 3).val - 1 = (ptN T 2).val from rfl] at e3
  rw [e3, stpN_at m hr T 3 (hl 3), e2, stpN_at m hr T 2 (hl 2), e1, stpN_at m hr T 1 (hl 1), e0, stpN_at m hr T 0 (hl 0), pay5_at, zero_add,
    ← sum4, Fin.sum_univ_four]

theorem nw_eq : nw m 0 = nuT m (ix1 0) := by
  unfold nw
  rw [V_main_arg2]
  refine congrArg (nuT m) (funext fun a => ?_)
  have ha : a = (⟨0, by decide⟩ : Fin S1.rank) := Fin.ext (Nat.lt_one_iff.mp a.isLt)
  subst ha
  rfl

theorem live_iff (t : Fin grid0.N) : Live m 0 t ↔ (BitVec.ofNat 32 (til t).val).slt (nuT m (ix1 0)) = true := by
  unfold Live
  rw [c1_iff, (pts t).1, nw_eq]
  rfl

/-- The result block of a tile, in the argument arrays. -/
theorem aft_at (t : Fin grid0.N) (ht : t.val % 4 = 3) (r : Fin 512) (j : Fin 2048) :
    aft m hr 0 t (ix2 r j) = Cert.GmmReferenceIdeal.Read.val_main_v81 (F := Ideal) (teT m) (tbT m) (nuT m) (stT m) (A4 m) (A5 m) (A6 m) (A7 m) (A8 m) (ix2 (rowo t r) j) := by
  have e1 : (⟨(rowo t r).val / 512, by have := (rowo t r).isLt; omega⟩ : Fin 160) = til t := Fin.ext (show (t.val / 4 * 512 + r.val) / 512 = t.val / 4 by omega)
  have e2 : (⟨(rowo t r).val % 512, by omega⟩ : Fin 512) = r := Fin.ext (show (t.val / 4 * 512 + r.val) % 512 = r.val by omega)
  rw [v81_at, e1, e2, v80_at]
  have ept : ptN (til t) 3 = t := Fin.ext (show t.val / 4 * 4 + 3 = t.val by omega)
  unfold aft
  by_cases hL : Live m 0 t
  · rw [if_pos hL, if_pos ((live_iff m t).mp hL), pay2_at, b5_at m hr t hL, v74_at _ _ _ _ _ _ _ _ hr.te hr.tb hr.st]
    have e := acc_at m hr (til t) (by rw [ept]; exact hL) r j
    rw [ept] at e
    rw [e]
    rfl
  · rw [if_neg hL, if_neg (fun h => hL ((live_iff m t).mpr h)), pay3_at]

end Cert.Gmx

end
-- ==== Proof.GmmVal.lean ====
/- The grouped expert product: the result array after the run is the reference's. -/
module

public import proofs.«01_k».proof.Proof.GmmAcc

@[expose] public section

set_option maxRecDepth 16384

noncomputable section

namespace Cert.Gmx

open Cert.GmmIdeal Cert.GmmIdeal.Gen Cert.GmmIdeal.Body Idealize.ShloMosaic Idealize.ShloMosaic.TcCoe Idealize.SL.Sem
open Idealize.ShloMosaic.Pipeline (Dat)

variable (m : (ℓ : Loc nD τ sig) → Buf (Elt Ideal) ℓ) (hr : Rng m)

theorem covers6 : ((CF m hr).win 6).Covers := by
  refine ⟨fun a => ?_, fun β => ?_⟩
  · have ha : a = (0 : Fin 2) ∨ a = (1 : Fin 2) := by
      rcases a with ⟨a, h⟩
      have h' : a < 2 := h
      rcases a with _ | _ | a
      · exact .inl rfl
      · exact .inr rfl
      · omega
    rcases ha with rfl | rfl
    · exact (by decide : 0 < 512)
    · exact (by decide : 0 < 2048)
  · have h0 : (β (0 : Fin 2)).val < 160 := lt_of_lt_of_eq (β (0 : Fin 2)).isLt (show (81920 + 512 - 1) / 512 = 160 by decide)
    have h1 : (β (1 : Fin 2)).val < 1 := lt_of_lt_of_eq (β (1 : Fin 2)).isLt (show (2048 + 2048 - 1) / 2048 = 1 by decide)
    refine ⟨ptN ⟨(β (0 : Fin 2)).val, h0⟩ 3, ?_, fun a => ⟨?_, .inl rfl⟩⟩
    · rw [flush6]
      exact decide_eq_true (show ((β (0 : Fin 2)).val * 4 + 3) % 4 = 3 by omega)
    · rw [ix6 m hr]
      have ha : a = (0 : Fin 2) ∨ a = (1 : Fin 2) := by
        rcases a with ⟨a, h⟩
        have h' : a < 2 := h
        rcases a with _ | _ | a
        · exact .inl rfl
        · exact .inr rfl
        · omega
      rcases ha with rfl | rfl
      · show ((β (0 : Fin 2)).val * 4 + 3) / 4 = (β (0 : Fin 2)).val
        omega
      · show 0 = (β (1 : Fin 2)).val
        omega

abbrev G81 : FVec Ideal S81920x2048 .f32 :=
  Cert.GmmReferenceIdeal.Read.val_main_v81 (F := Ideal) (teT m) (tbT m) (nuT m) (stT m) (A4 m) (A5 m) (A6 m) (A7 m) (A8 m)

theorem key6 (t : Fin (CF m hr).N) (ht : t.val % 4 = 3) (z : S512x2048.Idx) :
    aft m hr 0 t z = G81 m (show S81920x2048.Idx from (((CF m hr).win 6).blk t).view.emb z) := by
  idx_vars z
  exact (aft_at m hr t ht z0 z1).trans (congrArg (G81 m) (emb6 m hr t z0 z1).symm)

theorem out6 (t : Fin (CF m hr).N) (hf : ((CF m hr).win 6).flush t = true) (y : S512x2048.Idx) :
    aft m hr 0 t y = G81 m (show S81920x2048.Idx from (((CF m hr).win 6).blk t).view.emb y) := by
  rw [flush6 m hr] at hf
  exact key6 m hr t (of_decide_eq_true hf) y

set_option maxHeartbeats 800000 in
theorem final6 : (dats m hr 0 0).arrAt 6 (CF m hr).N = G81 m := by
  refine (dats m hr 0 0).arrAt_eq_of_covers 6 (G81 m) (covers6 m hr) (fun t hf y => ?_) (Memref.isWhole_whole _)
  refine Eq.trans ?_ (out6 m hr t hf y)
  rw [after0_6 m hr]
  blk_simp
  rfl

end Cert.Gmx

end
-- ==== Proof.GmmClaims.lean ====
/- The claims about the grouped expert product. -/
module

public import proofs.«01_k».proof.Defs
public import proofs.«01_k».proof.Proof.GmmLaunch
public import proofs.«01_k».proof.Proof.GmmVal
public import proofs.«01_k».proof.Proof.Gen.GmmReferenceIdeal.Run
public import proofs.«01_k».proof.Proof.Gen.Pre_tables_in_range
public import Idealize.ShloMosaic.Lib.StableHlo.Predicate
public import Idealize.ShloMosaic.Lib.Quiescent

@[expose] public section

set_option maxRecDepth 16384

noncomputable section

open Idealize.ShloMosaic Idealize.ShloMosaic.TcCoe Idealize.SL.Sem Idealize.ShloMosaic.StableHlo

namespace Cert.Proof.GmmClaims

theorem nonneg {w : BitVec 32} (h : IntOp.cmpi .sge w 0#32 = 1#1) : w.toNat < 2 ^ 31 := by
  have h1 : BitVec.ofBool ((0#32).sle w) = 1#1 := h
  have h2 : (0#32).sle w = true := by
    cases e : (0#32).sle w with
    | true => rfl
    | false => rw [e] at h1; exact absurd h1 (by decide)
  have h3 : (0#32).toInt ≤ w.toInt := by simpa only [BitVec.sle, decide_eq_true_eq] using h2
  have h4 : (0#32 : BitVec 32).toInt = 0 := by decide
  rw [h4, BitVec.toInt_eq_toNat_cond] at h3
  split at h3 <;> omega

theorem below {w n : BitVec 32} (h0 : IntOp.cmpi .sge w 0#32 = 1#1) (hn : n.toNat < 2 ^ 31) (h : IntOp.cmpi .slt w n = 1#1) : w.toNat < n.toNat :=
  (Predicate.slt_iff_toNat (nonneg h0) hn).mp h
theorem atMost {w n : BitVec 32} (h0 : IntOp.cmpi .sge w 0#32 = 1#1) (hn : n.toNat < 2 ^ 31) (h : IntOp.cmpi .sle w n = 1#1) : w.toNat ≤ n.toNat :=
  (Predicate.sle_iff_toNat (nonneg h0) hn).mp h

theorem rng_p (m : (ℓ : Loc Cert.Gmm.nD Cert.Gmm.τ Cert.Gmm.sig) → Buf (Elt Bits) ℓ) (h : Cert.Pre_Gmm m) : Cert.Gmm.Body.Rng m := by
  obtain ⟨h0, h1, h2, h3, h4, h5⟩ := h 0
  exact ⟨fun j => below (n := 32#32) (congrFun h0 j) (by decide) (congrFun h1 j), fun j => atMost (n := 81920#32) (congrFun h2 j) (by decide) (congrFun h3 j),
    fun j => below (n := 16384#32) (congrFun h4 j) (by decide) (congrFun h5 j)⟩
theorem rng_pi (m : (ℓ : Loc Cert.GmmIdeal.nD Cert.GmmIdeal.τ Cert.GmmIdeal.sig) → Buf (Elt Ideal) ℓ) (h : Cert.Pre_GmmIdeal m) : Cert.GmmIdeal.Body.Rng m := by
  obtain ⟨h0, h1, h2, h3, h4, h5⟩ := h 0
  exact ⟨fun j => below (n := 32#32) (congrFun h0 j) (by decide) (congrFun h1 j), fun j => atMost (n := 81920#32) (congrFun h2 j) (by decide) (congrFun h3 j),
    fun j => below (n := 16384#32) (congrFun h4 j) (by decide) (congrFun h5 j)⟩

theorem frame_p : Cert.quiescent_Gmm := fun m ρ h => Cert.Gmm.Body.frame m (rng_p m h) ρ
theorem frame_pi : Cert.quiescent_GmmIdeal := fun m ρ h => Cert.GmmIdeal.Body.frame m (rng_pi m h) ρ
theorem frame_ri : Cert.quiescent_GmmReferenceIdeal := fun m ρ _ =>
  (θ_run Cert.GmmReferenceIdeal.defs _ _).mono (fun r h => ⟨fun c => (h c).2,
      Idealize.ShloMosaic.sem_eq_zero_of_no_sems (by decide) r.2⟩)
    (Cert.GmmReferenceIdeal.Value.run (F := Ideal) m ρ)
theorem frame_ri_pre : Cert.quiescent_GmmReferenceIdeal_pre_tables_in_range := fun m ρ _ => frame_ri m ρ trivial

section
open Cert.GmmIdeal Cert.GmmIdeal.Gen Cert.GmmIdeal.Body Cert.Gmx

theorem run_val (m : (ℓ : Loc nD τ sig) → Buf (Elt Ideal) ℓ) (hr : Rng m) (ρ : Dev nD → PrngReg) :
    θ_run defs (onTc (τ := τ) (main (F := Ideal))) ⟨m, fun _ => 0, ρ⟩ (fun r => ∀ c : Dev nD,
      r.2.mem ((c.tc : Thread nD τ).loc main_v15) = G81 m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
    obtain rfl : c = 0 := Subsingleton.elim _ _
    exact ⟨((h.1 0).1 6).trans (final6 m hr),
      ((h.1 0).2 main_arg0 mem_arg0).trans (V_main_arg0 m 0),
      ((h.1 0).2 main_arg1 mem_arg1).trans (V_main_arg1 m 0),
      ((h.1 0).2 main_arg2 mem_arg2).trans (V_main_arg2 m 0),
      ((h.1 0).2 main_arg3 mem_arg3).trans (V_main_arg3 m 0),
      ((h.1 0).2 main_arg4 mem_arg4).trans (V_main_arg4 m 0),
      ((h.1 0).2 main_arg5 mem_arg5).trans (V_main_arg5 m 0),
      ((h.1 0).2 main_arg6 mem_arg6).trans (V_main_arg6 m 0),
      ((h.1 0).2 main_arg7 mem_arg7).trans (V_main_arg7 m 0),
      ((h.1 0).2 main_arg8 mem_arg8).trans (V_main_arg8 m 0)⟩) (run_main m hr ρ)

end

theorem algebraic : Cert.algebraic_GmmIdeal_GmmReferenceIdeal := by
  intro m ρ m' ρ' hpre hagree
  refine ⟨_, run_val m (rng_pi m hpre) ρ, ?_⟩
  refine (θ_run Cert.GmmReferenceIdeal.defs _ _).mono (fun _ h c => ?_) (Cert.GmmReferenceIdeal.Value.run (F := Ideal) m' ρ')
  obtain ⟨r0, hk⟩ := h c
  obtain ⟨a0, a1, a2, a3, a4, a5, a6, a7, a8⟩ := hagree c
  obtain rfl : c = 0 := Subsingleton.elim _ _
  refine ⟨r0.trans ?_, hk⟩
  unfold Cert.Gmx.G81 Cert.GmmIdeal.Body.teT Cert.GmmIdeal.Body.tbT Cert.GmmIdeal.Body.nuT Cert.GmmIdeal.Body.stT Cert.Gmx.A4 Cert.Gmx.A5 Cert.Gmx.A6 Cert.Gmx.A7 Cert.Gmx.A8
  rw [← a0, ← a1, ← a2, ← a3, ← a4, ← a5, ← a6, ← a7, ← a8]
  exact Cert.GmmReferenceIdeal.Read.val_main_v81_eq m' 0

end Cert.Proof.GmmClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojReferenceIdeal
public import proofs.«01_k».proof.Proof.Gen.Memkv
public import proofs.«01_k».proof.Proof.Gen.Memkv.Skeleton
public import proofs.«01_k».proof.Proof.Gen.Memkv.Launch
public import proofs.«01_k».proof.Proof.Gen.Memkv.Points
public import proofs.«01_k».proof.Proof.Gen.Memkv.Frame
public import proofs.«01_k».proof.Proof.Gen.MemkvIdeal
public import proofs.«01_k».proof.Proof.Gen.MemkvIdeal.Skeleton
public import proofs.«01_k».proof.Proof.Gen.MemkvIdeal.Launch
public import proofs.«01_k».proof.Proof.Gen.MemkvIdeal.Points
public import proofs.«01_k».proof.Proof.Gen.MemkvIdeal.Frame
public import proofs.«01_k».proof.Proof.Gen.MemkvReferenceIdeal
public import proofs.«01_k».proof.Proof.Gen.Pre_finite_scores
public import proofs.«01_k».proof.Proof.Gen.Pre_tables_in_range
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.InprojIdeal.Value
public import proofs.«01_k».proof.Proof.Gen.MemkvIdeal.Value
public import proofs.«01_k».proof.Proof.Gen.InprojReferenceIdeal.Run
public import proofs.«01_k».proof.Proof.Gen.InprojReferenceIdeal.Read
public import proofs.«01_k».proof.Proof.Gen.MemkvReferenceIdeal.Run
public import proofs.«01_k».proof.Proof.Gen.MemkvReferenceIdeal.Read
public import proofs.«01_k».proof.Proof.Gen.Gmm
public import proofs.«01_k».proof.Proof.Gen.Gmm.Skeleton
public import proofs.«01_k».proof.Proof.Gen.Gmm.Loops
public import proofs.«01_k».proof.Proof.Gen.Gmm.Launch
public import proofs.«01_k».proof.Proof.Gen.Gmm.Flash
public import proofs.«01_k».proof.Proof.Gen.GmmIdeal
public import proofs.«01_k».proof.Proof.Gen.GmmIdeal.Skeleton
public import proofs.«01_k».proof.Proof.Gen.GmmIdeal.Loops
public import proofs.«01_k».proof.Proof.Gen.GmmIdeal.Launch
public import proofs.«01_k».proof.Proof.Gen.GmmIdeal.Flash
public import proofs.«01_k».proof.Proof.Gen.GmmReferenceIdeal
public import proofs.«01_k».proof.Proof.Gen.GmmReferenceIdeal.Run
public import proofs.«01_k».proof.Proof.Gen.GmmReferenceIdeal.Read
public import proofs.«01_k».proof.Proof.Mid
public import proofs.«01_k».proof.Proof.Calls
public import proofs.«01_k».proof.Proof.GmmClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Inproj.Gen.facts, Cert.InprojIdeal.Gen.facts, Cert.InprojReferenceIdeal.Gen.facts, Cert.Memkv.Gen.facts, Cert.MemkvIdeal.Gen.facts, Cert.MemkvReferenceIdeal.Gen.facts,
  Cert.Gmm.Gen.facts, Cert.GmmIdeal.Gen.facts, Cert.GmmReferenceIdeal.Gen.facts, Cert.Pre_finite_scores.Gen.facts, Cert.Pre_tables_in_range.Gen.facts, by
  exact ⟨MidClaims.frame_p, MidClaims.frame_pi, MidClaims.frame_pi_pre, MidClaims.frame_ri, MidClaims.frame_ri_pre,
    InprojClaims.frame_p, InprojClaims.frame_pi, InprojClaims.frame_ri, MemkvClaims.frame_p, MemkvClaims.frame_pi, MemkvClaims.frame_ri,
    GmmClaims.frame_p, GmmClaims.frame_pi, GmmClaims.frame_ri, GmmClaims.frame_ri_pre,
    MidClaims.preserves, MidClaims.algebraic, trivial, InprojClaims.algebraic, trivial, MemkvClaims.algebraic,
    trivial, GmmClaims.algebraic⟩⟩

end Cert.Proof

end
